-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_experts_chosen [hPre_experts_chosen : Cert.Pre_experts_chosen.Facts] (m : (ℓ : Loc Cert.RouteIdeal.nD Cert.RouteIdeal.τ Cert.RouteIdeal.sig) → Buf (Elt Ideal) ℓ) : Prop :=
  ∀ c : Dev Cert.RouteIdeal.nD,
    (Cert.Pre_experts_chosen.fn (F := Ideal) (m ((c.tc : Thread Cert.RouteIdeal.nD Cert.RouteIdeal.τ).loc Cert.RouteIdeal.main_arg0))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ r.2.sem = fun _ => 0)

def quiescent_RouteIdeal_pre_experts_chosen [hRouteIdeal : Cert.RouteIdeal.Facts] [hPre_experts_chosen : Cert.Pre_experts_chosen.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_experts_chosen m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0))
      ∧ r.2.sem = fun _ => 0)

def preserves_Kernel_KernelIdeal : Prop :=
  True

def algebraic_KernelIdeal_ReferenceIdeal_on_valid_rows [hKernelIdeal : Cert.KernelIdeal.Facts] [hReferenceIdeal : Cert.ReferenceIdeal.Facts] [hPre_tables_in_range : Cert.Pre_tables_in_range.Facts] [hOn_valid_rows : Cert.On_valid_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![671744, 128]⟩ : Shape).Idx, (Cert.On_valid_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v20) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![671744, 128]⟩ : Shape).Idx, (Cert.On_valid_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v62) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Route_RouteIdeal : Prop :=
  True

def algebraic_RouteIdeal_RouteReferenceIdeal [hRouteIdeal : Cert.RouteIdeal.Facts] [hRouteReferenceIdeal : Cert.RouteReferenceIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)) →
    ∃ (v0 : (c : Dev Cert.RouteIdeal.nD) → Buf (Elt Ideal) ((c.tc : Thread Cert.RouteIdeal.nD Cert.RouteIdeal.τ).loc Cert.RouteIdeal.main_v0_0)) (v1 : (c : Dev Cert.RouteIdeal.nD) → Buf (Elt Ideal) ((c.tc : Thread Cert.RouteIdeal.nD Cert.RouteIdeal.τ).loc Cert.RouteIdeal.main_v0_1)) (v2 : (c : Dev Cert.RouteIdeal.nD) → Buf (Elt Ideal) ((c.tc : Thread Cert.RouteIdeal.nD Cert.RouteIdeal.τ).loc Cert.RouteIdeal.main_v0_2)) (v3 : (c : Dev Cert.RouteIdeal.nD) → Buf (Elt Ideal) ((c.tc : Thread Cert.RouteIdeal.nD Cert.RouteIdeal.τ).loc Cert.RouteIdeal.main_v0_3)) (v4 : (c : Dev Cert.RouteIdeal.nD) → Buf (Elt Ideal) ((c.tc : Thread Cert.RouteIdeal.nD Cert.RouteIdeal.τ).loc Cert.RouteIdeal.main_v0_4)) (v5 : (c : Dev Cert.RouteIdeal.nD) → Buf (Elt Ideal) ((c.tc : Thread Cert.RouteIdeal.nD Cert.RouteIdeal.τ).loc Cert.RouteIdeal.main_v0_5)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v0_0) = v0 c
          ∧ r.2.mem ((c.tc : Thread Cert.RouteIdeal.nD Cert.RouteIdeal.τ).loc Cert.RouteIdeal.main_v0_1) = v1 c
          ∧ r.2.mem ((c.tc : Thread Cert.RouteIdeal.nD Cert.RouteIdeal.τ).loc Cert.RouteIdeal.main_v0_2) = v2 c
          ∧ r.2.mem ((c.tc : Thread Cert.RouteIdeal.nD Cert.RouteIdeal.τ).loc Cert.RouteIdeal.main_v0_3) = v3 c
          ∧ r.2.mem ((c.tc : Thread Cert.RouteIdeal.nD Cert.RouteIdeal.τ).loc Cert.RouteIdeal.main_v0_4) = v4 c
          ∧ r.2.mem ((c.tc : Thread Cert.RouteIdeal.nD Cert.RouteIdeal.τ).loc Cert.RouteIdeal.main_v0_5) = v5 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v71) = v0 c
          ∧ r.2.mem ((c.tc : Thread Cert.RouteReferenceIdeal.nD Cert.RouteReferenceIdeal.τ).loc Cert.RouteReferenceIdeal.main_v73) = v1 c
          ∧ r.2.mem ((c.tc : Thread Cert.RouteReferenceIdeal.nD Cert.RouteReferenceIdeal.τ).loc Cert.RouteReferenceIdeal.main_v76) = v2 c
          ∧ r.2.mem ((c.tc : Thread Cert.RouteReferenceIdeal.nD Cert.RouteReferenceIdeal.τ).loc Cert.RouteReferenceIdeal.main_v78) = v3 c
          ∧ r.2.mem ((c.tc : Thread Cert.RouteReferenceIdeal.nD Cert.RouteReferenceIdeal.τ).loc Cert.RouteReferenceIdeal.main_v82) = v4 c
          ∧ r.2.mem ((c.tc : Thread Cert.RouteReferenceIdeal.nD Cert.RouteReferenceIdeal.τ).loc Cert.RouteReferenceIdeal.main_v88) = v5 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0))

def holds_RouteIdeal_writes_tables_in_range_pre_experts_chosen [hRouteIdeal : Cert.RouteIdeal.Facts] [hPre_experts_chosen : Cert.Pre_experts_chosen.Facts] [hPost_writes_tables_in_range : Cert.Post_writes_tables_in_range.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_experts_chosen m →
    θ_run (Cert.RouteIdeal.defs (F := Ideal)) (onTc (τ := Cert.RouteIdeal.τ) (Cert.RouteIdeal.main (F := Ideal))) ⟨m, fun _ => 0, g⟩ (fun r => ∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ (Cert.Post_writes_tables_in_range.fn (F := Ideal) (m ((c.tc : Thread Cert.RouteIdeal.nD Cert.RouteIdeal.τ).loc Cert.RouteIdeal.main_arg0)) (r.2.mem ((c.tc : Thread Cert.RouteIdeal.nD Cert.RouteIdeal.τ).loc Cert.RouteIdeal.main_v0_0)) (r.2.mem ((c.tc : Thread Cert.RouteIdeal.nD Cert.RouteIdeal.τ).loc Cert.RouteIdeal.main_v0_1)) (r.2.mem ((c.tc : Thread Cert.RouteIdeal.nD Cert.RouteIdeal.τ).loc Cert.RouteIdeal.main_v0_2)) (r.2.mem ((c.tc : Thread Cert.RouteIdeal.nD Cert.RouteIdeal.τ).loc Cert.RouteIdeal.main_v0_3)) (r.2.mem ((c.tc : Thread Cert.RouteIdeal.nD Cert.RouteIdeal.τ).loc Cert.RouteIdeal.main_v0_4)) (r.2.mem ((c.tc : Thread Cert.RouteIdeal.nD Cert.RouteIdeal.τ).loc Cert.RouteIdeal.main_v0_5))) = (fun _ => 1#1))

def Claim : Prop :=
  ∃ (hKernel : Cert.Kernel.Facts) (hKernelIdeal : Cert.KernelIdeal.Facts) (hReferenceIdeal : Cert.ReferenceIdeal.Facts) (hRoute : Cert.Route.Facts) (hRouteIdeal : Cert.RouteIdeal.Facts) (hRouteReferenceIdeal : Cert.RouteReferenceIdeal.Facts) (hPre_tables_in_range : Cert.Pre_tables_in_range.Facts) (hPre_experts_chosen : Cert.Pre_experts_chosen.Facts) (hPost_writes_tables_in_range : Cert.Post_writes_tables_in_range.Facts) (hOn_valid_rows : Cert.On_valid_rows.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Route (hRoute := hRoute)
    ∧ quiescent_RouteIdeal (hRouteIdeal := hRouteIdeal)
    ∧ quiescent_RouteIdeal_pre_experts_chosen (hRouteIdeal := hRouteIdeal) (hPre_experts_chosen := hPre_experts_chosen)
    ∧ quiescent_RouteReferenceIdeal (hRouteReferenceIdeal := hRouteReferenceIdeal)
    ∧ preserves_Kernel_KernelIdeal
    ∧ algebraic_KernelIdeal_ReferenceIdeal_on_valid_rows (hKernelIdeal := hKernelIdeal) (hReferenceIdeal := hReferenceIdeal) (hPre_tables_in_range := hPre_tables_in_range) (hOn_valid_rows := hOn_valid_rows)
    ∧ preserves_Route_RouteIdeal
    ∧ algebraic_RouteIdeal_RouteReferenceIdeal (hRouteIdeal := hRouteIdeal) (hRouteReferenceIdeal := hRouteReferenceIdeal)
    ∧ holds_RouteIdeal_writes_tables_in_range_pre_experts_chosen (hRouteIdeal := hRouteIdeal) (hPre_experts_chosen := hPre_experts_chosen) (hPost_writes_tables_in_range := hPost_writes_tables_in_range)
-- ==== On_valid_rows.lean ====
abbrev S1x256 : Shape := ⟨2, ![1, 256]⟩
abbrev S1x128 : Shape := ⟨2, ![1, 128]⟩
abbrev S671744x128 : Shape := ⟨2, ![671744, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S164x512x8x128 : Shape := ⟨4, ![164, 512, 8, 128]⟩
abbrev S1x164 : Shape := ⟨2, ![1, 164]⟩
abbrev S164 : Shape := ⟨1, ![164]⟩
abbrev S1x1 : Shape := ⟨2, ![1, 1]⟩
abbrev S_ : Shape := ⟨0, ![]⟩

class Facts : Prop where
  slices_S1x256_S1x164_0_0 : S1x256.Slices ![0, 0] S1x164
  shapeCasts_S1x164_S164 : S1x164.ShapeCasts S164
  bcast_S164_S164x512x8x128_0 : S164.BroadcastsInDim S164x512x8x128 (![0] : Fin 1 → Fin S164x512x8x128.rank)
  slices_S1x128_S1x1_0_0 : S1x128.Slices ![0, 0] S1x1
  shapeCasts_S1x1_S_ : S1x1.ShapeCasts S_
  bcast_S_S164x512x8x128 : S_.BroadcastsInDim S164x512x8x128 (![] : Fin 0 → Fin S164x512x8x128.rank)
  shapeCasts_S164x512x8x128_S671744x128 : S164x512x8x128.ShapeCasts S671744x128

variable [Facts]

def fn {F : FTy → Type} [FloatOps F] (main_arg0 : IVec S1x256 32) (main_arg1 : IVec S1x128 32) (main_arg2 : IVec S1x256 32) (main_arg3 : FVec F S671744x128 .f32) (main_arg4 : FVec F S1x32x1024x2048 .f32) (main_arg5 : FVec F S1x32x2048 .f32) (main_arg6 : FVec F S1x32x1024x1024 .f32) (main_arg7 : FVec F S1x32x1024 .f32) : IVec S671744x128 1 :=
  let main_v0 : IVec S164x512x8x128 32 := iotaInDim S164x512x8x128 32 0
  let main_v1 : IVec S164x512x8x128 32 := iotaInDim S164x512x8x128 32 1
  let main_v2 : IVec S1x164 32 := (extractStridedSlice S1x164 ![0, 0] · slices_S1x256_S1x164_0_0) main_arg2
  let main_v3 : IVec S164 32 := shapeCast S164 main_v2 shapeCasts_S1x164_S164
  let main_v4 : IVec S164x512x8x128 32 := broadcastInDim S164x512x8x128 ![0] bcast_S164_S164x512x8x128_0 main_v3
  let main_v5 : IVec S1x1 32 := (extractStridedSlice S1x1 ![0, 0] · slices_S1x128_S1x1_0_0) main_arg1
  let main_v6 : IVec S_ 32 := shapeCast S_ main_v5 shapeCasts_S1x1_S_
  let main_v7 : IVec S164x512x8x128 32 := broadcastInDim S164x512x8x128 ![] bcast_S_S164x512x8x128 main_v6
  let main_v8 : IVec S164x512x8x128 1 := cmpi .slt main_v0 main_v7
  let main_v9 : IVec S164x512x8x128 1 := cmpi .slt main_v1 main_v4
  let main_v10 : IVec S164x512x8x128 1 := andi main_v8 main_v9
  let main_v11 : IVec S671744x128 1 := shapeCast S671744x128 main_v10 shapeCasts_S164x512x8x128_S671744x128
  main_v11
-- ==== Post_writes_tables_in_range.lean ====
abbrev S4x16896 : Shape := ⟨2, ![4, 16896]⟩
abbrev S66x1x1024 : Shape := ⟨3, ![66, 1, 1024]⟩
abbrev S1x256 : Shape := ⟨2, ![1, 256]⟩
abbrev S1x128 : Shape := ⟨2, ![1, 128]⟩
abbrev S32x128 : Shape := ⟨2, ![32, 128]⟩
abbrev S_ : Shape := ⟨0, ![]⟩
abbrev S1x1 : Shape := ⟨2, ![1, 1]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  slices_S1x128_S1x1_0_0 : S1x128.Slices ![0, 0] S1x1
  shapeCasts_S1x1_S_ : S1x1.ShapeCasts S_

variable [Facts]

def fn_part1 {F : FTy → Type} [FloatOps F] (main_v14 : IVec S_ 1) (main_v16 : IVec S1x256 1) : IVec S_ 1 :=
  let main_c_6 : IVec S_ 1 := constantI S_ 1 1#1
  let main_v17 : IVec S_ 1 := (fun x v => Host.reduce IntOp.andi x v reducesTo_S1x256_S_d0_1 h_S_) main_v16 main_c_6
  let main_v18 : IVec S_ 1 := andi main_v14 main_v17
  main_v18

def fn {F : FTy → Type} [FloatOps F] (main_arg0 : IVec S4x16896 32) (main_arg1 : IVec S66x1x1024 32) (main_arg2 : IVec S1x256 32) (main_arg3 : IVec S1x128 32) (main_arg4 : IVec S1x256 32) (main_arg5 : IVec S32x128 32) (main_arg6 : IVec S32x128 32) : IVec S_ 1 :=
  let main_c : IVec S_ 32 := constantI S_ 32 0#32
  let main_v0 : IVec S1x256 32 := broadcastInDim S1x256 ![] bcast_S_S1x256 main_c
  let main_v1 : IVec S1x256 1 := cmpi .sge main_arg2 main_v0
  let main_c_0 : IVec S_ 1 := constantI S_ 1 1#1
  let main_v2 : IVec S_ 1 := (fun x v => Host.reduce IntOp.andi x v reducesTo_S1x256_S_d0_1 h_S_) main_v1 main_c_0
  let main_c_1 : IVec S_ 32 := constantI S_ 32 32#32
  let main_v3 : IVec S1x256 32 := broadcastInDim S1x256 ![] bcast_S_S1x256 main_c_1
  let main_v4 : IVec S1x256 1 := cmpi .slt main_arg2 main_v3
  let main_c_2 : IVec S_ 1 := constantI S_ 1 1#1
  let main_v5 : IVec S_ 1 := (fun x v => Host.reduce IntOp.andi x v reducesTo_S1x256_S_d0_1 h_S_) main_v4 main_c_2
  let main_v6 : IVec S_ 1 := andi main_v2 main_v5
  let main_v7 : IVec S1x1 32 := (extractStridedSlice S1x1 ![0, 0] · slices_S1x128_S1x1_0_0) main_arg3
  let main_v8 : IVec S_ 32 := shapeCast S_ main_v7 shapeCasts_S1x1_S_
  let main_c_3 : IVec S_ 32 := constantI S_ 32 1#32
  let main_v9 : IVec S_ 1 := cmpi .sge main_v8 main_c_3
  let main_v10 : IVec S_ 1 := andi main_v6 main_v9
  let main_v11 : IVec S1x1 32 := (extractStridedSlice S1x1 ![0, 0] · slices_S1x128_S1x1_0_0) main_arg3
  let main_v12 : IVec S_ 32 := shapeCast S_ main_v11 shapeCasts_S1x1_S_
  let main_c_4 : IVec S_ 32 := constantI S_ 32 164#32
  let main_v13 : IVec S_ 1 := cmpi .sle main_v12 main_c_4
  let main_v14 : IVec S_ 1 := andi main_v10 main_v13
  let main_c_5 : IVec S_ 32 := constantI S_ 32 512#32
  let main_v15 : IVec S1x256 32 := broadcastInDim S1x256 ![] bcast_S_S1x256 main_c_5
  let main_v16 : IVec S1x256 1 := cmpi .sle main_arg4 main_v15
  fn_part1 (F := F) main_v14 main_v16
-- ==== Pre_experts_chosen.lean ====
abbrev S4x16896 : Shape := ⟨2, ![4, 16896]⟩
abbrev S_ : Shape := ⟨0, ![]⟩

class Facts : Prop where
  bcast_S_S4x16896 : S_.BroadcastsInDim S4x16896 (![] : Fin 0 → Fin S4x16896.rank)
  reducesTo_S4x16896_S_d0_1 : S4x16896.ReducesTo [0, 1] S_
  h_S_ : 0 < S_.numel

variable [Facts]

def fn {F : FTy → Type} [FloatOps F] (main_arg0 : IVec S4x16896 32) : IVec S_ 1 :=
  let main_c : IVec S_ 32 := constantI S_ 32 0#32
  let main_v0 : IVec S4x16896 32 := broadcastInDim S4x16896 ![] bcast_S_S4x16896 main_c
  let main_v1 : IVec S4x16896 1 := cmpi .sge main_arg0 main_v0
  let main_c_0 : IVec S_ 1 := constantI S_ 1 1#1
  let main_v2 : IVec S_ 1 := (fun x v => Host.reduce IntOp.andi x v reducesTo_S4x16896_S_d0_1 h_S_) main_v1 main_c_0
  let main_c_1 : IVec S_ 32 := constantI S_ 32 32#32
  let main_v3 : IVec S4x16896 32 := broadcastInDim S4x16896 ![] bcast_S_S4x16896 main_c_1
  let main_v4 : IVec S4x16896 1 := cmpi .slt main_arg0 main_v3
  let main_c_2 : IVec S_ 1 := constantI S_ 1 1#1
  let main_v5 : IVec S_ 1 := (fun x v => Host.reduce IntOp.andi x v reducesTo_S4x16896_S_d0_1 h_S_) main_v4 main_c_2
  let main_v6 : IVec S_ 1 := andi main_v2 main_v5
  main_v6
-- ==== Pre_tables_in_range.lean ====
abbrev S1x256 : Shape := ⟨2, ![1, 256]⟩
abbrev S1x128 : Shape := ⟨2, ![1, 128]⟩
abbrev S671744x128 : Shape := ⟨2, ![671744, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S1x1 : Shape := ⟨2, ![1, 1]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  slices_S1x128_S1x1_0_0 : S1x128.Slices ![0, 0] S1x1
  shapeCasts_S1x1_S_ : S1x1.ShapeCasts S_

variable [Facts]

def fn_part1 {F : FTy → Type} [FloatOps F] (main_v14 : IVec S_ 1) (main_v16 : IVec S1x256 1) : IVec S_ 1 :=
  let main_c_6 : IVec S_ 1 := constantI S_ 1 1#1
  let main_v17 : IVec S_ 1 := (fun x v => Host.reduce IntOp.andi x v reducesTo_S1x256_S_d0_1 h_S_) main_v16 main_c_6
  let main_v18 : IVec S_ 1 := andi main_v14 main_v17
  main_v18

def fn {F : FTy → Type} [FloatOps F] (main_arg0 : IVec S1x256 32) (main_arg1 : IVec S1x128 32) (main_arg2 : IVec S1x256 32) (main_arg3 : FVec F S671744x128 .f32) (main_arg4 : FVec F S1x32x1024x2048 .f32) (main_arg5 : FVec F S1x32x2048 .f32) (main_arg6 : FVec F S1x32x1024x1024 .f32) (main_arg7 : FVec F S1x32x1024 .f32) : IVec S_ 1 :=
  let main_c : IVec S_ 32 := constantI S_ 32 0#32
  let main_v0 : IVec S1x256 32 := broadcastInDim S1x256 ![] bcast_S_S1x256 main_c
  let main_v1 : IVec S1x256 1 := cmpi .sge main_arg0 main_v0
  let main_c_0 : IVec S_ 1 := constantI S_ 1 1#1
  let main_v2 : IVec S_ 1 := (fun x v => Host.reduce IntOp.andi x v reducesTo_S1x256_S_d0_1 h_S_) main_v1 main_c_0
  let main_c_1 : IVec S_ 32 := constantI S_ 32 32#32
  let main_v3 : IVec S1x256 32 := broadcastInDim S1x256 ![] bcast_S_S1x256 main_c_1
  let main_v4 : IVec S1x256 1 := cmpi .slt main_arg0 main_v3
  let main_c_2 : IVec S_ 1 := constantI S_ 1 1#1
  let main_v5 : IVec S_ 1 := (fun x v => Host.reduce IntOp.andi x v reducesTo_S1x256_S_d0_1 h_S_) main_v4 main_c_2
  let main_v6 : IVec S_ 1 := andi main_v2 main_v5
  let main_v7 : IVec S1x1 32 := (extractStridedSlice S1x1 ![0, 0] · slices_S1x128_S1x1_0_0) main_arg1
  let main_v8 : IVec S_ 32 := shapeCast S_ main_v7 shapeCasts_S1x1_S_
  let main_c_3 : IVec S_ 32 := constantI S_ 32 1#32
  let main_v9 : IVec S_ 1 := cmpi .sge main_v8 main_c_3
  let main_v10 : IVec S_ 1 := andi main_v6 main_v9
  let main_v11 : IVec S1x1 32 := (extractStridedSlice S1x1 ![0, 0] · slices_S1x128_S1x1_0_0) main_arg1
  let main_v12 : IVec S_ 32 := shapeCast S_ main_v11 shapeCasts_S1x1_S_
  let main_c_4 : IVec S_ 32 := constantI S_ 32 164#32
  let main_v13 : IVec S_ 1 := cmpi .sle main_v12 main_c_4
  let main_v14 : IVec S_ 1 := andi main_v10 main_v13
  let main_c_5 : IVec S_ 32 := constantI S_ 32 512#32
  let main_v15 : IVec S1x256 32 := broadcastInDim S1x256 ![] bcast_S_S1x256 main_c_5
  let main_v16 : IVec S1x256 1 := cmpi .sle main_arg2 main_v15
  fn_part1 (F := F) main_v14 main_v16
-- ==== Kernel.lean ====
abbrev S1x256 : Shape := ⟨2, ![1, 256]⟩
abbrev S1x128 : Shape := ⟨2, ![1, 128]⟩
abbrev S671744x128 : Shape := ⟨2, ![671744, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1x1 : Shape := ⟨2, ![1, 1]⟩
abbrev S_ : Shape := ⟨0, ![]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S4096x128 : Shape := ⟨2, ![4096, 128]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S1 : Shape := ⟨1, ![1]⟩
abbrev S2x2 : Shape := ⟨2, ![2, 2]⟩
abbrev S1x1024x2048 : Shape := ⟨3, ![1, 1024, 2048]⟩
abbrev S1x1024x1024 : Shape := ⟨3, ![1, 1024, 1024]⟩
abbrev S128x128 : Shape := ⟨2, ![128, 128]⟩
abbrev S128x1024 : Shape := ⟨2, ![128, 1024]⟩
abbrev S128x2048 : Shape := ⟨2, ![128, 2048]⟩
abbrev S1x2048 : Shape := ⟨2, ![1, 2048]⟩
abbrev S1x1024 : Shape := ⟨2, ![1, 1024]⟩
abbrev S3072x128 : Shape := ⟨2, ![3072, 128]⟩
abbrev S256x128 : Shape := ⟨2, ![256, 128]⟩
abbrev S256x1024 : Shape := ⟨2, ![256, 1024]⟩
abbrev S256x2048 : Shape := ⟨2, ![256, 2048]⟩
abbrev S2048x128 : Shape := ⟨2, ![2048, 128]⟩
abbrev S384x128 : Shape := ⟨2, ![384, 128]⟩
abbrev S384x1024 : Shape := ⟨2, ![384, 1024]⟩
abbrev S384x2048 : Shape := ⟨2, ![384, 2048]⟩
abbrev S1024x128 : Shape := ⟨2, ![1024, 128]⟩
abbrev S512x128 : Shape := ⟨2, ![512, 128]⟩
abbrev S512x1024 : Shape := ⟨2, ![512, 1024]⟩
abbrev S512x2048 : Shape := ⟨2, ![512, 2048]⟩

abbrev nBuf : Space → Nat
  | .hbm => 29
  | .vmem => 12
  | .smem => 5
  | _ => 0

abbrev bufTy : (tb : Table) → Fin (tcTables nBuf tb) → BufTy
  | .hbm, ⟨0, _⟩ => ⟨S671744x128, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S1x1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1x1, .i32⟩
  | .hbm, ⟨16, _⟩ => ⟨S1x256, .i32⟩
  | .hbm, ⟨17, _⟩ => ⟨S1x1, .i32⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S1x256, .i32⟩
  | .hbm, ⟨22, _⟩ => ⟨S32x1024x2048, .f32⟩
  | .hbm, ⟨23, _⟩ => ⟨S32x2048, .f32⟩
  | .hbm, ⟨24, _⟩ => ⟨S32x1x2048, .f32⟩
  | .hbm, ⟨25, _⟩ => ⟨S32x1024x1024, .f32⟩
  | .hbm, ⟨26, _⟩ => ⟨S32x1024, .f32⟩
  | .hbm, ⟨27, _⟩ => ⟨S32x1x1024, .f32⟩
  | .hbm, ⟨28, _⟩ => ⟨S671744x128, .f32⟩
  | .local _ .vmem, ⟨0, _⟩ => ⟨S4096x128, .f32⟩
  | .local _ .vmem, ⟨1, _⟩ => ⟨S4096x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S1x256, .i32⟩
  | .local _ .smem, ⟨1, _⟩ => ⟨S1x128, .i32⟩
  | .local _ .smem, ⟨2, _⟩ => ⟨S1x256, .i32⟩
  | .local _ .smem, ⟨3, _⟩ => ⟨S1x256, .i32⟩
  | .local _ .smem, ⟨4, _⟩ => ⟨S1, .i32⟩
  | _, _ => ⟨S671744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_v13 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![164], ![false]⟩

abbrev pre0 : Pipeline.Prefetch sig := ⟨4, ![main_arg0.idx, main_arg1.idx, main_arg2.idx, main_v13.idx], fun | 0 => main_arg0.names | 1 => main_arg1.names | 2 => main_arg2.names | 3 => main_v13.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c0_2 : Index := 0#32
  let arg0 : BitVec 32 := BitVec.ofNat 32 (i 0).val
  let c1_i32 : BitVec 32 := 1#32
  let v3 : BitVec 32 := Scalar.subi arg0 c1_i32
  let c0_i32 : BitVec 32 := 0#32
  let v4 : BitVec 32 := Scalar.maxsi v3 c0_i32
  let v5 : Index := Scalar.indexCast v4
  ![0, v5.toNat]
def k0_off3 (v2 : BitVec 32) : Fin 3 → Nat :=
  let c0_i32_26 : BitVec 32 := 0#32
  let c0_i32_27 : BitVec 32 := 0#32
  ![v2.toNat, 0, 0]
def k0_cond1 (i : grid0.Coords) (v0 : BitVec 32) : BitVec 1 :=
  let arg0 : BitVec 32 := BitVec.ofNat 32 (i 0).val
  let v7 : BitVec 1 := Scalar.cmpi .slt arg0 v0
  let c0_i32_3 : BitVec 32 := 0#32
  let v8 : BitVec 1 := Scalar.cmpi .eq arg0 c0_i32_3
  let v9 : BitVec 1 := Scalar.andi v7 v8
  let v10 : BitVec 32 := Scalar.extui v9
  let c0_i32_4 : BitVec 32 := 0#32
  let v11 : BitVec 1 := Scalar.cmpi .ne v10 c0_i32_4
  v11

def k0_off4 (v2 : BitVec 32) : Fin 3 → Nat :=
  let c0_i32_33 : BitVec 32 := 0#32
  let c0_i32_34 : BitVec 32 := 0#32
  ![v2.toNat, 0, 0]

def k0_chk1 (i : grid0.Coords) (v0 : BitVec 32) (v2 : BitVec 32) : Prop :=
  (∀ (k0_h1 : k0_cond1 i v0 = 1#1), ∀ a, (k0_off3 v2) a + S1x1024x2048.size a ≤ S32x1024x2048.size a) ∧
  (∀ (k0_h1 : k0_cond1 i v0 = 1#1), ∀ a, (k0_off4 v2) a + S1x1024x1024.size a ≤ S32x1024x1024.size a)
theorem k0_off3_inb : ∀ (i : grid0.Coords) (v0 : BitVec 32) (v2 : BitVec 32) (k0_hw1 : k0_chk1 i v0 v2), ∀ (k0_h1 : k0_cond1 i v0 = 1#1), ∀ a, (k0_off3 v2) a + S1x1024x2048.size a ≤ S32x1024x2048.size a := fun i v0 v2 k0_hw1 k0_h1 => k0_hw1.1 k0_h1
theorem k0_off4_inb : ∀ (i : grid0.Coords) (v0 : BitVec 32) (v2 : BitVec 32) (k0_hw1 : k0_chk1 i v0 v2), ∀ (k0_h1 : k0_cond1 i v0 = 1#1), ∀ a, (k0_off4 v2) a + S1x1024x1024.size a ≤ S32x1024x1024.size a := fun i v0 v2 k0_hw1 k0_h1 => k0_hw1.2 k0_h1

def k0_off5 (v0 : BitVec 32) (arg17 : BitVec 32) : Fin 2 → Nat :=
  let c0_19 : Index := 0#32
  let c1_i32_5 : BitVec 32 := 1#32
  let v12 : BitVec 32 := Scalar.subi v0 c1_i32_5
  let v51 : BitVec 32 := Scalar.minsi arg17 v12
  let v52 : Index := Scalar.indexCast v51
  ![0, v52.toNat]

def k0_chk2 (v0 : BitVec 32) (arg17 : BitVec 32) : Prop :=
  (∀ a, (k0_off5 v0 arg17) a + S1x1.size a ≤ S1x256.size a)
theorem k0_off5_inb : ∀ (v0 : BitVec 32) (arg17 : BitVec 32) (k0_hw2 : k0_chk2 v0 arg17), ∀ a, (k0_off5 v0 arg17) a + S1x1.size a ≤ S1x256.size a := fun v0 arg17 k0_hw2 => k0_hw2

def k0_off6 (v50 : BitVec 32) : Fin 2 → Nat :=
  let c0_i32_20 : BitVec 32 := 0#32
  ![0, v50.toNat]
def k0_cond2 (i : grid0.Coords) (v0 : BitVec 32) (v2 : BitVec 32) (v6 : BitVec 32) : BitVec 1 :=
  let arg0 : BitVec 32 := BitVec.ofNat 32 (i 0).val
  let v7 : BitVec 1 := Scalar.cmpi .slt arg0 v0
  let c0_i32_7 : BitVec 32 := 0#32
  let v15 : BitVec 1 := Scalar.cmpi .eq arg0 c0_i32_7
  let v16 : BitVec 1 := Scalar.cmpi .ne v2 v6
  let v17 : BitVec 1 := Scalar.ori v15 v16
  let v18 : BitVec 1 := Scalar.andi v7 v17
  let v19 : BitVec 32 := Scalar.extui v18
  let c0_i32_8 : BitVec 32 := 0#32
  let v20 : BitVec 1 := Scalar.cmpi .ne v19 c0_i32_8
  v20

def k0_off7 (v50 : BitVec 32) : Fin 3 → Nat :=
  let c0_i32_21 : BitVec 32 := 0#32
  let c0_i32_22 : BitVec 32 := 0#32
  ![v50.toNat, 0, 0]
def k0_off8 (v2 : BitVec 32) : Fin 3 → Nat :=
  let c0_i32_23 : BitVec 32 := 0#32
  let c0_i32_24 : BitVec 32 := 0#32
  ![v2.toNat, 0, 0]

def k0_off9 (v50 : BitVec 32) : Fin 2 → Nat :=
  let c1_i32_25 : BitVec 32 := 1#32
  ![1, v50.toNat]
def k0_off10 (v50 : BitVec 32) : Fin 3 → Nat :=
  let c0_i32_26 : BitVec 32 := 0#32
  let c0_i32_27 : BitVec 32 := 0#32
  ![v50.toNat, 0, 0]
def k0_off11 (v2 : BitVec 32) : Fin 3 → Nat :=
  let c0_i32_28 : BitVec 32 := 0#32
  let c0_i32_29 : BitVec 32 := 0#32
  ![v2.toNat, 0, 0]

def k0_chk4 (i : grid0.Coords) (v0 : BitVec 32) (v2 : BitVec 32) (v6 : BitVec 32) : Prop :=
  (∀ (k0_h2 : k0_cond2 i v0 v2 v6 = 1#1), ∀ a, (k0_off8 v2) a + S1x1024x2048.size a ≤ S32x1024x2048.size a) ∧
  (∀ (k0_h2 : k0_cond2 i v0 v2 v6 = 1#1), ∀ a, (k0_off11 v2) a + S1x1024x1024.size a ≤ S32x1024x1024.size a)
theorem k0_off8_inb : ∀ (i : grid0.Coords) (v0 : BitVec 32) (v2 : BitVec 32) (v6 : BitVec 32) (k0_hw4 : k0_chk4 i v0 v2 v6), ∀ (k0_h2 : k0_cond2 i v0 v2 v6 = 1#1), ∀ a, (k0_off8 v2) a + S1x1024x2048.size a ≤ S32x1024x2048.size a := fun i v0 v2 v6 k0_hw4 k0_h2 => k0_hw4.1 k0_h2
theorem k0_off11_inb : ∀ (i : grid0.Coords) (v0 : BitVec 32) (v2 : BitVec 32) (v6 : BitVec 32) (k0_hw4 : k0_chk4 i v0 v2 v6), ∀ (k0_h2 : k0_cond2 i v0 v2 v6 = 1#1), ∀ a, (k0_off11 v2) a + S1x1024x1024.size a ≤ S32x1024x1024.size a := fun i v0 v2 v6 k0_hw4 k0_h2 => k0_hw4.2 k0_h2

def k0_off12 (v0 : BitVec 32) (v14 : BitVec 32) : Fin 2 → Nat :=
  let c0_41 : Index := 0#32
  let c1_i32_5 : BitVec 32 := 1#32
  let v12 : BitVec 32 := Scalar.subi v0 c1_i32_5
  let v82 : BitVec 32 := Scalar.minsi v14 v12
  let v83 : Index := Scalar.indexCast v82
  ![0, v83.toNat]
def k0_cond3 (v0 : BitVec 32) (v14 : BitVec 32) : BitVec 1 :=
  let c1_i32_5 : BitVec 32 := 1#32
  let v12 : BitVec 32 := Scalar.subi v0 c1_i32_5
  let v63 : BitVec 1 := Scalar.cmpi .sle v14 v12
  let v64 : BitVec 32 := Scalar.extui v63
  let c0_i32_30 : BitVec 32 := 0#32
  let v65 : BitVec 1 := Scalar.cmpi .ne v64 c0_i32_30
  v65

def k0_chk5 (i : grid0.Coords) (v0 : BitVec 32) (v2 : BitVec 32) (v6 : BitVec 32) (v14 : BitVec 32) : Prop :=
  (∀ (k0_h2 : k0_cond2 i v0 v2 v6 = 1#1), ∀ (k0_h3 : k0_cond3 v0 v14 = 1#1), ∀ a, (k0_off12 v0 v14) a + S1x1.size a ≤ S1x256.size a)
theorem k0_off12_inb : ∀ (i : grid0.Coords) (v0 : BitVec 32) (v2 : BitVec 32) (v6 : BitVec 32) (v14 : BitVec 32) (k0_hw5 : k0_chk5 i v0 v2 v6 v14), ∀ (k0_h2 : k0_cond2 i v0 v2 v6 = 1#1), ∀ (k0_h3 : k0_cond3 v0 v14 = 1#1), ∀ a, (k0_off12 v0 v14) a + S1x1.size a ≤ S1x256.size a := fun i v0 v2 v6 v14 k0_hw5 k0_h2 k0_h3 => k0_hw5 k0_h2 k0_h3

def k0_off13 (v50 : BitVec 32) : Fin 2 → Nat :=
  let c0_i32_43 : BitVec 32 := 0#32
  let c1_i32_42 : BitVec 32 := 1#32
  let v85 : BitVec 32 := Scalar.subi c1_i32_42 v50
  ![0, v85.toNat]
def k0_off14 (v50 : BitVec 32) : Fin 3 → Nat :=
  let c1_i32_42 : BitVec 32 := 1#32
  let v85 : BitVec 32 := Scalar.subi c1_i32_42 v50
  let c0_i32_44 : BitVec 32 := 0#32
  let c0_i32_45 : BitVec 32 := 0#32
  ![v85.toNat, 0, 0]
def k0_off15 (v84 : BitVec 32) : Fin 3 → Nat :=
  let c0_i32_46 : BitVec 32 := 0#32
  let c0_i32_47 : BitVec 32 := 0#32
  ![v84.toNat, 0, 0]

def k0_off16 (v50 : BitVec 32) : Fin 2 → Nat :=
  let c1_i32_48 : BitVec 32 := 1#32
  let c1_i32_42 : BitVec 32 := 1#32
  let v85 : BitVec 32 := Scalar.subi c1_i32_42 v50
  ![1, v85.toNat]
def k0_off17 (v50 : BitVec 32) : Fin 3 → Nat :=
  let c1_i32_42 : BitVec 32 := 1#32
  let v85 : BitVec 32 := Scalar.subi c1_i32_42 v50
  let c0_i32_49 : BitVec 32 := 0#32
  let c0_i32_50 : BitVec 32 := 0#32
  ![v85.toNat, 0, 0]
def k0_off18 (v84 : BitVec 32) : Fin 3 → Nat :=
  let c0_i32_51 : BitVec 32 := 0#32
  let c0_i32_52 : BitVec 32 := 0#32
  ![v84.toNat, 0, 0]

def k0_chk6 (i : grid0.Coords) (v0 : BitVec 32) (v2 : BitVec 32) (v6 : BitVec 32) (v14 : BitVec 32) (v84 : BitVec 32) : Prop :=
  (∀ (k0_h2 : k0_cond2 i v0 v2 v6 = 1#1), ∀ (k0_h3 : k0_cond3 v0 v14 = 1#1), ∀ a, (k0_off15 v84) a + S1x1024x2048.size a ≤ S32x1024x2048.size a) ∧
  (∀ (k0_h2 : k0_cond2 i v0 v2 v6 = 1#1), ∀ (k0_h3 : k0_cond3 v0 v14 = 1#1), ∀ a, (k0_off18 v84) a + S1x1024x1024.size a ≤ S32x1024x1024.size a)
theorem k0_off15_inb : ∀ (i : grid0.Coords) (v0 : BitVec 32) (v2 : BitVec 32) (v6 : BitVec 32) (v14 : BitVec 32) (v84 : BitVec 32) (k0_hw6 : k0_chk6 i v0 v2 v6 v14 v84), ∀ (k0_h2 : k0_cond2 i v0 v2 v6 = 1#1), ∀ (k0_h3 : k0_cond3 v0 v14 = 1#1), ∀ a, (k0_off15 v84) a + S1x1024x2048.size a ≤ S32x1024x2048.size a := fun i v0 v2 v6 v14 v84 k0_hw6 k0_h2 k0_h3 => k0_hw6.1 k0_h2 k0_h3
theorem k0_off18_inb : ∀ (i : grid0.Coords) (v0 : BitVec 32) (v2 : BitVec 32) (v6 : BitVec 32) (v14 : BitVec 32) (v84 : BitVec 32) (k0_hw6 : k0_chk6 i v0 v2 v6 v14 v84), ∀ (k0_h2 : k0_cond2 i v0 v2 v6 = 1#1), ∀ (k0_h3 : k0_cond3 v0 v14 = 1#1), ∀ a, (k0_off18 v84) a + S1x1024x1024.size a ≤ S32x1024x1024.size a := fun i v0 v2 v6 v14 v84 k0_hw6 k0_h2 k0_h3 => k0_hw6.2 k0_h2 k0_h3

def k0_off19 (v50 : BitVec 32) : Fin 3 → Nat :=
  let v66 : Index := Scalar.indexCast v50
  let c0_31 : Index := 0#32
  let c0_32 : Index := 0#32
  ![v66.toNat, 0, 0]
def k0_off20 (v50 : BitVec 32) : Fin 3 → Nat :=
  let v73 : Index := Scalar.indexCast v50
  let c0_35 : Index := 0#32
  let c0_36 : Index := 0#32
  ![v73.toNat, 0, 0]

def k0_chk3 (i : grid0.Coords) (v0 : BitVec 32) (v2 : BitVec 32) (v6 : BitVec 32) (v14 : BitVec 32) (v50 : BitVec 32) : Prop :=
  (∀ (k0_h2 : k0_cond2 i v0 v2 v6 = 1#1), ∀ a, (k0_off6 v50) a + S1x1.size a ≤ S2x2.size a) ∧
  (∀ (k0_h2 : k0_cond2 i v0 v2 v6 = 1#1), ∀ a, (k0_off7 v50) a + S1x1024x2048.size a ≤ S2x1024x2048.size a) ∧
  (∀ (k0_h2 : k0_cond2 i v0 v2 v6 = 1#1), ∀ a, (k0_off9 v50) a + S1x1.size a ≤ S2x2.size a) ∧
  (∀ (k0_h2 : k0_cond2 i v0 v2 v6 = 1#1), ∀ a, (k0_off10 v50) a + S1x1024x1024.size a ≤ S2x1024x1024.size a) ∧
  (∀ (k0_h2 : k0_cond2 i v0 v2 v6 = 1#1), ∀ (k0_h3 : k0_cond3 v0 v14 = 1#1), ∀ a, (k0_off13 v50) a + S1x1.size a ≤ S2x2.size a) ∧
  (∀ (k0_h2 : k0_cond2 i v0 v2 v6 = 1#1), ∀ (k0_h3 : k0_cond3 v0 v14 = 1#1), ∀ a, (k0_off14 v50) a + S1x1024x2048.size a ≤ S2x1024x2048.size a) ∧
  (∀ (k0_h2 : k0_cond2 i v0 v2 v6 = 1#1), ∀ (k0_h3 : k0_cond3 v0 v14 = 1#1), ∀ a, (k0_off16 v50) a + S1x1.size a ≤ S2x2.size a) ∧
  (∀ (k0_h2 : k0_cond2 i v0 v2 v6 = 1#1), ∀ (k0_h3 : k0_cond3 v0 v14 = 1#1), ∀ a, (k0_off17 v50) a + S1x1024x1024.size a ≤ S2x1024x1024.size a) ∧
  (∀ (k0_h2 : k0_cond2 i v0 v2 v6 = 1#1), ∀ a, (k0_off19 v50) a + S1x1024x2048.size a ≤ S2x1024x2048.size a) ∧
  (∀ (k0_h2 : k0_cond2 i v0 v2 v6 = 1#1), ∀ a, (k0_off20 v50) a + S1x1024x1024.size a ≤ S2x1024x1024.size a)
theorem k0_off6_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ a, (k0_off6 v50) a + S1x1.size a ≤ S2x2.size a := fun i v0 v2 v6 v14 v50 k0_hw3 k0_h2 => k0_hw3.1 k0_h2
theorem k0_off7_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ a, (k0_off7 v50) a + S1x1024x2048.size a ≤ S2x1024x2048.size a := fun i v0 v2 v6 v14 v50 k0_hw3 k0_h2 => k0_hw3.2.1 k0_h2
theorem k0_off9_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ a, (k0_off9 v50) a + S1x1.size a ≤ S2x2.size a := fun i v0 v2 v6 v14 v50 k0_hw3 k0_h2 => k0_hw3.2.2.1 k0_h2
theorem k0_off10_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ a, (k0_off10 v50) a + S1x1024x1024.size a ≤ S2x1024x1024.size a := fun i v0 v2 v6 v14 v50 k0_hw3 k0_h2 => k0_hw3.2.2.2.1 k0_h2
theorem k0_off13_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ (k0_h3 : k0_cond3 v0 v14 = 1#1), ∀ a, (k0_off13 v50) a + S1x1.size a ≤ S2x2.size a := fun i v0 v2 v6 v14 v50 k0_hw3 k0_h2 k0_h3 => k0_hw3.2.2.2.2.1 k0_h2 k0_h3
theorem k0_off14_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ (k0_h3 : k0_cond3 v0 v14 = 1#1), ∀ a, (k0_off14 v50) a + S1x1024x2048.size a ≤ S2x1024x2048.size a := fun i v0 v2 v6 v14 v50 k0_hw3 k0_h2 k0_h3 => k0_hw3.2.2.2.2.2.1 k0_h2 k0_h3
theorem k0_off16_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ (k0_h3 : k0_cond3 v0 v14 = 1#1), ∀ a, (k0_off16 v50) a + S1x1.size a ≤ S2x2.size a := fun i v0 v2 v6 v14 v50 k0_hw3 k0_h2 k0_h3 => k0_hw3.2.2.2.2.2.2.1 k0_h2 k0_h3
theorem k0_off17_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ (k0_h3 : k0_cond3 v0 v14 = 1#1), ∀ a, (k0_off17 v50) a + S1x1024x1024.size a ≤ S2x1024x1024.size a := fun i v0 v2 v6 v14 v50 k0_hw3 k0_h2 k0_h3 => k0_hw3.2.2.2.2.2.2.2.1 k0_h2 k0_h3
theorem k0_off19_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ a, (k0_off19 v50) a + S1x1024x2048.size a ≤ S2x1024x2048.size a := fun i v0 v2 v6 v14 v50 k0_hw3 k0_h2 => k0_hw3.2.2.2.2.2.2.2.2.1 k0_h2
theorem k0_off20_inb : ∀ (i : grid0.Coords) (v0 : BitVec 32) (v2 : BitVec 32) (v6 : BitVec 32) (v14 : BitVec 32) (v50 : BitVec 32) (k0_hw3 : k0_chk3 i v0 v2 v6 v14 v50), ∀ (k0_h2 : k0_cond2 i v0 v2 v6 = 1#1), ∀ a, (k0_off20 v50) a + S1x1024x1024.size a ≤ S2x1024x1024.size a := fun i v0 v2 v6 v14 v50 k0_hw3 k0_h2 => k0_hw3.2.2.2.2.2.2.2.2.2 k0_h2

def k0_off21 (i : grid0.Coords) : Fin 2 → Nat :=
  let c0_9 : Index := 0#32
  let arg0 : BitVec 32 := BitVec.ofNat 32 (i 0).val
  let v21 : Index := Scalar.indexCast arg0
  ![0, v21.toNat]
def k0_cond4 (i : grid0.Coords) (v0 : BitVec 32) (v22 : BitVec 32) : BitVec 1 :=
  let arg0 : BitVec 32 := BitVec.ofNat 32 (i 0).val
  let v7 : BitVec 1 := Scalar.cmpi .slt arg0 v0
  let c0_i32_10 : BitVec 32 := 0#32
  let v23 : BitVec 1 := Scalar.cmpi .sgt v22 c0_i32_10
  let v24 : BitVec 1 := Scalar.andi v7 v23
  let c128_i32 : BitVec 32 := 128#32
  let v25 : BitVec 1 := Scalar.cmpi .sle v22 c128_i32
  let v26 : BitVec 1 := Scalar.andi v24 v25
  let v27 : BitVec 32 := Scalar.extui v26
  let c0_i32_11 : BitVec 32 := 0#32
  let v28 : BitVec 1 := Scalar.cmpi .ne v27 c0_i32_11
  v28

def k0_cond5 (i : grid0.Coords) (v0 : BitVec 32) (v22 : BitVec 32) : BitVec 1 :=
  let arg0 : BitVec 32 := BitVec.ofNat 32 (i 0).val
  let v7 : BitVec 1 := Scalar.cmpi .slt arg0 v0
  let c128_i32_12 : BitVec 32 := 128#32
  let v29 : BitVec 1 := Scalar.cmpi .sgt v22 c128_i32_12
  let v30 : BitVec 1 := Scalar.andi v7 v29
  let c256_i32 : BitVec 32 := 256#32
  let v31 : BitVec 1 := Scalar.cmpi .sle v22 c256_i32
  let v32 : BitVec 1 := Scalar.andi v30 v31
  let v33 : BitVec 32 := Scalar.extui v32
  let c0_i32_13 : BitVec 32 := 0#32
  let v34 : BitVec 1 := Scalar.cmpi .ne v33 c0_i32_13
  v34

def k0_cond6 (i : grid0.Coords) (v0 : BitVec 32) (v22 : BitVec 32) : BitVec 1 :=
  let arg0 : BitVec 32 := BitVec.ofNat 32 (i 0).val
  let v7 : BitVec 1 := Scalar.cmpi .slt arg0 v0
  let c256_i32_14 : BitVec 32 := 256#32
  let v35 : BitVec 1 := Scalar.cmpi .sgt v22 c256_i32_14
  let v36 : BitVec 1 := Scalar.andi v7 v35
  let c384_i32 : BitVec 32 := 384#32
  let v37 : BitVec 1 := Scalar.cmpi .sle v22 c384_i32
  let v38 : BitVec 1 := Scalar.andi v36 v37
  let v39 : BitVec 32 := Scalar.extui v38
  let c0_i32_15 : BitVec 32 := 0#32
  let v40 : BitVec 1 := Scalar.cmpi .ne v39 c0_i32_15
  v40

def k0_cond7 (i : grid0.Coords) (v0 : BitVec 32) (v22 : BitVec 32) : BitVec 1 :=
  let arg0 : BitVec 32 := BitVec.ofNat 32 (i 0).val
  let v7 : BitVec 1 := Scalar.cmpi .slt arg0 v0
  let c384_i32_16 : BitVec 32 := 384#32
  let v41 : BitVec 1 := Scalar.cmpi .sgt v22 c384_i32_16
  let v42 : BitVec 1 := Scalar.andi v7 v41
  let c512_i32 : BitVec 32 := 512#32
  let v43 : BitVec 1 := Scalar.cmpi .sle v22 c512_i32
  let v44 : BitVec 1 := Scalar.andi v42 v43
  let v45 : BitVec 32 := Scalar.extui v44
  let c0_i32_17 : BitVec 32 := 0#32
  let v46 : BitVec 1 := Scalar.cmpi .ne v45 c0_i32_17
  v46

def k0_cond8 (i : grid0.Coords) (v0 : BitVec 32) : BitVec 1 :=
  let arg0 : BitVec 32 := BitVec.ofNat 32 (i 0).val
  let v7 : BitVec 1 := Scalar.cmpi .slt arg0 v0
  let v_true : BitVec 1 := 1#1
  let v47 : BitVec 1 := Scalar.xori v7 v_true
  let v48 : BitVec 32 := Scalar.extui v47
  let c0_i32_18 : BitVec 32 := 0#32
  let v49 : BitVec 1 := Scalar.cmpi .ne v48 c0_i32_18
  v49

def cc0_transform_0 (inb_S1x128_S1x1_0_0 : ∀ a, (![0, 0] : Fin 2 → Nat) a + S1x1.size a ≤ S1x128.size a) (numel1_S1x1 : S1x1.numel = 1) (pf : pre0.Contents (Elt F)) (i : grid0.Coords) : Fin 2 → Nat :=
  let arg0 : BitVec 32 := BitVec.ofNat 32 (i 0).val
  let c0 : Index := 0#32
  let c0_0 : Index := 0#32
  let v0 : BitVec 32 := pf.at 1 (Rect.unit (s := S1x128) ![0, 0] S1x1.size inb_S1x128_S1x1_0_0) numel1_S1x1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_2 (k0_off1_inb : ∀ i : grid0.Coords, ∀ a, (k0_off1 i) a + S1x1.size a ≤ S1x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 3 (Rect.unit (s := S1x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S1x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 3 (Rect.unit (s := S1x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x256 : Shape := ⟨2, ![1, 256]⟩
abbrev S1x128 : Shape := ⟨2, ![1, 128]⟩
abbrev S671744x128 : Shape := ⟨2, ![671744, 128]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1x164 : Shape := ⟨2, ![1, 164]⟩
abbrev S164 : Shape := ⟨1, ![164]⟩
abbrev S164x512x1024 : Shape := ⟨3, ![164, 512, 1024]⟩
abbrev S32x1024x2048 : Shape := ⟨3, ![32, 1024, 2048]⟩
abbrev S_ : Shape := ⟨0, ![]⟩
abbrev S164x1 : Shape := ⟨2, ![164, 1]⟩
abbrev S164x1024x2048 : Shape := ⟨3, ![164, 1024, 2048]⟩
abbrev S164x512x2048 : Shape := ⟨3, ![164, 512, 2048]⟩
abbrev S32x2048 : Shape := ⟨2, ![32, 2048]⟩
abbrev S164x2048 : Shape := ⟨2, ![164, 2048]⟩
abbrev S164x1x2048 : Shape := ⟨3, ![164, 1, 2048]⟩
abbrev S32x1024x1024 : Shape := ⟨3, ![32, 1024, 1024]⟩
abbrev S164x1024x1024 : Shape := ⟨3, ![164, 1024, 1024]⟩
abbrev S32x1024 : Shape := ⟨2, ![32, 1024]⟩
abbrev S164x1024 : Shape := ⟨2, ![164, 1024]⟩
abbrev S164x1x1024 : Shape := ⟨3, ![164, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1x256, .i32⟩
  | .hbm, ⟨1, _⟩ => ⟨S1x128, .i32⟩
  | .hbm, ⟨2, _⟩ => ⟨S1x256, .i32⟩
  | .hbm, ⟨3, _⟩ => ⟨S671744x128, .f32⟩
  | .hbm, ⟨4, _⟩ => ⟨S1x32x1024x2048, .f32⟩
  | .hbm, ⟨5, _⟩ => ⟨S1x32x2048, .f32⟩
  | .hbm, ⟨6, _⟩ => ⟨S1x32x1024x1024, .f32⟩
  | .hbm, ⟨7, _⟩ => ⟨S1x32x1024, .f32⟩
  | .hbm, ⟨8, _⟩ => ⟨S1x164, .i32⟩
  | .hbm, ⟨9, _⟩ => ⟨S164, .i32⟩
  | .hbm, ⟨10, _⟩ => ⟨S164x512x1024, .f32⟩
  | .hbm, ⟨11, _⟩ => ⟨S32x1024x2048, .f32⟩
  | .hbm, ⟨12, _⟩ => ⟨S_, .i32⟩
  | .hbm, ⟨13, _⟩ => ⟨S164, .i32⟩
  | .hbm, ⟨14, _⟩ => ⟨S164, .i1⟩
  | .hbm, ⟨15, _⟩ => ⟨S_, .i32⟩
  | .hbm, ⟨16, _⟩ => ⟨S164, .i32⟩
  | .hbm, ⟨17, _⟩ => ⟨S164, .i32⟩
  | .hbm, ⟨18, _⟩ => ⟨S164, .i32⟩
  | .hbm, ⟨19, _⟩ => ⟨S164x1, .i32⟩
  | .hbm, ⟨20, _⟩ => ⟨S164x1024x2048, .f32⟩
  | .hbm, ⟨21, _⟩ => ⟨S164x512x2048, .f32⟩
  | .hbm, ⟨22, _⟩ => ⟨S32x2048, .f32⟩
  | .hbm, ⟨23, _⟩ => ⟨S_, .i32⟩
  | .hbm, ⟨24, _⟩ => ⟨S164, .i32⟩
  | .hbm, ⟨25, _⟩ => ⟨S164, .i1⟩
  | .hbm, ⟨26, _⟩ => ⟨S_, .i32⟩
  | .hbm, ⟨27, _⟩ => ⟨S164, .i32⟩
  | .hbm, ⟨28, _⟩ => ⟨S164, .i32⟩
  | .hbm, ⟨29, _⟩ => ⟨S164, .i32⟩
  | .hbm, ⟨30, _⟩ => ⟨S164x1, .i32⟩
  | .hbm, ⟨31, _⟩ => ⟨S164x2048, .f32⟩
  | .hbm, ⟨32, _⟩ => ⟨S164x1x2048, .f32⟩
  | .hbm, ⟨33, _⟩ => ⟨S164x512x2048, .f32⟩
  | .hbm, ⟨34, _⟩ => ⟨S164x512x2048, .f32⟩
  | .hbm, ⟨35, _⟩ => ⟨S164x512x1024, .f32⟩
  | .hbm, ⟨36, _⟩ => ⟨S_, .f32⟩
  | .hbm, ⟨37, _⟩ => ⟨S164x512x1024, .f32⟩
  | .hbm, ⟨38, _⟩ => ⟨S164x512x1024, .f32⟩
  | .hbm, ⟨39, _⟩ => ⟨S164x512x1024, .f32⟩
  | .hbm, ⟨40, _⟩ => ⟨S_, .f32⟩
  | .hbm, ⟨41, _⟩ => ⟨S_, .f32⟩
  | .hbm, ⟨42, _⟩ => ⟨S164x512x1024, .f32⟩
  | .hbm, ⟨43, _⟩ => ⟨S164x512x1024, .f32⟩
  | .hbm, ⟨44, _⟩ => ⟨S164x512x1024, .f32⟩
  | .hbm, ⟨45, _⟩ => ⟨S_, .f32⟩
  | .hbm, ⟨46, _⟩ => ⟨S164x512x1024, .f32⟩
  | .hbm, ⟨47, _⟩ => ⟨S164x512x1024, .f32⟩
  | .hbm, ⟨48, _⟩ => ⟨S164x512x1024, .f32⟩
  | .hbm, ⟨49, _⟩ => ⟨S_, .f32⟩
  | .hbm, ⟨50, _⟩ => ⟨S164x512x1024, .f32⟩
  | .hbm, ⟨51, _⟩ => ⟨S164x512x1024, .f32⟩
  | .hbm, ⟨52, _⟩ => ⟨S164x512x1024, .f32⟩
  | .hbm, ⟨53, _⟩ => ⟨S164x512x1024, .f32⟩
  | .hbm, ⟨54, _⟩ => ⟨S_, .f32⟩
  | .hbm, ⟨55, _⟩ => ⟨S164x512x1024, .f32⟩
  | .hbm, ⟨56, _⟩ => ⟨S164x512x1024, .f32⟩
  | .hbm, ⟨57, _⟩ => ⟨S_, .f32⟩
  | .hbm, ⟨58, _⟩ => ⟨S164x512x1024, .f32⟩
  | .hbm, ⟨59, _⟩ => ⟨S164x512x1024, .f32⟩
  | .hbm, ⟨60, _⟩ => ⟨S164x512x1024, .f32⟩
  | .hbm, ⟨61, _⟩ => ⟨S32x1024x1024, .f32⟩
  | .hbm, ⟨62, _⟩ => ⟨S_, .i32⟩
  | .hbm, ⟨63, _⟩ => ⟨S164, .i32⟩
  | .hbm, ⟨64, _⟩ => ⟨S164, .i1⟩
  | .hbm, ⟨65, _⟩ => ⟨S_, .i32⟩
  | .hbm, ⟨66, _⟩ => ⟨S164, .i32⟩
  | .hbm, ⟨67, _⟩ => ⟨S164, .i32⟩
  | .hbm, ⟨68, _⟩ => ⟨S164, .i32⟩
  | .hbm, ⟨69, _⟩ => ⟨S164x1, .i32⟩
  | .hbm, ⟨70, _⟩ => ⟨S164x1024x1024, .f32⟩
  | .hbm, ⟨71, _⟩ => ⟨S164x512x1024, .f32⟩
  | .hbm, ⟨72, _⟩ => ⟨S32x1024, .f32⟩
  | .hbm, ⟨73, _⟩ => ⟨S_, .i32⟩
  | .hbm, ⟨74, _⟩ => ⟨S164, .i32⟩
  | .hbm, ⟨75, _⟩ => ⟨S164, .i1⟩
  | .hbm, ⟨76, _⟩ => ⟨S_, .i32⟩
  | .hbm, ⟨77, _⟩ => ⟨S164, .i32⟩
  | .hbm, ⟨78, _⟩ => ⟨S164, .i32⟩
  | .hbm, ⟨79, _⟩ => ⟨S164, .i32⟩
  | .hbm, ⟨80, _⟩ => ⟨S164x1, .i32⟩
  | .hbm, ⟨81, _⟩ => ⟨S164x1024, .f32⟩
  | .hbm, ⟨82, _⟩ => ⟨S164x1x1024, .f32⟩
  | .hbm, ⟨83, _⟩ => ⟨S164x512x1024, .f32⟩
  | .hbm, ⟨84, _⟩ => ⟨S164x512x1024, .f32⟩
  | .hbm, ⟨85, _⟩ => ⟨S671744x128, .f32⟩
  | _, _ => ⟨S1x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Route.lean ====
abbrev S4x16896 : Shape := ⟨2, ![4, 16896]⟩
abbrev S66x1x1024 : Shape := ⟨3, ![66, 1, 1024]⟩
abbrev S1x256 : Shape := ⟨2, ![1, 256]⟩
abbrev S1x128 : Shape := ⟨2, ![1, 128]⟩
abbrev S32x128 : Shape := ⟨2, ![32, 128]⟩
abbrev S512x512 : Shape := ⟨2, ![512, 512]⟩
abbrev S32x512 : Shape := ⟨2, ![32, 512]⟩
abbrev S1x512 : Shape := ⟨2, ![1, 512]⟩
abbrev S32 : Shape := ⟨1, ![32]⟩
abbrev S32x1 : Shape := ⟨2, ![32, 1]⟩
abbrev S32x32 : Shape := ⟨2, ![32, 32]⟩
abbrev S32x256 : Shape := ⟨2, ![32, 256]⟩
abbrev S256 : Shape := ⟨1, ![256]⟩
abbrev S128 : Shape := ⟨1, ![128]⟩
abbrev S512 : Shape := ⟨1, ![512]⟩
abbrev S1x1x256 : Shape := ⟨3, ![1, 1, 256]⟩

abbrev nBuf : Space → Nat
  | .hbm => 7
  | .vmem => 8
  | .smem => 0
  | _ => 0

abbrev bufTy : (tb : Table) → Fin (tcTables nBuf tb) → BufTy
  | .hbm, ⟨0, _⟩ => ⟨S4x16896, .i32⟩
  | .hbm, ⟨1, _⟩ => ⟨S66x1x1024, .i32⟩
  | .hbm, ⟨2, _⟩ => ⟨S1x256, .i32⟩
  | .hbm, ⟨3, _⟩ => ⟨S1x128, .i32⟩
  | .hbm, ⟨4, _⟩ => ⟨S1x256, .i32⟩
  | .hbm, ⟨5, _⟩ => ⟨S32x128, .i32⟩
  | .hbm, ⟨6, _⟩ => ⟨S32x128, .i32⟩
  | .local _ .vmem, ⟨0, _⟩ => ⟨S4x16896, .i32⟩
  | .local _ .vmem, ⟨1, _⟩ => ⟨S66x1x1024, .i32⟩
  | .local _ .vmem, ⟨2, _⟩ => ⟨S1x256, .i32⟩
  | .local _ .vmem, ⟨3, _⟩ => ⟨S1x128, .i32⟩
  | .local _ .vmem, ⟨4, _⟩ => ⟨S1x256, .i32⟩
  | .local _ .vmem, ⟨5, _⟩ => ⟨S32x128, .i32⟩
  | .local _ .vmem, ⟨6, _⟩ => ⟨S32x128, .i32⟩
  | .local _ .vmem, ⟨7, _⟩ => ⟨S512x512, .bf16⟩
  | _, _ => ⟨S4x16896, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c33_i32 : BitVec 32 := 33#32
  let v2 : BitVec 32 := Scalar.addi c0_i32 c33_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v96 : BitVec 32 := Scalar.muli arg8 c512_i32
  v96
def k0_off1 (k0_t1 : Fin k0_t1_loop.trips) : Fin 2 → Nat :=
  let c0_34 : Index := 0#32
  let c0_i32 : BitVec 32 := 0#32
  let c1_i32 : BitVec 32 := 1#32
  let arg8 : BitVec 32 := Scf.iv c0_i32 c1_i32 k0_t1
  let c512_i32 : BitVec 32 := 512#32
  let v96 : BitVec 32 := Scalar.muli arg8 c512_i32
  let v97 : BitVec 32 := v96
  let v98 : Index := Scalar.indexCast v97
  ![0, v98.toNat]
def k0_off2 (k0_t1 : Fin k0_t1_loop.trips) : Fin 2 → Nat :=
  let c1 : Index := 1#32
  let c0_i32 : BitVec 32 := 0#32
  let c1_i32 : BitVec 32 := 1#32
  let arg8 : BitVec 32 := Scf.iv c0_i32 c1_i32 k0_t1
  let c512_i32 : BitVec 32 := 512#32
  let v96 : BitVec 32 := Scalar.muli arg8 c512_i32
  let v97 : BitVec 32 := v96
  let v102 : Index := Scalar.indexCast v97
  ![1, v102.toNat]
def k0_off3 (k0_t1 : Fin k0_t1_loop.trips) : Fin 2 → Nat :=
  let c2 : Index := 2#32
  let c0_i32 : BitVec 32 := 0#32
  let c1_i32 : BitVec 32 := 1#32
  let arg8 : BitVec 32 := Scf.iv c0_i32 c1_i32 k0_t1
  let c512_i32 : BitVec 32 := 512#32
  let v96 : BitVec 32 := Scalar.muli arg8 c512_i32
  let v97 : BitVec 32 := v96
  let v106 : Index := Scalar.indexCast v97
  ![2, v106.toNat]
def k0_off4 (k0_t1 : Fin k0_t1_loop.trips) : Fin 2 → Nat :=
  let c3 : Index := 3#32
  let c0_i32 : BitVec 32 := 0#32
  let c1_i32 : BitVec 32 := 1#32
  let arg8 : BitVec 32 := Scf.iv c0_i32 c1_i32 k0_t1
  let c512_i32 : BitVec 32 := 512#32
  let v96 : BitVec 32 := Scalar.muli arg8 c512_i32
  let v97 : BitVec 32 := v96
  let v110 : Index := Scalar.indexCast v97
  ![3, v110.toNat]
@[reducible] def k0_t2_loop : Scf.Loop 32 :=
  let c0_i32_30 : BitVec 32 := 0#32
  let c33_i32_31 : BitVec 32 := 33#32
  let v94 : BitVec 32 := Scalar.addi c0_i32_30 c33_i32_31
  let c1_i32_32 : BitVec 32 := 1#32
  ⟨c0_i32_30, v94, c1_i32_32⟩
def k0_mult2 (k0_t2 : Fin k0_t2_loop.trips) : BitVec 32 :=
  let c0_i32_30 : BitVec 32 := 0#32
  let c1_i32_32 : BitVec 32 := 1#32
  let arg8 : BitVec 32 := Scf.iv c0_i32_30 c1_i32_32 k0_t2
  let c512_i32 : BitVec 32 := 512#32
  let v96 : BitVec 32 := Scalar.muli arg8 c512_i32
  v96
def k0_off5 (k0_t2 : Fin k0_t2_loop.trips) : Fin 2 → Nat :=
  let c0_34 : Index := 0#32
  let c0_i32_30 : BitVec 32 := 0#32
  let c1_i32_32 : BitVec 32 := 1#32
  let arg8 : BitVec 32 := Scf.iv c0_i32_30 c1_i32_32 k0_t2
  let c512_i32 : BitVec 32 := 512#32
  let v96 : BitVec 32 := Scalar.muli arg8 c512_i32
  let v97 : BitVec 32 := v96
  let v98 : Index := Scalar.indexCast v97
  ![0, v98.toNat]
def k0_off6 (k0_t2 : Fin k0_t2_loop.trips) : Fin 2 → Nat :=
  let c1 : Index := 1#32
  let c0_i32_30 : BitVec 32 := 0#32
  let c1_i32_32 : BitVec 32 := 1#32
  let arg8 : BitVec 32 := Scf.iv c0_i32_30 c1_i32_32 k0_t2
  let c512_i32 : BitVec 32 := 512#32
  let v96 : BitVec 32 := Scalar.muli arg8 c512_i32
  let v97 : BitVec 32 := v96
  let v102 : Index := Scalar.indexCast v97
  ![1, v102.toNat]
def k0_off7 (k0_t2 : Fin k0_t2_loop.trips) : Fin 2 → Nat :=
  let c2 : Index := 2#32
  let c0_i32_30 : BitVec 32 := 0#32
  let c1_i32_32 : BitVec 32 := 1#32
  let arg8 : BitVec 32 := Scf.iv c0_i32_30 c1_i32_32 k0_t2
  let c512_i32 : BitVec 32 := 512#32
  let v96 : BitVec 32 := Scalar.muli arg8 c512_i32
  let v97 : BitVec 32 := v96
  let v106 : Index := Scalar.indexCast v97
  ![2, v106.toNat]
def k0_off8 (k0_t2 : Fin k0_t2_loop.trips) : Fin 2 → Nat :=
  let c3 : Index := 3#32
  let c0_i32_30 : BitVec 32 := 0#32
  let c1_i32_32 : BitVec 32 := 1#32
  let arg8 : BitVec 32 := Scf.iv c0_i32_30 c1_i32_32 k0_t2
  let c512_i32 : BitVec 32 := 512#32
  let v96 : BitVec 32 := Scalar.muli arg8 c512_i32
  let v97 : BitVec 32 := v96
  let v110 : Index := Scalar.indexCast v97
  ![3, v110.toNat]
def k0_off9 (k0_t2 : Fin k0_t2_loop.trips) (c0_i32_40 : BitVec 32) : Fin 3 → Nat :=
  let c0_i32_30 : BitVec 32 := 0#32
  let c1_i32_32 : BitVec 32 := 1#32
  let arg8 : BitVec 32 := Scf.iv c0_i32_30 c1_i32_32 k0_t2
  let c2_i32 : BitVec 32 := 2#32
  let v137 : BitVec 32 := Scalar.muli arg8 c2_i32
  let v138 : BitVec 32 := Scalar.addi v137 c0_i32_40
  let v139 : Index := Scalar.indexCast v138
  let c0_41 : Index := 0#32
  let c0_42 : Index := 0#32
  ![v139.toNat, 0, 0]
def k0_off10 (k0_t2 : Fin k0_t2_loop.trips) (c0_i32_50 : BitVec 32) : Fin 3 → Nat :=
  let c0_i32_30 : BitVec 32 := 0#32
  let c1_i32_32 : BitVec 32 := 1#32
  let arg8 : BitVec 32 := Scf.iv c0_i32_30 c1_i32_32 k0_t2
  let c2_i32_49 : BitVec 32 := 2#32
  let v156 : BitVec 32 := Scalar.muli arg8 c2_i32_49
  let v157 : BitVec 32 := Scalar.addi v156 c0_i32_50
  let v158 : Index := Scalar.indexCast v157
  let c0_51 : Index := 0#32
  let c256 : Index := 256#32
  ![v158.toNat, 0, 256]
def k0_off11 (k0_t2 : Fin k0_t2_loop.trips) (c0_i32_59 : BitVec 32) : Fin 3 → Nat :=
  let c0_i32_30 : BitVec 32 := 0#32
  let c1_i32_32 : BitVec 32 := 1#32
  let arg8 : BitVec 32 := Scf.iv c0_i32_30 c1_i32_32 k0_t2
  let c2_i32_58 : BitVec 32 := 2#32
  let v175 : BitVec 32 := Scalar.muli arg8 c2_i32_58
  let v176 : BitVec 32 := Scalar.addi v175 c0_i32_59
  let v177 : Index := Scalar.indexCast v176
  let c0_60 : Index := 0#32
  let c512 : Index := 512#32
  ![v177.toNat, 0, 512]
def k0_off12 (k0_t2 : Fin k0_t2_loop.trips) (c0_i32_68 : BitVec 32) : Fin 3 → Nat :=
  let c0_i32_30 : BitVec 32 := 0#32
  let c1_i32_32 : BitVec 32 := 1#32
  let arg8 : BitVec 32 := Scf.iv c0_i32_30 c1_i32_32 k0_t2
  let c2_i32_67 : BitVec 32 := 2#32
  let v194 : BitVec 32 := Scalar.muli arg8 c2_i32_67
  let v195 : BitVec 32 := Scalar.addi v194 c0_i32_68
  let v196 : Index := Scalar.indexCast v195
  let c0_69 : Index := 0#32
  let c768 : Index := 768#32
  ![v196.toNat, 0, 768]
abbrev stage0_0 : Fin 1 → Memref sig .tc .vmem S4x16896 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S66x1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RouteReferenceIdeal.lean ====
abbrev S4x16896 : Shape := ⟨2, ![4, 16896]⟩
abbrev S32 : Shape := ⟨1, ![32]⟩
abbrev S16896 : Shape := ⟨1, ![16896]⟩
abbrev S256 : Shape := ⟨1, ![256]⟩
abbrev S1x4x16896 : Shape := ⟨3, ![1, 4, 16896]⟩
abbrev S32x1x1 : Shape := ⟨3, ![32, 1, 1]⟩
abbrev S32x4x16896 : Shape := ⟨3, ![32, 4, 16896]⟩
abbrev S_ : Shape := ⟨0, ![]⟩
abbrev S32x16896 : Shape := ⟨2, ![32, 16896]⟩
abbrev S1x32 : Shape := ⟨2, ![1, 32]⟩
abbrev S32x1 : Shape := ⟨2, ![32, 1]⟩
abbrev S32x32 : Shape := ⟨2, ![32, 32]⟩
abbrev S1x1x16896 : Shape := ⟨3, ![1, 1, 16896]⟩
abbrev S1x16896x1 : Shape := ⟨3, ![1, 16896, 1]⟩
abbrev S1x16896x16896 : Shape := ⟨3, ![1, 16896, 16896]⟩
abbrev S32x1x16896 : Shape := ⟨3, ![32, 1, 16896]⟩
abbrev S32x16896x16896 : Shape := ⟨3, ![32, 16896, 16896]⟩
abbrev S1x256 : Shape := ⟨2, ![1, 256]⟩
abbrev S32x256 : Shape := ⟨2, ![32, 256]⟩
abbrev S4x66x256 : Shape := ⟨3, ![4, 66, 256]⟩
abbrev S66x4x256 : Shape := ⟨3, ![66, 4, 256]⟩
abbrev S66x1x1024 : Shape := ⟨3, ![66, 1, 1024]⟩
abbrev S1x128 : Shape := ⟨2, ![1, 128]⟩
abbrev S32x128 : Shape := ⟨2, ![32, 128]⟩

abbrev nBuf : Space → Nat
  | .hbm => 133
  | .vmem => 0
  | .smem => 0
  | _ => 0

abbrev hbmTy0_0 (i : Nat) : BufTy := match i % 128 with
  | 0 => ⟨S4x16896, .i32⟩
  | 1 => ⟨S32, .i32⟩
  | 2 => ⟨S16896, .i32⟩
  | 3 => ⟨S256, .i32⟩
  | 4 => ⟨S256, .f32⟩
  | 5 => ⟨S1x4x16896, .i32⟩
  | 6 => ⟨S32x1x1, .i32⟩
  | 7 => ⟨S32x4x16896, .i32⟩
  | 8 => ⟨S32x4x16896, .i32⟩
  | 9 => ⟨S32x4x16896, .i1⟩
  | 10 => ⟨S32x4x16896, .f32⟩
  | 11 => ⟨S_, .f32⟩
  | 12 => ⟨S32x16896, .f32⟩
  | 13 => ⟨S_, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S1x32, .i32⟩
  | 23 => ⟨S32x1, .i32⟩
  | 24 => ⟨S32x32, .i32⟩
  | 25 => ⟨S32x32, .i32⟩
  | 26 => ⟨S32x32, .i1⟩
  | 27 => ⟨S1x32, .f32⟩
  | 28 => ⟨S_, .f32⟩
  | 29 => ⟨S_, .f32⟩
  | 30 => ⟨S32x32, .f32⟩
  | 31 => ⟨S32x32, .f32⟩
  | 32 => ⟨S32x32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S1x1x16896, .i32⟩
  | 40 => ⟨S1x16896x1, .i32⟩
  | 41 => ⟨S1x16896x16896, .i32⟩
  | 42 => ⟨S1x16896x16896, .i32⟩
  | 43 => ⟨S1x16896x16896, .i1⟩
  | 44 => ⟨S32x1x16896, .f32⟩
  | 45 => ⟨S_, .f32⟩
  | 46 => ⟨S_, .f32⟩
  | 47 => ⟨S32x16896x16896, .i1⟩
  | 48 => ⟨S32x16896x16896, .f32⟩
  | 49 => ⟨S32x16896x16896, .f32⟩
  | 50 => ⟨S32x16896x16896, .f32⟩
  | 51 => ⟨S_, .f32⟩
  | 52 => ⟨S32x16896, .f32⟩
  | 53 => ⟨S32x1, .f32⟩
  | 54 => ⟨S32x16896, .f32⟩
  | 55 => ⟨S32x16896, .f32⟩
  | 56 => ⟨S32x1x16896, .f32⟩
  | 57 => ⟨S_, .f32⟩
  | 58 => ⟨S_, .f32⟩
  | 59 => ⟨S32x4x16896, .f32⟩
  | 60 => ⟨S32x4x16896, .f32⟩
  | 61 => ⟨S32x4x16896, .f32⟩
  | 62 => ⟨S_, .f32⟩
  | 63 => ⟨S4x16896, .f32⟩
  | 64 => ⟨S32x1, .f32⟩
  | 65 => ⟨S1x256, .f32⟩
  | 66 => ⟨S32x256, .f32⟩
  | 67 => ⟨S32x256, .f32⟩
  | 68 => ⟨S32x256, .i1⟩
  | 69 => ⟨S32x256, .f32⟩
  | 70 => ⟨S_, .f32⟩
  | 71 => ⟨S256, .f32⟩
  | 72 => ⟨S_, .f32⟩
  | 73 => ⟨S256, .f32⟩
  | 74 => ⟨S256, .f32⟩
  | 75 => ⟨S32, .f32⟩
  | 76 => ⟨S32x1, .f32⟩
  | 77 => ⟨S1x256, .f32⟩
  | 78 => ⟨S32x256, .f32⟩
  | 79 => ⟨S32x256, .f32⟩
  | 80 => ⟨S32x256, .i1⟩
  | 81 => ⟨S32x1, .f32⟩
  | 82 => ⟨S_, .f32⟩
  | 83 => ⟨S_, .f32⟩
  | 84 => ⟨S32x256, .f32⟩
  | 85 => ⟨S32x256, .f32⟩
  | 86 => ⟨S32x256, .f32⟩
  | 87 => ⟨S_, .f32⟩
  | 88 => ⟨S256, .f32⟩
  | 89 => ⟨S32x1, .f32⟩
  | 90 => ⟨S_, .f32⟩
  | 91 => ⟨S_, .f32⟩
  | 92 => ⟨S32x256, .f32⟩
  | 93 => ⟨S32x256, .f32⟩
  | 94 => ⟨S32x256, .f32⟩
  | 95 => ⟨S_, .f32⟩
  | 96 => ⟨S256, .f32⟩
  | 97 => ⟨S256, .f32⟩
  | 98 => ⟨S_, .f32⟩
  | 99 => ⟨S256, .f32⟩
  | 100 => ⟨S256, .f32⟩
  | 101 => ⟨S256, .f32⟩
  | 102 => ⟨S_, .f32⟩
  | 103 => ⟨S_, .f32⟩
  | 104 => ⟨S_, .f32⟩
  | 105 => ⟨S256, .f32⟩
  | 106 => ⟨S256, .f32⟩
  | 107 => ⟨S_, .f32⟩
  | 108 => ⟨S256, .f32⟩
  | 109 => ⟨S256, .f32⟩
  | 110 => ⟨S4x16896, .i32⟩
  | 111 => ⟨S4x66x256, .i32⟩
  | 112 => ⟨S66x4x256, .i32⟩
  | 113 => ⟨S66x1x1024, .i32⟩
  | 114 => ⟨S256, .i32⟩
  | 115 => ⟨S1x256, .i32⟩
  | 116 => ⟨S_, .f32⟩
  | 117 => ⟨S_, .f32⟩
  | 118 => ⟨S1x128, .f32⟩
  | 119 => ⟨S1x128, .i32⟩
  | 120 => ⟨S256, .i32⟩
  | 121 => ⟨S1x256, .i32⟩
  | 122 => ⟨S32, .f32⟩
  | 123 => ⟨S32x1, .f32⟩
  | 124 => ⟨S32x128, .f32⟩
  | 125 => ⟨S32x128, .i32⟩
  | 126 => ⟨S_, .f32⟩
  | 127 => ⟨S32, .f32⟩
  | _ => ⟨S4x16896, .i32⟩

abbrev hbmTy0_1 (i : Nat) : BufTy := match i % 128 with
  | 0 => ⟨S32, .f32⟩
  | 1 => ⟨S32, .f32⟩
  | 2 => ⟨S32x1, .f32⟩
  | 3 => ⟨S32x128, .f32⟩
  | 4 => ⟨S32x128, .i32⟩
  | _ => ⟨S4x16896, .i32⟩

abbrev hbmTy (i : Nat) : BufTy := match i / 128 with
  | 0 => hbmTy0_0 i
  | 1 => hbmTy0_1 i
  | _ => ⟨S4x16896, .i32⟩

abbrev bufTy : (tb : Table) → Fin (tcTables nBuf tb) → BufTy
  | .hbm, ⟨i, _⟩ => hbmTy i
  | _, _ => ⟨S4x16896, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_17 : Ref sig .tc := ⟨.hbm, 102, rfl⟩
abbrev main_cst_18 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_19 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩

abbrev nD : Nat := 1
abbrev τ : Topo := Topo.v7x

variable {F : FTy → Type} [FloatOps F]
-- ==== Proof.Pre.lean ====
/-
  What the printed precondition says of the three integer tables: every expert number is between 0 and 31, the number of
  used blocks is between 1 and 164, and no block has more than 512 valid rows.
-/
module

public import proofs.«01_k».proof.Proof.Gen.Pre_tables_in_range
public import Idealize.ShloMosaic.Lib.ReduceAll
public import Idealize.ShloMosaic.Lib.Affine

@[expose] public section

noncomputable section

namespace Cert.TablesIn

open Idealize.ShloMosaic Cert.Pre_tables_in_range

/-- The only element of a scalar. -/
def pt : S_.Idx := fun a => absurd a.isLt (Nat.not_lt_zero _)

instance : Subsingleton S_.Idx := ⟨fun a b => funext fun k => absurd k.isLt (Nat.not_lt_zero _)⟩

/-- What the precondition says, decoded. -/
structure Good (a0 : S1x256.Idx → BitVec 32) (a1 : S1x128.Idx → BitVec 32) (a2 : S1x256.Idx → BitVec 32) : Prop where
  ge : ∀ j, 0 ≤ (a0 j).toInt
  lt : ∀ j, (a0 j).toInt < 32
  lo : 1 ≤ (a1 fun a => ⟨0, by revert a; decide⟩).toInt
  hi : (a1 fun a => ⟨0, by revert a; decide⟩).toInt ≤ 164
  nv : ∀ j, (a2 j).toInt ≤ 512

theorem word0 (a1 : S1x128.Idx → BitVec 32) (h h') (j : S_.Idx) :
    shapeCast S_ (extractStridedSlice S1x1 ![0, 0] a1 h) h' j = a1 fun a => ⟨0, by revert a; decide⟩ := by
  refine congrArg a1 (funext fun a => Fin.ext ?_)
  have : ∀ k : S1x1.Idx, ∀ a, (k a).val = 0 := by
    intro k a; have := (k a).isLt; revert a; intro a; fin_cases a <;> simp [S1x1] <;> omega
  fin_cases a <;> simp [this]

theorem good [Facts] {F : FTy → Type} [FloatOps F] (a0 : S1x256.Idx → BitVec 32) (a1 : S1x128.Idx → BitVec 32) (a2 : S1x256.Idx → BitVec 32)
    (a3 a4 a5 a6 a7) (h : fn (F := F) a0 a1 a2 a3 a4 a5 a6 a7 = fun _ => 1#1) : Good a0 a1 a2 := by
  have e := congrFun h pt
  simp only [fn, fn_part1] at e
  simp only [andi, IntOp.andi_eq_one] at e
  obtain ⟨⟨⟨⟨h1, h2⟩, h3⟩, h4⟩, h5⟩ := e
  refine ⟨fun j => ?_, fun j => ?_, ?_, ?_, fun j => ?_⟩
  · exact IntOp.cmpi_sge.mp (Host.reduce_andi_all _ _ _ _ _ h1 j)
  · exact IntOp.cmpi_slt.mp (Host.reduce_andi_all _ _ _ _ _ h2 j)
  · have := IntOp.cmpi_sge.mp h3; rw [word0] at this; exact this
  · have := IntOp.cmpi_sle.mp h4; rw [word0] at this; exact this
  · exact IntOp.cmpi_sle.mp (Host.reduce_andi_all _ _ _ _ _ h5 j)

end Cert.TablesIn

end
-- ==== Proof.I.Kit.lean ====
/-
  The launch set-up of the experts' call: the host's prefix, the tables' contents, the blocks, the scratch, the four
  transfer cells, the two arrays the body copies from, and the region's invariant, conjunct by conjunct.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem flush0_3 (a : (pcfg0 (F := F)).Adm) : ∀ t : Fin (cfg0 a).N, ((cfg0 a).win 3).flush t = true :=
  (fun t => (Pipeline.Window.flushOf_reads cc0_transform_5 reads0_3 hreads0_3 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

abbrev bodyAt0 (a : (pcfg0 (F := F)).Adm) (t : Fin (cfg0 a).N) : Prog (TpuEff nD τ sig (Elt F) (Λ₀ F) .tc) PUnit :=
  cc0_experts (grid0.coords t) (Memref.whole main_arg0) (Memref.isWhole_whole _) (Memref.whole main_arg1) (Memref.isWhole_whole _) (Memref.whole main_arg2) (Memref.isWhole_whole _) (Memref.whole main_v13) (Memref.isWhole_whole _) (spec0_0.stage ((cfg0 a).slots t 0)) (hstage0_0 (((cfg0 a).slots t 0).cast nbuf0_0)) (Memref.whole main_v14) (Memref.isWhole_whole _) (spec0_1.stage ((cfg0 a).slots t 1)) (hstage0_1 (((cfg0 a).slots t 1).cast nbuf0_1)) (Memref.whole main_v17) (Memref.isWhole_whole _) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig (Λ₀ F) := cfg0 (adm m hO)

abbrev tbM0_0 : Memref sig .tc .smem S1x256 .i32 := Memref.whole main_arg0
abbrev htbM0_0 : tbM0_0.IsWhole := Memref.isWhole_whole _
abbrev tbM0_1 : Memref sig .tc .smem S1x128 .i32 := Memref.whole main_arg1
abbrev htbM0_1 : tbM0_1.IsWhole := Memref.isWhole_whole _
abbrev tbM0_2 : Memref sig .tc .smem S1x256 .i32 := Memref.whole main_arg2
abbrev htbM0_2 : tbM0_2.IsWhole := Memref.isWhole_whole _
abbrev tbM0_3 : Memref sig .tc .smem S1x256 .i32 := Memref.whole main_v13
abbrev htbM0_3 : tbM0_3.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 0 rfl).trans ((hA c 0).trans (V_main_arg3 m c)),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4096x128 .f32 := spec0_3.stage ((cfgM m hO).slots t 3)
abbrev hs0_3 (hO : Ok m) (t : Fin (cfgM m hO).N) : (ms0_3 m hO t).IsWhole := hstage0_3 (((cfgM m hO).slots t 3).cast nbuf0_3)

abbrev scM0_0 : Memref sig .tc .vmem S2x1024x2048 .f32 := Memref.whole cc0_scratch0
abbrev scM0_1 : Memref sig .tc .vmem S2x1024x1024 .f32 := Memref.whole cc0_scratch1
abbrev scM0_2 : Memref sig .tc .vmem S1024x2048 .bf16 := Memref.whole cc0_scratch2
abbrev scM0_3 : Memref sig .tc .vmem S1024x1024 .bf16 := Memref.whole cc0_scratch3
abbrev scM0_4 : Memref sig .tc .smem S1 .i32 := Memref.whole cc0_scratch4
abbrev hbM0_0 : Memref sig .tc .hbm S32x1024x2048 .f32 := Memref.whole main_v14
abbrev hbM0_1 : Memref sig .tc .hbm S32x1024x1024 .f32 := Memref.whole main_v17
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3] (by decide) (by decide)]; rfl
def H0 : Finset (Ref sig .tc) := {main_v14, main_v17}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_v14) ∗ hbPt0 c hbM0_1 (V m c main_v17)) := by
  rw [BI.bigSep_eq_bigSepL_of_eq [main_v14, main_v17] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_v14) ∗ hbPt0 c hbM0_1 (V m c main_v17))) := by
  rw [Pipeline.ΦD_eq, scopedRest0_eq, ownSems00_eq, hbmPts0_eq]; simp only [scM0_0, scM0_1, scM0_2, scM0_3, scM0_4, owns_whole]; try rfl

end Cert.KernelIdeal.X

end
-- ==== Proof.I.Loop.lean ====
/-
  The words of the tables, and the loop that walks a run of equal experts.
-/
module

public import proofs.«01_k».proof.Proof.I.Kit

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## Words of a table -/

/-- The index of word `j` of a table of 256 words. -/
def ix256 (j : Nat) (h : j < 256) : S1x256.Idx := fun a => ⟨(![0, j] : Fin 2 → Nat) a, by
  fin_cases a
  · exact Nat.one_pos
  · exact h⟩

/-- Word `j` of a table of 256 words (zero past its end). -/
def wd (x : S1x256.Idx → BitVec 32) (j : Nat) : BitVec 32 := if h : j < 256 then x (ix256 j h) else 0#32

/-- A word read by the body at the offsets `![0, j]` is word `j`. -/
theorem read0 (c : Dev nD) (xt0 : TbBuf0 (F := F) c tbM0_0) (off : Fin 2 → Nat) (h) (j : Nat) (hj : off = ![0, j]) :
    tbM0_0.view.readAt (Elt F) (Rect.unit (s := S1x256) off S1x1.size h).toLoadRect xt0 (Shape.Idx.first (numel1_S1x1.symm ▸ Nat.one_pos)) = wd xt0 j := by
  subst hj
  have h1 : j + 1 ≤ 256 := h 1
  have : j < 256 := h1
  simp only [wd, this, dif_pos, View.readAt_apply]
  refine congrArg xt0 (funext fun a => Fin.ext ?_)
  fin_cases a <;> rfl

theorem read2 (c : Dev nD) (xt2 : TbBuf0 (F := F) c tbM0_2) (off : Fin 2 → Nat) (h) (j : Nat) (hj : off = ![0, j]) :
    tbM0_2.view.readAt (Elt F) (Rect.unit (s := S1x256) off S1x1.size h).toLoadRect xt2 (Shape.Idx.first (numel1_S1x1.symm ▸ Nat.one_pos)) = wd xt2 j := by
  subst hj
  have h1 : j + 1 ≤ 256 := h 1
  have : j < 256 := h1
  simp only [wd, this, dif_pos, View.readAt_apply]
  refine congrArg xt2 (funext fun a => Fin.ext ?_)
  fin_cases a <;> rfl

/-- The word that counts the blocks in use. -/
def nuw (x : S1x128.Idx → BitVec 32) : BitVec 32 := x (fun a => ⟨0, by fin_cases a <;> exact (by decide)⟩)

theorem read1 (c : Dev nD) (xt1 : TbBuf0 (F := F) c tbM0_1) (h) :
    tbM0_1.view.readAt (Elt F) (Rect.unit (s := S1x128) ![0, 0] S1x1.size h).toLoadRect xt1 (Shape.Idx.first (numel1_S1x1.symm ▸ Nat.one_pos)) = nuw xt1 := by
  simp only [nuw, View.readAt_apply]
  refine congrArg xt1 (funext fun a => Fin.ext ?_)
  fin_cases a <;> rfl

/-! ## Offsets and conditions, as numbers -/

theorem toInt_small {a : BitVec 32} (ha : a.toNat < 2 ^ 31) : a.toInt = (a.toNat : Int) := BitVec.toInt_eq_toNat_of_lt (by omega)

theorem sle_iff {a b : BitVec 32} (ha : a.toNat < 2 ^ 31) (hb : b.toNat < 2 ^ 31) : Scalar.cmpi .sle a b = 1#1 ↔ a.toNat ≤ b.toNat := by
  rw [show Scalar.cmpi .sle a b = IntOp.cmpi .sle a b from rfl, IntOp.cmpi_sle, toInt_small ha, toInt_small hb]; omega

theorem slt_iff {a b : BitVec 32} (ha : a.toNat < 2 ^ 31) (hb : b.toNat < 2 ^ 31) : Scalar.cmpi .slt a b = 1#1 ↔ a.toNat < b.toNat := by
  rw [show Scalar.cmpi .slt a b = IntOp.cmpi .slt a b from rfl, IntOp.cmpi_slt, toInt_small ha, toInt_small hb]; omega

theorem and_iff {a b : BitVec 1} : Scalar.andi a b = 1#1 ↔ a = 1#1 ∧ b = 1#1 := IntOp.andi_eq_one

theorem eq_iff {a b : BitVec 32} : Scalar.cmpi .eq a b = 1#1 ↔ a = b := IntOp.cmpi_eq

theorem min_toNat {a b : BitVec 32} (ha : a.toNat < 2 ^ 31) (hb : b.toNat < 2 ^ 31) : (Scalar.minsi a b).toNat = min a.toNat b.toNat := by
  simp only [Scalar.minsi, IntOp.minsi]
  split <;> rename_i h <;> simp only [BitVec.slt_iff_toInt_lt, BitVec.sle_iff_toInt_le, toInt_small ha, toInt_small hb] at h <;> omega

theorem pred_toNat {v0 : BitVec 32} (hn : 1 ≤ v0.toNat) : (Scalar.subi v0 1#32).toNat = v0.toNat - 1 := by
  rw [show Scalar.subi v0 1#32 = v0 - 1#32 from rfl, BitVec.toNat_sub]; have := v0.isLt; simp; omega

theorem succ_toNat {j : BitVec 32} (hj : j.toNat ≤ 400) : (Scalar.addi j 1#32).toNat = j.toNat + 1 := by
  rw [show Scalar.addi j 1#32 = j + 1#32 from rfl, BitVec.toNat_add]; simp; omega

theorem off5_eq {v0 j : BitVec 32} (hn : 1 ≤ v0.toNat) (hn' : v0.toNat ≤ 164) (hj : j.toNat ≤ 400) :
    k0_off5 v0 j = ![0, min j.toNat (v0.toNat - 1)] := by
  rw [show k0_off5 v0 j = ![0, (Scalar.minsi j (Scalar.subi v0 1#32)).toNat] from rfl, min_toNat (by omega) (by rw [pred_toNat hn]; omega), pred_toNat hn]

/-! ## The loop -/

/-- Where the loop started at `j` stops: the first position from `j` on that is not in use or of another expert. -/
def Run (x : S1x256.Idx → BitVec 32) (n : Nat) (e : BitVec 32) (j r : Nat) : Prop :=
  j ≤ r ∧ (∀ k, j ≤ k → k < r → k < n ∧ wd x k = e) ∧ (r < n → wd x r ≠ e)

/-- The loop's test. -/
theorem test_iff {x : S1x256.Idx → BitVec 32} {v0 v2 j : BitVec 32} (hn : 1 ≤ v0.toNat) (hn' : v0.toNat ≤ 164) (hj : j.toNat ≤ 200) :
    Scalar.andi (Scalar.cmpi .sle j (Scalar.subi v0 1#32)) (Scalar.cmpi .eq (wd x (min j.toNat (v0.toNat - 1))) v2) = 1#1
      ↔ j.toNat < v0.toNat ∧ wd x j.toNat = v2 := by
  rw [and_iff, sle_iff (by omega) (by rw [pred_toNat hn]; omega), eq_iff, pred_toNat hn]
  constructor
  · rintro ⟨h1, h2⟩; rw [min_eq_left h1] at h2; exact ⟨by omega, h2⟩
  · rintro ⟨h1, h2⟩; rw [min_eq_left (by omega)]; exact ⟨by omega, h2⟩

/-- A call of the loop is a run of its body, entered below the caller's variant. -/
theorem call_loop (c : Dev nD) (bd : Option ℕ) (v : ℕ) (hv : ∀ u ∈ bd, v < u) (i : grid0.Coords) (v0 v2 : BitVec 32) (hw : k0_chk1 i v0 v2)
    (v12 : BitVec 32) (M : Memref sig .tc .smem S1x256 .i32) (hM : M.IsWhole) (j : BitVec 32) (K : BitVec 32 → sProp 𝕄) :
    wp frame (wpE (defs₀ (F := F)) Variants.nat c (some v)) Set.univ (cc0_while1 (F := F) i v0 v2 hw v12 M hM j) K
      ⊢ wp frame (wpE (defs₀ (F := F)) Variants.nat c bd) Set.univ
          (Prog.lift (TpuEff.call (1 : (Λ₀ F).Label) ⟨i, v0, v2, hw, v12, M, hM, j⟩)) K := by
  have h := wp_call (𝒱 := Variants.nat) (defs := defs₀ (F := F)) (c := (c : Thread nD τ)) (bd := bd) (E := Set.univ) (Γ := .empty) (Q := K)
    (ℓ := (1 : (Λ₀ F).Label)) (a := ⟨i, v0, v2, hw, v12, M, hM, j⟩) (k := .ret) v hv
  refine BIBase.Entails.trans ?_ h
  exact wp_mono _ _ _ fun a => le_wp_ret _ _ _ a K

theorem while_spec (c : Dev nD) (i : grid0.Coords) (v0 v2 : BitVec 32) (hw : k0_chk1 i v0 v2) (hn : 1 ≤ v0.toNat) (hn' : v0.toNat ≤ 164)
    (xt0 : TbBuf0 (F := F) c tbM0_0) : ∀ (v : ℕ) (j : BitVec 32) (hj : j.toNat ≤ 200) (hv : v0.toNat ≤ j.toNat + v) (K : BitVec 32 → sProp 𝕄),
    iprop(tbPt0 c tbM0_0 xt0 ∗ (∀ r : BitVec 32, ⌜r.toNat ≤ 200 ∧ Run xt0 v0.toNat v2 j.toNat r.toNat⌝ -∗ tbPt0 c tbM0_0 xt0 -∗ K r))
      ⊢ wp frame (wpE (defs₀ (F := F)) Variants.nat c (some v)) Set.univ (cc0_while1 i v0 v2 hw (Scalar.subi v0 1#32) tbM0_0 htbM0_0 j) K := by
  intro v
  induction v with
  | zero =>
    intro j hj hv K
    have hc : k0_chk2 v0 j := by
      unfold k0_chk2; rw [off5_eq hn hn' (by omega)]
      intro a; fin_cases a
      · change 0 + 1 ≤ 1; omega
      · change min j.toNat (v0.toNat - 1) + 1 ≤ 256; omega
    simp only [cc0_while1_eq_skeleton]; unfold cc0_while1_skel
    iintro ⟨HT0, Hk⟩
    sl_exec (disch := first | sl_exact hc)
    delta while_spec.sl.v55 while_spec.sl.v50 while_spec.sl.v54 while_spec.sl.r
    rw [read0 c xt0 _ _ _ (off5_eq hn hn' (j := j) (by omega)), if_neg (by rw [test_iff hn hn' hj]; omega)]
    sl_step
    iapply Hk $$ [] HT0
    ipureintro
    exact ⟨hj, le_refl _, fun k h1 h2 => by omega, fun h => by omega⟩
  | succ v ih =>
  intro j hj hv K
  have hc : k0_chk2 v0 j := by
    unfold k0_chk2; rw [off5_eq hn hn' (by omega)]
    intro a; fin_cases a
    · change 0 + 1 ≤ 1; omega
    · change min j.toNat (v0.toNat - 1) + 1 ≤ 256; omega
  simp only [cc0_while1_eq_skeleton]; unfold cc0_while1_skel
  iintro ⟨HT0, Hk⟩
  sl_exec (disch := first | sl_exact hc)
  delta while_spec.sl.v55_1 while_spec.sl.v50_1 while_spec.sl.v54_1 while_spec.sl.r_1
  rw [read0 c xt0 _ _ _ (off5_eq hn hn' (j := j) (by omega))]
  by_cases h : j.toNat < v0.toNat ∧ wd xt0 j.toNat = v2
  · rw [if_pos ((test_iff hn hn' hj).mpr h)]
    iapply (call_loop c _ v (fun u hu => by cases hu; exact Nat.lt_succ_self v))
    have hs := succ_toNat (j := j) (by omega)
    iapply (ih (Scalar.addi j 1#32) (by omega) (by omega) _)
    isplitl [HT0]; · iexact HT0
    iintro %r %hr HT0
    iapply Hk $$ [] HT0
    ipureintro
    rw [hs] at hr
    obtain ⟨h1, h2, h3, h4⟩ := hr
    refine ⟨h1, by omega, fun k hk hk' => ?_, h4⟩
    rcases Nat.eq_or_lt_of_le hk with rfl | hk
    · exact h
    · exact h3 k hk hk'
  · rw [if_neg (mt (test_iff hn hn' hj).mp h)]
    sl_step
    iapply Hk $$ [] HT0
    ipureintro
    exact ⟨hj, le_refl _, fun k h1 h2 => by omega, fun h' e => h ⟨h', e⟩⟩

end Cert.KernelIdeal.X

end
-- ==== Proof.I.Ring.lean ====
/-
  The two rings of weights and the transfers that fill them.
-/
module

public import proofs.«01_k».proof.Proof.I.Loop
public import Idealize.ShloMosaic.Lib.ViewIndex

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- Slot `s` of the ring of first weights, as a transfer's destination. -/
abbrev guD (s : ℕ) (hs : ∀ a, (![s, 0, 0] : Fin 3 → ℕ) a + S1x1024x2048.size a ≤ S2x1024x2048.size a) : Memref sig .tc .vmem S1024x2048 .f32 :=
  (scM0_0.slice (Rect.unit (s := S2x1024x2048) ![s, 0, 0] S1x1024x2048.size hs) (fun _ => rfl)).squeeze S1024x2048 squeezes_S1x1024x2048_S1024x2048

/-- Slot `s` of the ring of second weights, as a transfer's destination. -/
abbrev dnD (s : ℕ) (hs : ∀ a, (![s, 0, 0] : Fin 3 → ℕ) a + S1x1024x1024.size a ≤ S2x1024x1024.size a) : Memref sig .tc .vmem S1024x1024 .f32 :=
  (scM0_1.slice (Rect.unit (s := S2x1024x1024) ![s, 0, 0] S1x1024x1024.size hs) (fun _ => rfl)).squeeze S1024x1024 squeezes_S1x1024x1024_S1024x1024

/-- Expert `e`'s first weights, as a transfer's source. -/
abbrev guS (e : ℕ) (he : ∀ a, (![e, 0, 0] : Fin 3 → ℕ) a + S1x1024x2048.size a ≤ S32x1024x2048.size a) : Memref sig .tc .hbm S1024x2048 .f32 :=
  ((Memref.whole main_v14).slice (Rect.unit (s := S32x1024x2048) ![e, 0, 0] S1x1024x2048.size he) (fun _ => rfl)).squeeze S1024x2048 squeezes_S1x1024x2048_S1024x2048

/-- Expert `e`'s second weights, as a transfer's source. -/
abbrev dnS (e : ℕ) (he : ∀ a, (![e, 0, 0] : Fin 3 → ℕ) a + S1x1024x1024.size a ≤ S32x1024x1024.size a) : Memref sig .tc .hbm S1024x1024 .f32 :=
  ((Memref.whole main_v17).slice (Rect.unit (s := S32x1024x1024) ![e, 0, 0] S1x1024x1024.size he) (fun _ => rfl)).squeeze S1024x1024 squeezes_S1x1024x1024_S1024x1024

theorem inbGu {e : ℕ} (h : e < 32) : ∀ a, (![e, 0, 0] : Fin 3 → ℕ) a + S1x1024x2048.size a ≤ S32x1024x2048.size a := by
  intro a; fin_cases a
  · change e + 1 ≤ 32; omega
  · change 0 + 1024 ≤ 1024; omega
  · change 0 + 2048 ≤ 2048; omega
theorem inbDn {e : ℕ} (h : e < 32) : ∀ a, (![e, 0, 0] : Fin 3 → ℕ) a + S1x1024x1024.size a ≤ S32x1024x1024.size a := by
  intro a; fin_cases a
  · change e + 1 ≤ 32; omega
  · change 0 + 1024 ≤ 1024; omega
  · change 0 + 1024 ≤ 1024; omega
theorem inbGuD {s : ℕ} (h : s < 2) : ∀ a, (![s, 0, 0] : Fin 3 → ℕ) a + S1x1024x2048.size a ≤ S2x1024x2048.size a := by
  intro a; fin_cases a
  · change s + 1 ≤ 2; omega
  · change 0 + 1024 ≤ 1024; omega
  · change 0 + 2048 ≤ 2048; omega
theorem inbDnD {s : ℕ} (h : s < 2) : ∀ a, (![s, 0, 0] : Fin 3 → ℕ) a + S1x1024x1024.size a ≤ S2x1024x1024.size a := by
  intro a; fin_cases a
  · change s + 1 ≤ 2; omega
  · change 0 + 1024 ≤ 1024; omega
  · change 0 + 1024 ≤ 1024; omega

/-- The transfer of expert `e`'s first weights into slot `s`, counted on cell `q`, that will leave the ring at `g`. -/
abbrev flyGu (c : Dev nD) (q : SemLoc sig) (s : ℕ) (hs : s < 2) (e : ℕ) (he : e < 32) (g : HbBuf0 (F := F) c scM0_0) (fh : HbBuf0 (F := F) c hbM0_0) : sProp 𝕄 :=
  Transfers.Flight countersEmb (c : Thread nD τ) q default 262144
    iprop((View.loc (c : Thread nD τ) scM0_0.view ↦[(guD s (inbGuD hs)).view.set]{fullShare} g) ∗
      View.loc (c : Thread nD τ) hbM0_0.view ↦[(guS e (inbGu he)).view.set]{fullShare} fh)
/-- The transfer of expert `e`'s second weights into slot `s`, counted on cell `q`, that will leave the ring at `g`. -/
abbrev flyDn (c : Dev nD) (q : SemLoc sig) (s : ℕ) (hs : s < 2) (e : ℕ) (he : e < 32) (g : HbBuf0 (F := F) c scM0_1) (fh : HbBuf0 (F := F) c hbM0_1) : sProp 𝕄 :=
  Transfers.Flight countersEmb (c : Thread nD τ) q default 131072
    iprop((View.loc (c : Thread nD τ) scM0_1.view ↦[(dnD s (inbDnD hs)).view.set]{fullShare} g) ∗
      View.loc (c : Thread nD τ) hbM0_1.view ↦[(dnS e (inbDn he)).view.set]{fullShare} fh)
/-- What is held beside those two transfers: the arrays less the windows in flight. -/
abbrev restOf (c : Dev nD) (s : ℕ) (hs : s < 2) (e : ℕ) (he : e < 32) (g : HbBuf0 (F := F) c scM0_0) (g' : HbBuf0 (F := F) c scM0_1) (fh : HbBuf0 (F := F) c hbM0_0) (fh' : HbBuf0 (F := F) c hbM0_1) : sProp 𝕄 :=
  iprop((View.loc (c : Thread nD τ) scM0_0.view ↦[Finset.univ \ (guD s (inbGuD hs)).view.set]{fullShare} g) ∗
    (View.loc (c : Thread nD τ) hbM0_0.view ↦[Finset.univ \ (guS e (inbGu he)).view.set]{fullShare} fh) ∗
    (View.loc (c : Thread nD τ) scM0_1.view ↦[Finset.univ \ (dnD s (inbDnD hs)).view.set]{fullShare} g') ∗
    View.loc (c : Thread nD τ) hbM0_1.view ↦[Finset.univ \ (dnS e (inbDn he)).view.set]{fullShare} fh')

theorem shape_inj {s t : Shape} {α : Type} {u v : s.Idx → α} (h : s.ShapeCasts t) (e : shapeCast t u h = shapeCast t v h) : u = v := by
  funext x
  have := congrFun e ((Shape.reshapeEquiv h).symm x)
  simpa only [shapeCast, Equiv.apply_symm_apply] using this

/-- Expert `e`'s first weights, as one load. -/
def Wgu (c : Dev nD) (fh : HbBuf0 (F := F) c hbM0_0) (e : ℕ) (he : e < 32) : Vec F S1x1024x2048 .f32 :=
  View.readAt (Elt F) hbM0_0.view (Rect.unit (s := S32x1024x2048) ![e, 0, 0] S1x1024x2048.size (inbGu he)).toLoadRect fh
/-- Expert `e`'s second weights, as one load. -/
def Wdn (c : Dev nD) (fh : HbBuf0 (F := F) c hbM0_1) (e : ℕ) (he : e < 32) : Vec F S1x1024x1024 .f32 :=
  View.readAt (Elt F) hbM0_1.view (Rect.unit (s := S32x1024x1024) ![e, 0, 0] S1x1024x1024.size (inbDn he)).toLoadRect fh
/-- Slot `s` of the ring of first weights, as one load. -/
def ldGu (c : Dev nD) (g : HbBuf0 (F := F) c scM0_0) (s : ℕ) (hs : s < 2) : Vec F S1x1024x2048 .f32 :=
  View.readAt (Elt F) scM0_0.view (Rect.unit (s := S2x1024x2048) ![s, 0, 0] S1x1024x2048.size (inbGuD hs)).toLoadRect g
/-- Slot `s` of the ring of second weights, as one load. -/
def ldDn (c : Dev nD) (g : HbBuf0 (F := F) c scM0_1) (s : ℕ) (hs : s < 2) : Vec F S1x1024x1024 .f32 :=
  View.readAt (Elt F) scM0_1.view (Rect.unit (s := S2x1024x1024) ![s, 0, 0] S1x1024x1024.size (inbDnD hs)).toLoadRect g

theorem gu_hit (c : Dev nD) (g : HbBuf0 (F := F) c scM0_0) (fh : HbBuf0 (F := F) c hbM0_0) (s : ℕ) (hs : s < 2) (e : ℕ) (he : e < 32) :
    ldGu c (View.write (Elt F) (guD s (inbGuD hs)).view g (ReadAs.same.apply (View.read (Elt F) (guS e (inbGu he)).view fh)) Finset.univ) s hs = Wgu c fh e he := by
  have h : View.read (Elt F) (guD s (inbGuD hs)).view (View.write (Elt F) (guD s (inbGuD hs)).view g (ReadAs.same.apply (View.read (Elt F) (guS e (inbGu he)).view fh)) Finset.univ) = View.read (Elt F) (guS e (inbGu he)).view fh :=
    View.read_write_univ _ _
  have hc : S1x1024x2048.ShapeCasts S1024x2048 := shapeCasts_S1x1024x2048_S1024x2048
  have h2 : shapeCast S1024x2048 (ldGu c (View.write (Elt F) (guD s (inbGuD hs)).view g (ReadAs.same.apply (View.read (Elt F) (guS e (inbGu he)).view fh)) Finset.univ) s hs) hc = shapeCast S1024x2048 (Wgu c fh e he) hc := h
  exact shape_inj hc h2

theorem gu_miss (c : Dev nD) (g : HbBuf0 (F := F) c scM0_0) (w) (s s' : ℕ) (hs : s < 2) (hs' : s' < 2) (hne : s ≠ s') :
    ldGu c (View.write (Elt F) (guD s' (inbGuD hs')).view g w Finset.univ) s hs = ldGu c g s hs := by
  unfold ldGu
  refine View.readAt_congr fun j hj => View.write_of_not_mem _ _ _ fun hj' => ?_
  have hd : Disjoint (scM0_0.view.slice (Rect.unit (s := S2x1024x2048) ![s, 0, 0] S1x1024x2048.size (inbGuD hs))).set (scM0_0.view.slice (Rect.unit (s := S2x1024x2048) ![s', 0, 0] S1x1024x2048.size (inbGuD hs'))).set := by
    refine View.disjoint_slice (Rect.unit_disjoint 0 ?_)
    change s + 1 ≤ s' ∨ s' + 1 ≤ s
    omega
  refine absurd (?_ : j ∈ _) (Finset.disjoint_left.mp hd ?_)
  · rw [View.setOn_univ] at hj'
    erw [View.set_reshape] at hj'
    exact hj'
  · rw [View.set_slice]; exact hj

theorem dn_hit (c : Dev nD) (g : HbBuf0 (F := F) c scM0_1) (fh : HbBuf0 (F := F) c hbM0_1) (s : ℕ) (hs : s < 2) (e : ℕ) (he : e < 32) :
    ldDn c (View.write (Elt F) (dnD s (inbDnD hs)).view g (ReadAs.same.apply (View.read (Elt F) (dnS e (inbDn he)).view fh)) Finset.univ) s hs = Wdn c fh e he := by
  have h : View.read (Elt F) (dnD s (inbDnD hs)).view (View.write (Elt F) (dnD s (inbDnD hs)).view g (ReadAs.same.apply (View.read (Elt F) (dnS e (inbDn he)).view fh)) Finset.univ) = View.read (Elt F) (dnS e (inbDn he)).view fh :=
    View.read_write_univ _ _
  have hc : S1x1024x1024.ShapeCasts S1024x1024 := shapeCasts_S1x1024x1024_S1024x1024
  have h2 : shapeCast S1024x1024 (ldDn c (View.write (Elt F) (dnD s (inbDnD hs)).view g (ReadAs.same.apply (View.read (Elt F) (dnS e (inbDn he)).view fh)) Finset.univ) s hs) hc = shapeCast S1024x1024 (Wdn c fh e he) hc := h
  exact shape_inj hc h2

theorem dn_miss (c : Dev nD) (g : HbBuf0 (F := F) c scM0_1) (w) (s s' : ℕ) (hs : s < 2) (hs' : s' < 2) (hne : s ≠ s') :
    ldDn c (View.write (Elt F) (dnD s' (inbDnD hs')).view g w Finset.univ) s hs = ldDn c g s hs := by
  unfold ldDn
  refine View.readAt_congr fun j hj => View.write_of_not_mem _ _ _ fun hj' => ?_
  have hd : Disjoint (scM0_1.view.slice (Rect.unit (s := S2x1024x1024) ![s, 0, 0] S1x1024x1024.size (inbDnD hs))).set (scM0_1.view.slice (Rect.unit (s := S2x1024x1024) ![s', 0, 0] S1x1024x1024.size (inbDnD hs'))).set := by
    refine View.disjoint_slice (Rect.unit_disjoint 0 ?_)
    change s + 1 ≤ s' ∨ s' + 1 ≤ s
    omega
  refine absurd (?_ : j ∈ _) (Finset.disjoint_left.mp hd ?_)
  · rw [View.setOn_univ] at hj'
    erw [View.set_reshape] at hj'
    exact hj'
  · rw [View.set_slice]; exact hj

/-- A transfer of expert `e`'s weights is in flight into slot `s`, counted on cells `q` and `p`; cells `q'` and `p'` are quiet. -/
def BusyAt (c : Dev nD) (s : ℕ) (hs : s < 2) (q p q' p' : SemLoc sig) (fh : HbBuf0 (F := F) c hbM0_0) (fh' : HbBuf0 (F := F) c hbM0_1) (e : ℕ) : sProp 𝕄 :=
  iprop(∃ (he : e < 32) (g : HbBuf0 (F := F) c scM0_0) (g' : HbBuf0 (F := F) c scM0_1), ⌜ldGu c g s hs = Wgu c fh e he ∧ ldDn c g' s hs = Wdn c fh' e he⌝ ∗
    flyGu c q s hs e he g fh ∗ flyDn c p s hs e he g' fh' ∗ restOf c s hs e he g g' fh fh' ∗ semVal ((c : Thread nD τ), q') 0 ∗ semVal ((c : Thread nD τ), p') 0)
/-- The flight is into slot 0. -/
def Busy0 (c : Dev nD) (fh : HbBuf0 (F := F) c hbM0_0) (fh' : HbBuf0 (F := F) c hbM0_1) (e : ℕ) : sProp 𝕄 :=
  BusyAt c 0 (by decide) (SemLoc.dma 8) (SemLoc.dma 10) (SemLoc.dma 9) (SemLoc.dma 11) fh fh' e
/-- The flight is into slot 1. -/
def Busy1 (c : Dev nD) (fh : HbBuf0 (F := F) c hbM0_0) (fh' : HbBuf0 (F := F) c hbM0_1) (e : ℕ) : sProp 𝕄 :=
  BusyAt c 1 (by decide) (SemLoc.dma 9) (SemLoc.dma 11) (SemLoc.dma 8) (SemLoc.dma 10) fh fh' e
/-- The flight is into the slot the word `w` names. -/
def Busy (c : Dev nD) (w : BitVec 32) (fh : HbBuf0 (F := F) c hbM0_0) (fh' : HbBuf0 (F := F) c hbM0_1) (e : ℕ) : sProp 𝕄 :=
  if w = 0#32 then Busy0 c fh fh' e else Busy1 c fh fh' e
/-- Nothing is in flight. -/
def Idle (c : Dev nD) (fh : HbBuf0 (F := F) c hbM0_0) (fh' : HbBuf0 (F := F) c hbM0_1) : sProp 𝕄 :=
  iprop(∃ (g : HbBuf0 (F := F) c scM0_0) (g' : HbBuf0 (F := F) c scM0_1), hbPt0 c scM0_0 g ∗ hbPt0 c scM0_1 g' ∗ hbPt0 c hbM0_0 fh ∗ hbPt0 c hbM0_1 fh' ∗
    semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
/-- Whole-array read of the first narrowed weights. -/
def rdGu (c : Dev nD) (g : HbBuf0 (F := F) c scM0_2) : Vec F S1024x2048 .bf16 :=
  View.readAt (Elt F) scM0_2.view (Rect.unit (s := S1024x2048) ![0, 0] S1024x2048.size inb_S1024x2048_S1024x2048_0_0).toLoadRect g
/-- Whole-array read of the second narrowed weights. -/
def rdDn (c : Dev nD) (g : HbBuf0 (F := F) c scM0_3) : Vec F S1024x1024 .bf16 :=
  View.readAt (Elt F) scM0_3.view (Rect.unit (s := S1024x1024) ![0, 0] S1024x1024.size inb_S1024x1024_S1024x1024_0_0).toLoadRect g
/-- The two narrowed weights are expert `e`'s. -/
def Conv (c : Dev nD) (fh : HbBuf0 (F := F) c hbM0_0) (fh' : HbBuf0 (F := F) c hbM0_1) (e : ℕ) : sProp 𝕄 :=
  iprop(∃ (he : e < 32) (g : HbBuf0 (F := F) c scM0_2) (g' : HbBuf0 (F := F) c scM0_3), ⌜rdGu c g = k0_pay31 (Wgu c fh e he) ∧ rdDn c g' = k0_pay32 (Wdn c fh' e he)⌝ ∗
    hbPt0 c scM0_2 g ∗ hbPt0 c scM0_3 g')
/-- The two narrowed weights hold anything. -/
def Junk (c : Dev nD) : sProp 𝕄 :=
  iprop(∃ (g : HbBuf0 (F := F) c scM0_2) (g' : HbBuf0 (F := F) c scM0_3), hbPt0 c scM0_2 g ∗ hbPt0 c scM0_3 g')

/-- The slot word, read back. -/
theorem load15 (c : Dev nD) (w : BitVec 32) (hp) (hp') (K : BitVec 32 → sProp 𝕄) :
    iprop(hbPt0 (F := F) c scM0_4 (fun _ => w) ∗ (hbPt0 (F := F) c scM0_4 (fun _ => w) -∗ K w)) ⊢ wp frame (wpE (defs₀ (F := F)) Variants.nat c none) Set.univ (smemLoad scM0_4 (Rect.unit (s := S1) ![0] S1.size inb_S1_S1_0) hp hp') K := by
  iintro ⟨H, HK⟩
  sl_exec
  iapply (le_wp_ret (a := w))
  iapply HK
  iexact H

end Cert.KernelIdeal.X

end
-- ==== Proof.I.Part1.lean ====
/-
  The guarded refill of the rings.
-/
module

public import proofs.«01_k».proof.Proof.I.Ring

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem chk3_0 (i : grid0.Coords) (v0 v2 v6 v14 : BitVec 32) : k0_chk3 i v0 v2 v6 v14 0#32 := by
  unfold k0_chk3
  refine ⟨fun _ => ?_, fun _ => ?_, fun _ => ?_, fun _ => ?_, fun _ _ => ?_, fun _ _ => ?_, fun _ _ => ?_, fun _ _ => ?_, fun _ => ?_, fun _ => ?_⟩ <;> decide
theorem chk3_1 (i : grid0.Coords) (v0 v2 v6 v14 : BitVec 32) : k0_chk3 i v0 v2 v6 v14 1#32 := by
  unfold k0_chk3
  refine ⟨fun _ => ?_, fun _ => ?_, fun _ => ?_, fun _ => ?_, fun _ _ => ?_, fun _ _ => ?_, fun _ _ => ?_, fun _ _ => ?_, fun _ => ?_, fun _ => ?_⟩ <;> decide

theorem rdGu_writes (c : Dev nD) (g : HbBuf0 (F := F) c scM0_2) (x) :
    rdGu c (scM0_2.view.writes (Elt F) g [⟨Rect.unit (s := S1024x2048) ![0, 0] S1024x2048.size inb_S1024x2048_S1024x2048_0_0, x⟩]) = x := by
  unfold rdGu
  rw [View.readAt_rect, View.writes_cons, View.writes_nil, View.read_write_univ]
theorem rdDn_writes (c : Dev nD) (g : HbBuf0 (F := F) c scM0_3) (x) :
    rdDn c (scM0_3.view.writes (Elt F) g [⟨Rect.unit (s := S1024x1024) ![0, 0] S1024x1024.size inb_S1024x1024_S1024x1024_0_0, x⟩]) = x := by
  unfold rdDn
  rw [View.readAt_rect, View.writes_cons, View.writes_nil, View.read_write_univ]

set_option maxHeartbeats 1600000 in
theorem part1_0m (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (fh0 : HbBuf0 (F := F) c hbM0_0) (fh1 : HbBuf0 (F := F) c hbM0_1)
   (v0 v2 v6 v14 : BitVec 32) (hw4 : k0_chk4 i v0 v2 v6) (hw5 : k0_chk5 i v0 v2 v6 v14) (h2 : k0_cond2 i v0 v2 v6 = 1#1) (h3 : k0_cond3 v0 v14 = 1#1) (r : ℕ) (ho12 : k0_off12 v0 v14 = ![0, r]) (he : (wd xt0 r).toNat < 32) (W) (K) :
  iprop(tbPt0 c tbM0_0 xt0 ∗ Busy0 c fh0 fh1 v2.toNat ∗ Junk (F := F) c ∗ hbPt0 c scM0_4 (fun _ => 0#32) ∗ owes (c : Thread nD τ) 0 W ∗
    (∀ W', tbPt0 c tbM0_0 xt0 -∗ Busy1 c fh0 fh1 (wd xt0 r).toNat -∗ Conv c fh0 fh1 v2.toNat -∗ hbPt0 c scM0_4 (fun _ => 0#32) -∗ owes (c : Thread nD τ) 0 W' -∗ K 1#32)) ⊢
   wp frame (wpE (defs₀ (F := F)) Variants.nat c none) Set.univ (k0_part1 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v2 v6 hw4 (Scalar.subi v0 1#32) v14 hw5 h2) K := by
  simp only [k0_part1_eq_skeleton]; unfold k0_part1_skel
  have e := read0 c xt0 _ (k0_off12_inb i v0 v2 v6 v14 hw5 h2 h3) _ ho12
  rw [← e] at he
  rw [← e]
  have hw6 : k0_chk6 i v0 v2 v6 v14 (View.readAt (Elt F) tbM0_0.view (Rect.unit (s := S1x256) (k0_off12 v0 v14) S1x1.size (k0_off12_inb i v0 v2 v6 v14 hw5 h2 h3)).toLoadRect xt0 (Shape.Idx.first (by change 0 < S1x1.numel; decide))) :=
    ⟨fun _ _ => inbGu he, fun _ _ => inbDn he⟩
  have hw3 := chk3_0 i v0 v2 v6 v14
  unfold Busy0 Busy1 BusyAt Junk Conv
  iintro ⟨HT0, ⟨%hv2, %g0, %g1, %hg, HF0, HF1, ⟨HR0, Hh0, HR1, Hh1⟩, Hq0, Hq1⟩, ⟨%g2, %g3, HS2, HS3⟩, HS4, HW, HK⟩
  rw [wp_bind]
  iapply (load15 c 0#32 _ _ _)
  isplitl [HS4]; · iexact HS4
  iintro HS4
  beta_reduce
  set_option sl_exec.dmaWindow true in
  set_option sl_exec.dmaWindowLent true in
  set_option sl_exec.rejoinStated true in
  sl_exec (disch := first | exact hw3 | exact hw6 | exact h3)
  delta part1_0m.sl.v67 part1_0m.sl.v74 part1_0m.sl.dma1 part1_0m.sl.dma1_1 part1_0m.sl.r
  iapply (le_wp_ret (a := 1#32))
  ispecialize HK $$ %_ HT0
  iapply HK $$ [HF0 HF1 Hq0 Hq1 HR0 HR1 Hh0 Hh1] [HS2 HS3] HS4 HW
  · iexists he, _, _
    isplitr
    rotate_left
    · isplitl [Hq0]; · iexact Hq0
      isplitl [Hq1]; · iexact Hq1
      isplitl [HR0 Hh0 HR1 Hh1]
      · isplitl [HR0]; · iexact HR0
        isplitl [Hh0]; · iexact Hh0
        isplitl [HR1]; · iexact HR1
        iexact Hh1
      isplitl [HF0]; · iexact HF0
      iexact HF1
    · ipureintro
      exact ⟨gu_hit c _ fh0 1 (by decide) _ he, dn_hit c _ fh1 1 (by decide) _ he⟩
  · iexists hv2, _, _
    isplitr
    rotate_left
    · isplitl [HS2]; · iexact HS2
      iexact HS3
    · ipureintro
      refine ⟨(rdGu_writes c _ _).trans (congrArg k0_pay31 ?_), (rdDn_writes c _ _).trans (congrArg k0_pay32 ?_)⟩
      · first | exact (gu_miss c _ _ 0 1 (by decide) (by decide) (by decide)).trans hg.1 | exact hg.1
      · first | exact (dn_miss c _ _ 0 1 (by decide) (by decide) (by decide)).trans hg.2 | exact hg.2

set_option maxHeartbeats 1600000 in
theorem part1_0l (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (fh0 : HbBuf0 (F := F) c hbM0_0) (fh1 : HbBuf0 (F := F) c hbM0_1)
   (v0 v2 v6 v14 : BitVec 32) (hw4 : k0_chk4 i v0 v2 v6) (hw5 : k0_chk5 i v0 v2 v6 v14) (h2 : k0_cond2 i v0 v2 v6 = 1#1) (h3 : ¬ k0_cond3 v0 v14 = 1#1) (W) (K) :
  iprop(tbPt0 c tbM0_0 xt0 ∗ Busy0 c fh0 fh1 v2.toNat ∗ Junk (F := F) c ∗ hbPt0 c scM0_4 (fun _ => 0#32) ∗ owes (c : Thread nD τ) 0 W ∗
    (∀ W', tbPt0 c tbM0_0 xt0 -∗ Idle c fh0 fh1 -∗ Conv c fh0 fh1 v2.toNat -∗ hbPt0 c scM0_4 (fun _ => 0#32) -∗ owes (c : Thread nD τ) 0 W' -∗ K 1#32)) ⊢
   wp frame (wpE (defs₀ (F := F)) Variants.nat c none) Set.univ (k0_part1 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v2 v6 hw4 (Scalar.subi v0 1#32) v14 hw5 h2) K := by
  simp only [k0_part1_eq_skeleton]; unfold k0_part1_skel
  have hw3 := chk3_0 i v0 v2 v6 v14
  unfold Busy0 Idle BusyAt Junk Conv
  iintro ⟨HT0, ⟨%hv2, %g0, %g1, %hg, HF0, HF1, ⟨HR0, Hh0, HR1, Hh1⟩, Hq0, Hq1⟩, ⟨%g2, %g3, HS2, HS3⟩, HS4, HW, HK⟩
  rw [wp_bind]
  iapply (load15 c 0#32 _ _ _)
  isplitl [HS4]; · iexact HS4
  iintro HS4
  beta_reduce
  set_option sl_exec.dmaWindow true in
  set_option sl_exec.dmaWindowLent true in
  set_option sl_exec.rejoinStated true in
  sl_exec (disch := first | exact hw3 | exact h3)
  skip
  iapply (le_wp_ret (a := 1#32))
  ispecialize HK $$ %_ HT0
  iapply HK $$ [HF0 HF1 Hq0 Hq1 HR0 HR1 Hh0 Hh1] [HS2 HS3] HS4 HW
  · iexists _, _
    isplitl [HR0]; · iexact HR0
    isplitl [HR1]; · iexact HR1
    isplitl [Hh0]; · iexact Hh0
    isplitl [Hh1]; · iexact Hh1
    isplitl [HF0]; · iexact HF0
    isplitl [Hq0]; · iexact Hq0
    isplitl [HF1]; · iexact HF1
    iexact Hq1
  · iexists hv2, _, _
    isplitr
    rotate_left
    · isplitl [HS2]; · iexact HS2
      iexact HS3
    · ipureintro
      refine ⟨(rdGu_writes c _ _).trans (congrArg k0_pay31 ?_), (rdDn_writes c _ _).trans (congrArg k0_pay32 ?_)⟩
      · first | exact hg.1 | exact hg.1
      · first | exact hg.2 | exact hg.2

set_option maxHeartbeats 1600000 in
theorem part1_1m (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (fh0 : HbBuf0 (F := F) c hbM0_0) (fh1 : HbBuf0 (F := F) c hbM0_1)
   (v0 v2 v6 v14 : BitVec 32) (hw4 : k0_chk4 i v0 v2 v6) (hw5 : k0_chk5 i v0 v2 v6 v14) (h2 : k0_cond2 i v0 v2 v6 = 1#1) (h3 : k0_cond3 v0 v14 = 1#1) (r : ℕ) (ho12 : k0_off12 v0 v14 = ![0, r]) (he : (wd xt0 r).toNat < 32) (W) (K) :
  iprop(tbPt0 c tbM0_0 xt0 ∗ Busy1 c fh0 fh1 v2.toNat ∗ Junk (F := F) c ∗ hbPt0 c scM0_4 (fun _ => 1#32) ∗ owes (c : Thread nD τ) 0 W ∗
    (∀ W', tbPt0 c tbM0_0 xt0 -∗ Busy0 c fh0 fh1 (wd xt0 r).toNat -∗ Conv c fh0 fh1 v2.toNat -∗ hbPt0 c scM0_4 (fun _ => 1#32) -∗ owes (c : Thread nD τ) 0 W' -∗ K 0#32)) ⊢
   wp frame (wpE (defs₀ (F := F)) Variants.nat c none) Set.univ (k0_part1 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v2 v6 hw4 (Scalar.subi v0 1#32) v14 hw5 h2) K := by
  simp only [k0_part1_eq_skeleton]; unfold k0_part1_skel
  have e := read0 c xt0 _ (k0_off12_inb i v0 v2 v6 v14 hw5 h2 h3) _ ho12
  rw [← e] at he
  rw [← e]
  have hw6 : k0_chk6 i v0 v2 v6 v14 (View.readAt (Elt F) tbM0_0.view (Rect.unit (s := S1x256) (k0_off12 v0 v14) S1x1.size (k0_off12_inb i v0 v2 v6 v14 hw5 h2 h3)).toLoadRect xt0 (Shape.Idx.first (by change 0 < S1x1.numel; decide))) :=
    ⟨fun _ _ => inbGu he, fun _ _ => inbDn he⟩
  have hw3 := chk3_1 i v0 v2 v6 v14
  unfold Busy1 Busy0 BusyAt Junk Conv
  iintro ⟨HT0, ⟨%hv2, %g0, %g1, %hg, HF0, HF1, ⟨HR0, Hh0, HR1, Hh1⟩, Hq0, Hq1⟩, ⟨%g2, %g3, HS2, HS3⟩, HS4, HW, HK⟩
  rw [wp_bind]
  iapply (load15 c 1#32 _ _ _)
  isplitl [HS4]; · iexact HS4
  iintro HS4
  beta_reduce
  set_option sl_exec.dmaWindow true in
  set_option sl_exec.dmaWindowLent true in
  set_option sl_exec.rejoinStated true in
  sl_exec (disch := first | exact hw3 | exact hw6 | exact h3)
  delta part1_1m.sl.v67 part1_1m.sl.v74 part1_1m.sl.dma1 part1_1m.sl.dma1_1 part1_1m.sl.r
  iapply (le_wp_ret (a := 0#32))
  ispecialize HK $$ %_ HT0
  iapply HK $$ [HF0 HF1 Hq0 Hq1 HR0 HR1 Hh0 Hh1] [HS2 HS3] HS4 HW
  · iexists he, _, _
    isplitr
    rotate_left
    · isplitl [Hq0]; · iexact Hq0
      isplitl [Hq1]; · iexact Hq1
      isplitl [HR0 Hh0 HR1 Hh1]
      · isplitl [HR0]; · iexact HR0
        isplitl [Hh0]; · iexact Hh0
        isplitl [HR1]; · iexact HR1
        iexact Hh1
      isplitl [HF0]; · iexact HF0
      iexact HF1
    · ipureintro
      exact ⟨gu_hit c _ fh0 0 (by decide) _ he, dn_hit c _ fh1 0 (by decide) _ he⟩
  · iexists hv2, _, _
    isplitr
    rotate_left
    · isplitl [HS2]; · iexact HS2
      iexact HS3
    · ipureintro
      refine ⟨(rdGu_writes c _ _).trans (congrArg k0_pay31 ?_), (rdDn_writes c _ _).trans (congrArg k0_pay32 ?_)⟩
      · first | exact (gu_miss c _ _ 1 0 (by decide) (by decide) (by decide)).trans hg.1 | exact hg.1
      · first | exact (dn_miss c _ _ 1 0 (by decide) (by decide) (by decide)).trans hg.2 | exact hg.2

set_option maxHeartbeats 1600000 in
theorem part1_1l (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (fh0 : HbBuf0 (F := F) c hbM0_0) (fh1 : HbBuf0 (F := F) c hbM0_1)
   (v0 v2 v6 v14 : BitVec 32) (hw4 : k0_chk4 i v0 v2 v6) (hw5 : k0_chk5 i v0 v2 v6 v14) (h2 : k0_cond2 i v0 v2 v6 = 1#1) (h3 : ¬ k0_cond3 v0 v14 = 1#1) (W) (K) :
  iprop(tbPt0 c tbM0_0 xt0 ∗ Busy1 c fh0 fh1 v2.toNat ∗ Junk (F := F) c ∗ hbPt0 c scM0_4 (fun _ => 1#32) ∗ owes (c : Thread nD τ) 0 W ∗
    (∀ W', tbPt0 c tbM0_0 xt0 -∗ Idle c fh0 fh1 -∗ Conv c fh0 fh1 v2.toNat -∗ hbPt0 c scM0_4 (fun _ => 1#32) -∗ owes (c : Thread nD τ) 0 W' -∗ K 0#32)) ⊢
   wp frame (wpE (defs₀ (F := F)) Variants.nat c none) Set.univ (k0_part1 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v2 v6 hw4 (Scalar.subi v0 1#32) v14 hw5 h2) K := by
  simp only [k0_part1_eq_skeleton]; unfold k0_part1_skel
  have hw3 := chk3_1 i v0 v2 v6 v14
  unfold Busy1 Idle BusyAt Junk Conv
  iintro ⟨HT0, ⟨%hv2, %g0, %g1, %hg, HF0, HF1, ⟨HR0, Hh0, HR1, Hh1⟩, Hq0, Hq1⟩, ⟨%g2, %g3, HS2, HS3⟩, HS4, HW, HK⟩
  rw [wp_bind]
  iapply (load15 c 1#32 _ _ _)
  isplitl [HS4]; · iexact HS4
  iintro HS4
  beta_reduce
  set_option sl_exec.dmaWindow true in
  set_option sl_exec.dmaWindowLent true in
  set_option sl_exec.rejoinStated true in
  sl_exec (disch := first | exact hw3 | exact h3)
  skip
  iapply (le_wp_ret (a := 0#32))
  ispecialize HK $$ %_ HT0
  iapply HK $$ [HF0 HF1 Hq0 Hq1 HR0 HR1 Hh0 Hh1] [HS2 HS3] HS4 HW
  · iexists _, _
    isplitl [HR0]; · iexact HR0
    isplitl [HR1]; · iexact HR1
    isplitl [Hh0]; · iexact Hh0
    isplitl [Hh1]; · iexact Hh1
    isplitl [Hq0]; · iexact Hq0
    isplitl [HF0]; · iexact HF0
    isplitl [Hq1]; · iexact Hq1
    iexact HF1
  · iexists hv2, _, _
    isplitr
    rotate_left
    · isplitl [HS2]; · iexact HS2
      iexact HS3
    · ipureintro
      refine ⟨(rdGu_writes c _ _).trans (congrArg k0_pay31 ?_), (rdDn_writes c _ _).trans (congrArg k0_pay32 ?_)⟩
      · first | exact hg.1 | exact hg.1
      · first | exact hg.2 | exact hg.2

/-- What the rings hold when the next expert's transfer, if any, is for the run that starts at row block `r`. -/
def Nxt (c : Dev nD) (w : BitVec 32) (fh0 : HbBuf0 (F := F) c hbM0_0) (fh1 : HbBuf0 (F := F) c hbM0_1) (xt0 : TbBuf0 (F := F) c tbM0_0) (n r : ℕ) : sProp 𝕄 :=
  if r < n then Busy c w fh0 fh1 (wd xt0 r).toNat else Idle c fh0 fh1

theorem part1_spec (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (fh0 : HbBuf0 (F := F) c hbM0_0) (fh1 : HbBuf0 (F := F) c hbM0_1)
   (v0 v2 v6 v14 : BitVec 32) (hw4 : k0_chk4 i v0 v2 v6) (hw5 : k0_chk5 i v0 v2 v6 v14) (h2 : k0_cond2 i v0 v2 v6 = 1#1) (w : BitVec 32) (hw : w = 0#32 ∨ w = 1#32) (n r : ℕ) (hc3 : k0_cond3 v0 v14 = 1#1 ↔ r < n) (ho12 : r < n → k0_off12 v0 v14 = ![0, r]) (he : r < n → (wd xt0 r).toNat < 32) (W) (K) :
  iprop(tbPt0 c tbM0_0 xt0 ∗ Busy c w fh0 fh1 v2.toNat ∗ Junk (F := F) c ∗ hbPt0 c scM0_4 (fun _ => w) ∗ owes (c : Thread nD τ) 0 W ∗
    (∀ W', tbPt0 c tbM0_0 xt0 -∗ Nxt c (1#32 - w) fh0 fh1 xt0 n r -∗ Conv c fh0 fh1 v2.toNat -∗ hbPt0 c scM0_4 (fun _ => w) -∗ owes (c : Thread nD τ) 0 W' -∗ K (1#32 - w))) ⊢
   wp frame (wpE (defs₀ (F := F)) Variants.nat c none) Set.univ (k0_part1 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v2 v6 hw4 (Scalar.subi v0 1#32) v14 hw5 h2) K := by
  by_cases hr : r < n
  · have h3 := hc3.mpr hr
    rcases hw with rfl | rfl
    · have e1 : (1#32 - 0#32 : BitVec 32) = 1#32 := by decide
      have e2 : ¬ (1#32 : BitVec 32) = 0#32 := by decide
      rw [e1]
      simp only [Nxt, Busy, if_pos hr, if_neg e2, if_true]
      exact part1_0m c i arg5 harg5 arg7 harg7 arg9 harg9 arg10 harg10 xt0 fh0 fh1 v0 v2 v6 v14 hw4 hw5 h2 h3 r (ho12 hr) (he hr) W K
    · have e1 : (1#32 - 1#32 : BitVec 32) = 0#32 := by decide
      have e2 : ¬ (1#32 : BitVec 32) = 0#32 := by decide
      rw [e1]
      simp only [Nxt, Busy, if_pos hr, if_neg e2, if_true]
      exact part1_1m c i arg5 harg5 arg7 harg7 arg9 harg9 arg10 harg10 xt0 fh0 fh1 v0 v2 v6 v14 hw4 hw5 h2 h3 r (ho12 hr) (he hr) W K
  · have h3 := fun h => hr (hc3.mp h)
    rcases hw with rfl | rfl
    · have e1 : (1#32 - 0#32 : BitVec 32) = 1#32 := by decide
      have e2 : ¬ (1#32 : BitVec 32) = 0#32 := by decide
      rw [e1]
      simp only [Nxt, Busy, if_neg hr, if_neg e2, if_true]
      exact part1_0l c i arg5 harg5 arg7 harg7 arg9 harg9 arg10 harg10 xt0 fh0 fh1 v0 v2 v6 v14 hw4 hw5 h2 h3 W K
    · have e1 : (1#32 - 1#32 : BitVec 32) = 0#32 := by decide
      have e2 : ¬ (1#32 : BitVec 32) = 0#32 := by decide
      rw [e1]
      simp only [Nxt, Busy, if_neg hr, if_neg e2, if_true]
      exact part1_1l c i arg5 harg5 arg7 harg7 arg9 harg9 arg10 harg10 xt0 fh0 fh1 v0 v2 v6 v14 hw4 hw5 h2 h3 W K

end Cert.KernelIdeal.X

end
-- ==== Proof.I.Nums.lean ====
/-
  Words as numbers, and the state the grid points hand on.
-/
module

public import proofs.«01_k».proof.Proof.I.Part1

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable {i : grid0.Coords}

theorem i_lt (i : grid0.Coords) : (i 0).val < 164 := (i 0).isLt

/-- The grid coordinate as a word. -/
abbrev bw (i : grid0.Coords) : BitVec 32 := BitVec.ofNat 32 (i 0).val

theorem bw_toNat (i : grid0.Coords) : (bw i).toNat = (i 0).val := by
  have := i_lt i
  rw [BitVec.toNat_ofNat]; exact Nat.mod_eq_of_lt (by omega)

theorem off1_eq (i : grid0.Coords) : k0_off1 i = ![0, (i 0).val] := by
  rw [show k0_off1 i = ![0, (bw i).toNat] from rfl, bw_toNat]

theorem off21_eq (i : grid0.Coords) : k0_off21 i = ![0, (i 0).val] := by
  rw [show k0_off21 i = ![0, (bw i).toNat] from rfl, bw_toNat]

theorem off2_eq : k0_off2 i = ![0, (i 0).val - 1] := by
  rw [show k0_off2 i = ![0, (Scalar.maxsi (Scalar.subi (bw i) 1#32) 0#32).toNat] from rfl]
  by_cases h : (i 0).val = 0
  · rw [show bw i = 0#32 from congrArg (BitVec.ofNat 32) h, h]; decide
  · have h1 : (Scalar.subi (bw i) 1#32).toNat = (i 0).val - 1 := by rw [pred_toNat (by rw [bw_toNat]; omega), bw_toNat]
    have := i_lt i
    rw [Scalar.maxsi_zero_of_nonneg (by omega), h1]

theorem cond1_iff {v0 : BitVec 32} (hn : v0.toNat ≤ 164) : k0_cond1 i v0 = 1#1 ↔ (i 0).val = 0 ∧ (i 0).val < v0.toNat := by
  have := i_lt i
  rw [show k0_cond1 i v0 = Scalar.cmpi .ne (Scalar.extui (Scalar.andi (Scalar.cmpi .slt (bw i) v0) (Scalar.cmpi .eq (bw i) 0#32))) 0#32 from rfl, Scalar.guard_iff, and_iff,
    slt_iff (by rw [bw_toNat]; omega) (by omega), eq_iff, bw_toNat]
  constructor
  · rintro ⟨h1, h2⟩
    refine ⟨?_, h1⟩
    rw [← bw_toNat, h2]; rfl
  · rintro ⟨h1, h2⟩
    exact ⟨h2, congrArg (BitVec.ofNat 32) h1⟩

theorem cond2_iff {v0 v2 v6 : BitVec 32} (hn : v0.toNat ≤ 164) : k0_cond2 i v0 v2 v6 = 1#1 ↔ (i 0).val < v0.toNat ∧ ((i 0).val = 0 ∨ v2 ≠ v6) := by
  have := i_lt i
  rw [show k0_cond2 i v0 v2 v6 = Scalar.cmpi .ne (Scalar.extui (Scalar.andi (Scalar.cmpi .slt (bw i) v0) (Scalar.ori (Scalar.cmpi .eq (bw i) 0#32) (Scalar.cmpi .ne v2 v6)))) 0#32 from rfl, Scalar.guard_iff, and_iff,
    slt_iff (by rw [bw_toNat]; omega) (by omega), bw_toNat, show Scalar.ori (Scalar.cmpi .eq (bw i) 0#32) (Scalar.cmpi .ne v2 v6) = 1#1 ↔ _ from IntOp.ori_eq_one, eq_iff,
    show Scalar.cmpi .ne v2 v6 = 1#1 ↔ v2 ≠ v6 from IntOp.cmpi_ne]
  have : bw i = 0#32 ↔ (i 0).val = 0 := ⟨fun h => by rw [← bw_toNat, h]; rfl, fun h => congrArg (BitVec.ofNat 32) h⟩
  rw [this]

theorem cond3_iff {v0 v14 : BitVec 32} (hn : 1 ≤ v0.toNat) (hn' : v0.toNat ≤ 164) (h14 : v14.toNat ≤ 200) : k0_cond3 v0 v14 = 1#1 ↔ v14.toNat < v0.toNat := by
  rw [show k0_cond3 v0 v14 = Scalar.cmpi .ne (Scalar.extui (Scalar.cmpi .sle v14 (Scalar.subi v0 1#32))) 0#32 from rfl, Scalar.guard_iff,
    sle_iff (by omega) (by rw [pred_toNat hn]; omega), pred_toNat hn]
  omega

theorem off12_eq {v0 v14 : BitVec 32} (hn : 1 ≤ v0.toNat) (hn' : v0.toNat ≤ 164) (h14 : v14.toNat ≤ 200) : k0_off12 v0 v14 = ![0, min v14.toNat (v0.toNat - 1)] :=
  off5_eq hn hn' (by omega)

theorem gran_iff {v0 v22 lo hi : BitVec 32} (hn : v0.toNat ≤ 164) :
    Scalar.cmpi .ne (Scalar.extui (Scalar.andi (Scalar.andi (Scalar.cmpi .slt (bw i) v0) (Scalar.cmpi .sgt v22 lo)) (Scalar.cmpi .sle v22 hi))) 0#32 = 1#1
      ↔ (i 0).val < v0.toNat ∧ lo.toInt < v22.toInt ∧ v22.toInt ≤ hi.toInt := by
  have := i_lt i
  rw [Scalar.guard_iff, and_iff, and_iff, slt_iff (by rw [bw_toNat]; omega) (by omega), bw_toNat,
    show Scalar.cmpi .sgt v22 lo = 1#1 ↔ _ from IntOp.cmpi_sgt, show Scalar.cmpi .sle v22 hi = 1#1 ↔ _ from IntOp.cmpi_sle]
  tauto

theorem cond4_iff {v0 v22 : BitVec 32} (hn : v0.toNat ≤ 164) : k0_cond4 i v0 v22 = 1#1 ↔ (i 0).val < v0.toNat ∧ 0 < v22.toInt ∧ v22.toInt ≤ 128 := gran_iff (lo := 0#32) (hi := 128#32) hn
theorem cond5_iff {v0 v22 : BitVec 32} (hn : v0.toNat ≤ 164) : k0_cond5 i v0 v22 = 1#1 ↔ (i 0).val < v0.toNat ∧ 128 < v22.toInt ∧ v22.toInt ≤ 256 := gran_iff (lo := 128#32) (hi := 256#32) hn
theorem cond6_iff {v0 v22 : BitVec 32} (hn : v0.toNat ≤ 164) : k0_cond6 i v0 v22 = 1#1 ↔ (i 0).val < v0.toNat ∧ 256 < v22.toInt ∧ v22.toInt ≤ 384 := gran_iff (lo := 256#32) (hi := 384#32) hn
theorem cond7_iff {v0 v22 : BitVec 32} (hn : v0.toNat ≤ 164) : k0_cond7 i v0 v22 = 1#1 ↔ (i 0).val < v0.toNat ∧ 384 < v22.toInt ∧ v22.toInt ≤ 512 := gran_iff (lo := 384#32) (hi := 512#32) hn

theorem cond8_iff {v0 : BitVec 32} (hn : v0.toNat ≤ 164) : k0_cond8 i v0 = 1#1 ↔ ¬ (i 0).val < v0.toNat := by
  have := i_lt i
  rw [show k0_cond8 i v0 = Scalar.cmpi .ne (Scalar.extui (Scalar.xori (Scalar.cmpi .slt (bw i) v0) 1#1)) 0#32 from rfl, Scalar.guard_iff]
  have h := slt_iff (a := bw i) (b := v0) (by rw [bw_toNat]; omega) (by omega)
  rw [bw_toNat] at h
  rw [← h]
  generalize Scalar.cmpi .slt (bw i) v0 = x
  revert x; decide

/-- The expert words are in range, the blocks in use are counted between one and the number of blocks. -/
structure Tabs (x0 : S1x256.Idx → BitVec 32) (n : ℕ) : Prop where
  be : ∀ j, (wd x0 j).toNat < 32
  lo : 1 ≤ n
  hi : n ≤ 164

theorem chk1_of {x0 : S1x256.Idx → BitVec 32} {v0 v2 : BitVec 32} (h : v2.toNat < 32) : k0_chk1 i v0 v2 := ⟨fun _ => inbGu h, fun _ => inbDn h⟩
theorem chk4_of {v0 v2 v6 : BitVec 32} (h : v2.toNat < 32) : k0_chk4 i v0 v2 v6 := ⟨fun _ => inbGu h, fun _ => inbDn h⟩
theorem chk5_of {v0 v2 v6 v14 : BitVec 32} (hn : 1 ≤ v0.toNat) (hn' : v0.toNat ≤ 164) (h14 : v14.toNat ≤ 200) : k0_chk5 i v0 v2 v6 v14 := by
  intro _ _
  rw [off12_eq hn hn' h14]
  intro a; fin_cases a
  · change 0 + 1 ≤ 1; omega
  · change min v14.toNat (v0.toNat - 1) + 1 ≤ 256; omega

/-- The run of one expert's blocks is the same found one block later. -/
theorem Run.step {x : S1x256.Idx → BitVec 32} {n : ℕ} {e : BitVec 32} {j r : ℕ} (h : Run x n e j r) (hj : j < n) (he : wd x j = e) : Run x n e (j + 1) r := by
  obtain ⟨h1, h2, h3⟩ := h
  refine ⟨?_, fun k hk hk' => h2 k (by omega) hk', h3⟩
  rcases Nat.lt_or_ge j r with h | h
  · exact h
  · have : j = r := by omega
    subst this
    exact absurd he (h3 hj)

theorem Run.eq_of_ne {x : S1x256.Idx → BitVec 32} {n : ℕ} {e : BitVec 32} {j r : ℕ} (h : Run x n e j r) (he : wd x j ≠ e) : r = j := by
  obtain ⟨h1, h2, h3⟩ := h
  by_contra hne
  exact he (h2 j le_rfl (by omega)).2

theorem loadT0 (c : Dev nD) (x : TbBuf0 (F := F) c tbM0_0) (off : Fin 2 → Nat) (h) (j : Nat) (hj : off = ![0, j]) (hp) (hp') (K : BitVec 32 → sProp 𝕄) :
    iprop(tbPt0 c tbM0_0 x ∗ (tbPt0 c tbM0_0 x -∗ K (wd x j))) ⊢ wp frame (wpE (defs₀ (F := F)) Variants.nat c none) Set.univ (smemLoad tbM0_0 (Rect.unit (s := S1x256) off S1x1.size h) hp hp') K := by
  rw [← read0 c x off h j hj]
  iintro ⟨H, HK⟩
  sl_exec
  iapply le_wp_ret
  iapply HK
  iexact H
theorem loadT2 (c : Dev nD) (x : TbBuf0 (F := F) c tbM0_2) (off : Fin 2 → Nat) (h) (j : Nat) (hj : off = ![0, j]) (hp) (hp') (K : BitVec 32 → sProp 𝕄) :
    iprop(tbPt0 c tbM0_2 x ∗ (tbPt0 c tbM0_2 x -∗ K (wd x j))) ⊢ wp frame (wpE (defs₀ (F := F)) Variants.nat c none) Set.univ (smemLoad tbM0_2 (Rect.unit (s := S1x256) off S1x1.size h) hp hp') K := by
  rw [← read2 c x off h j hj]
  iintro ⟨H, HK⟩
  sl_exec
  iapply le_wp_ret
  iapply HK
  iexact H
theorem loadT1 (c : Dev nD) (x : TbBuf0 (F := F) c tbM0_1) (h) (hp) (hp') (K : BitVec 32 → sProp 𝕄) :
    iprop(tbPt0 c tbM0_1 x ∗ (tbPt0 c tbM0_1 x -∗ K (nuw x))) ⊢ wp frame (wpE (defs₀ (F := F)) Variants.nat c none) Set.univ (smemLoad tbM0_1 (Rect.unit (s := S1x128) ![0, 0] S1x1.size h) hp hp') K := by
  rw [← read1 c x h]
  iintro ⟨H, HK⟩
  sl_exec
  iapply le_wp_ret
  iapply HK
  iexact H

/-- The scratch state before row block `b`: at first anything, later what the last block in use left. -/
def St (c : Dev nD) (x0 : TbBuf0 (F := F) c tbM0_0) (n : ℕ) (fh : HbBuf0 (F := F) c hbM0_0) (fh' : HbBuf0 (F := F) c hbM0_1) (b : ℕ) : sProp 𝕄 :=
  if b = 0 then iprop((∃ f4 : HbBuf0 (F := F) c scM0_4, hbPt0 c scM0_4 f4) ∗ Junk (F := F) c ∗ Idle c fh fh')
  else iprop(∃ (w : BitVec 32) (r : ℕ), ⌜(w = 0#32 ∨ w = 1#32) ∧ Run x0 n (wd x0 (min b n - 1)) (min b n) r⌝ ∗
    hbPt0 c scM0_4 (fun _ => w) ∗ Nxt c w fh fh' x0 n r ∗ Conv c fh fh' (wd x0 (min b n - 1)).toNat)

end Cert.KernelIdeal.X

end
-- ==== Proof.I.Gran.lean ====
/-
  The row tiles: what each tile of 128, 256, 384 or 512 rows leaves in the output window.
-/
module

public import proofs.«01_k».proof.Proof.I.Nums
public import Idealize.ShloMosaic.Lib.Pipeline.Value

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- What a load of the coordinates `r` reads of the contents `X`. -/
abbrev ldr {s : Shape} {α : Type} (X : s.Idx → α) (r : LoadRect s) : r.shape.Idx → α := fun j => X (r.idx j)

theorem str_sep {n : ℕ} (hn : 8 * n ≤ 4096) {c c' : ℕ} (hc : c < 8) (hc' : c' < 8) {h h' p p'} (x : (⟨2, ![n, 128]⟩ : Shape).Idx)
    (hm : (⟨(⟨![c, 0], ![n, 128], ![8, 1], h⟩ : LoadRect S4096x128), p⟩ : Rect S4096x128).emb x ∈ (⟨(⟨![c', 0], ![n, 128], ![8, 1], h'⟩ : LoadRect S4096x128), p'⟩ : Rect S4096x128).set) : c = c' := by
  obtain ⟨j, hj, e⟩ := (LoadRect.mem_set _).mp hm 0
  have e : c + 8 * (x 0).val = c' + 8 * j := e
  omega

theorem str_low {n m k : ℕ} (hk : k + m = 4096) (hn : 8 * n ≤ k) {c : ℕ} (hc : c < 8) {h p hlo} (x : (⟨2, ![n, 128]⟩ : Shape).Idx)
    (hm : (⟨(⟨![c, 0], ![n, 128], ![8, 1], h⟩ : LoadRect S4096x128), p⟩ : Rect S4096x128).emb x ∈ (Rect.unit (s := S4096x128) ![k, 0] ![m, 128] hlo).set) : False := by
  obtain ⟨j, hj, e⟩ := (LoadRect.mem_set _).mp hm 0
  have e : c + 8 * (x 0).val = k + 1 * j := e
  have : (x 0).val < n := (x 0).isLt
  omega

/-- A window element some piece of a list of writes covers, every other piece missing it, reads that piece. -/
theorem stores8 {n : ℕ} (hn : 8 * n ≤ 4096) (v : View sig .tc .vmem S4096x128 .f32) (f : v.ty.Contents (Elt F)) (Zs : List (View.Piece (Elt F) S4096x128 .f32))
    (h : ∀ c : Fin 8, ∀ a : Fin 2, (![n, 128] : Fin 2 → ℕ) a = 0 ∨ (![c.val, 0] : Fin 2 → ℕ) a + (![8, 1] : Fin 2 → ℕ) a * ((![n, 128] : Fin 2 → ℕ) a - 1) < S4096x128.size a)
    (p : ∀ a : Fin 2, 0 < (![8, 1] : Fin 2 → ℕ) a)
    (hz : ∀ q ∈ Zs, ∀ c : Fin 8, ∀ x : (⟨2, ![n, 128]⟩ : Shape).Idx, (⟨(⟨![c.val, 0], ![n, 128], ![8, 1], h c⟩ : LoadRect S4096x128), p⟩ : Rect S4096x128).emb x ∈ q.1.set → False)
    (P : Fin 8 → (⟨2, ![n, 128]⟩ : Shape).Idx → Elt F .f32) (c : Fin 8) (x : (⟨2, ![n, 128]⟩ : Shape).Idx) :
    v.read (Elt F) (v.writes (Elt F) f (Zs ++ ([7, 6, 5, 4, 3, 2, 1, 0] : List (Fin 8)).map fun c => (⟨⟨(⟨![c.val, 0], ![n, 128], ![8, 1], h c⟩ : LoadRect S4096x128), p⟩, P c⟩ : View.Piece (Elt F) S4096x128 .f32)))
      ((⟨(⟨![c.val, 0], ![n, 128], ![8, 1], h c⟩ : LoadRect S4096x128), p⟩ : Rect S4096x128).emb x) = P c x := by
  refine View.read_writes_of_unique v f (⟨⟨(⟨![c.val, 0], ![n, 128], ![8, 1], h c⟩ : LoadRect S4096x128), p⟩, P c⟩ : View.Piece (Elt F) S4096x128 .f32) x _ ?_ ?_
  · refine List.mem_append_right _ (List.mem_map.mpr ⟨c, ?_, rfl⟩)
    revert c; decide
  · intro q hq hm
    rcases List.mem_append.mp hq with hq | hq
    · exact (hz q hq c x hm).elim
    · obtain ⟨c', -, rfl⟩ := List.mem_map.mp hq
      obtain rfl : c = c' := Fin.ext (str_sep hn c.isLt c'.isLt x hm)
      rfl

theorem stores8z {n k m : ℕ} (hn : 8 * n ≤ 4096) (hk : k + m = 4096) (hk1 : 8 * n ≤ k) (hz) (Z) (v : View sig .tc .vmem S4096x128 .f32) (f : v.ty.Contents (Elt F)) (h0 : ∀ a : Fin 2, (![n, 128] : Fin 2 → ℕ) a = 0 ∨ (![0, 0] : Fin 2 → ℕ) a + (![8, 1] : Fin 2 → ℕ) a * ((![n, 128] : Fin 2 → ℕ) a - 1) < S4096x128.size a) (h1 : ∀ a : Fin 2, (![n, 128] : Fin 2 → ℕ) a = 0 ∨ (![1, 0] : Fin 2 → ℕ) a + (![8, 1] : Fin 2 → ℕ) a * ((![n, 128] : Fin 2 → ℕ) a - 1) < S4096x128.size a) (h2 : ∀ a : Fin 2, (![n, 128] : Fin 2 → ℕ) a = 0 ∨ (![2, 0] : Fin 2 → ℕ) a + (![8, 1] : Fin 2 → ℕ) a * ((![n, 128] : Fin 2 → ℕ) a - 1) < S4096x128.size a) (h3 : ∀ a : Fin 2, (![n, 128] : Fin 2 → ℕ) a = 0 ∨ (![3, 0] : Fin 2 → ℕ) a + (![8, 1] : Fin 2 → ℕ) a * ((![n, 128] : Fin 2 → ℕ) a - 1) < S4096x128.size a) (h4 : ∀ a : Fin 2, (![n, 128] : Fin 2 → ℕ) a = 0 ∨ (![4, 0] : Fin 2 → ℕ) a + (![8, 1] : Fin 2 → ℕ) a * ((![n, 128] : Fin 2 → ℕ) a - 1) < S4096x128.size a) (h5 : ∀ a : Fin 2, (![n, 128] : Fin 2 → ℕ) a = 0 ∨ (![5, 0] : Fin 2 → ℕ) a + (![8, 1] : Fin 2 → ℕ) a * ((![n, 128] : Fin 2 → ℕ) a - 1) < S4096x128.size a) (h6 : ∀ a : Fin 2, (![n, 128] : Fin 2 → ℕ) a = 0 ∨ (![6, 0] : Fin 2 → ℕ) a + (![8, 1] : Fin 2 → ℕ) a * ((![n, 128] : Fin 2 → ℕ) a - 1) < S4096x128.size a) (h7 : ∀ a : Fin 2, (![n, 128] : Fin 2 → ℕ) a = 0 ∨ (![7, 0] : Fin 2 → ℕ) a + (![8, 1] : Fin 2 → ℕ) a * ((![n, 128] : Fin 2 → ℕ) a - 1) < S4096x128.size a)
    (p : ∀ a : Fin 2, 0 < (![8, 1] : Fin 2 → ℕ) a) (P0 P1 P2 P3 P4 P5 P6 P7 : (⟨2, ![n, 128]⟩ : Shape).Idx → Elt F .f32) (L) (hL : L = [(⟨Rect.unit (s := S4096x128) ![k, 0] ![m, 128] hz, Z⟩ : View.Piece (Elt F) S4096x128 .f32), (⟨(⟨(⟨![7, 0], ![n, 128], ![8, 1], h7⟩ : LoadRect S4096x128), p⟩ : Rect S4096x128), P7⟩ : View.Piece (Elt F) S4096x128 .f32), (⟨(⟨(⟨![6, 0], ![n, 128], ![8, 1], h6⟩ : LoadRect S4096x128), p⟩ : Rect S4096x128), P6⟩ : View.Piece (Elt F) S4096x128 .f32), (⟨(⟨(⟨![5, 0], ![n, 128], ![8, 1], h5⟩ : LoadRect S4096x128), p⟩ : Rect S4096x128), P5⟩ : View.Piece (Elt F) S4096x128 .f32), (⟨(⟨(⟨![4, 0], ![n, 128], ![8, 1], h4⟩ : LoadRect S4096x128), p⟩ : Rect S4096x128), P4⟩ : View.Piece (Elt F) S4096x128 .f32), (⟨(⟨(⟨![3, 0], ![n, 128], ![8, 1], h3⟩ : LoadRect S4096x128), p⟩ : Rect S4096x128), P3⟩ : View.Piece (Elt F) S4096x128 .f32), (⟨(⟨(⟨![2, 0], ![n, 128], ![8, 1], h2⟩ : LoadRect S4096x128), p⟩ : Rect S4096x128), P2⟩ : View.Piece (Elt F) S4096x128 .f32), (⟨(⟨(⟨![1, 0], ![n, 128], ![8, 1], h1⟩ : LoadRect S4096x128), p⟩ : Rect S4096x128), P1⟩ : View.Piece (Elt F) S4096x128 .f32), (⟨(⟨(⟨![0, 0], ![n, 128], ![8, 1], h0⟩ : LoadRect S4096x128), p⟩ : Rect S4096x128), P0⟩ : View.Piece (Elt F) S4096x128 .f32)]) :
    (∀ x, v.read (Elt F) (v.writes (Elt F) f L) ((⟨(⟨![0, 0], ![n, 128], ![8, 1], h0⟩ : LoadRect S4096x128), p⟩ : Rect S4096x128).emb x) = P0 x)
    ∧ (∀ x, v.read (Elt F) (v.writes (Elt F) f L) ((⟨(⟨![1, 0], ![n, 128], ![8, 1], h1⟩ : LoadRect S4096x128), p⟩ : Rect S4096x128).emb x) = P1 x)
    ∧ (∀ x, v.read (Elt F) (v.writes (Elt F) f L) ((⟨(⟨![2, 0], ![n, 128], ![8, 1], h2⟩ : LoadRect S4096x128), p⟩ : Rect S4096x128).emb x) = P2 x)
    ∧ (∀ x, v.read (Elt F) (v.writes (Elt F) f L) ((⟨(⟨![3, 0], ![n, 128], ![8, 1], h3⟩ : LoadRect S4096x128), p⟩ : Rect S4096x128).emb x) = P3 x)
    ∧ (∀ x, v.read (Elt F) (v.writes (Elt F) f L) ((⟨(⟨![4, 0], ![n, 128], ![8, 1], h4⟩ : LoadRect S4096x128), p⟩ : Rect S4096x128).emb x) = P4 x)
    ∧ (∀ x, v.read (Elt F) (v.writes (Elt F) f L) ((⟨(⟨![5, 0], ![n, 128], ![8, 1], h5⟩ : LoadRect S4096x128), p⟩ : Rect S4096x128).emb x) = P5 x)
    ∧ (∀ x, v.read (Elt F) (v.writes (Elt F) f L) ((⟨(⟨![6, 0], ![n, 128], ![8, 1], h6⟩ : LoadRect S4096x128), p⟩ : Rect S4096x128).emb x) = P6 x)
    ∧ (∀ x, v.read (Elt F) (v.writes (Elt F) f L) ((⟨(⟨![7, 0], ![n, 128], ![8, 1], h7⟩ : LoadRect S4096x128), p⟩ : Rect S4096x128).emb x) = P7 x) := by
  have hh : ∀ c : Fin 8, ∀ a : Fin 2, (![n, 128] : Fin 2 → ℕ) a = 0 ∨ (![c.val, 0] : Fin 2 → ℕ) a + (![8, 1] : Fin 2 → ℕ) a * ((![n, 128] : Fin 2 → ℕ) a - 1) < S4096x128.size a := by
    intro c a; fin_cases c; exacts [h0 a, h1 a, h2 a, h3 a, h4 a, h5 a, h6 a, h7 a]
  have hst := stores8 (n := n) hn v f [⟨Rect.unit (s := S4096x128) ![k, 0] ![m, 128] hz, Z⟩] hh p (fun q hq c x hm => by obtain rfl := List.mem_singleton.mp hq; exact str_low (hlo := hz) hk hk1 c.isLt x hm)
    (fun c => (![P0, P1, P2, P3, P4, P5, P6, P7] : Fin 8 → (⟨2, ![n, 128]⟩ : Shape).Idx → Elt F .f32) c)
  subst hL
  exact ⟨hst 0, hst 1, hst 2, hst 3, hst 4, hst 5, hst 6, hst 7⟩

theorem stores8n {n : ℕ} (hn : 8 * n ≤ 4096) (v : View sig .tc .vmem S4096x128 .f32) (f : v.ty.Contents (Elt F)) (h0 : ∀ a : Fin 2, (![n, 128] : Fin 2 → ℕ) a = 0 ∨ (![0, 0] : Fin 2 → ℕ) a + (![8, 1] : Fin 2 → ℕ) a * ((![n, 128] : Fin 2 → ℕ) a - 1) < S4096x128.size a) (h1 : ∀ a : Fin 2, (![n, 128] : Fin 2 → ℕ) a = 0 ∨ (![1, 0] : Fin 2 → ℕ) a + (![8, 1] : Fin 2 → ℕ) a * ((![n, 128] : Fin 2 → ℕ) a - 1) < S4096x128.size a) (h2 : ∀ a : Fin 2, (![n, 128] : Fin 2 → ℕ) a = 0 ∨ (![2, 0] : Fin 2 → ℕ) a + (![8, 1] : Fin 2 → ℕ) a * ((![n, 128] : Fin 2 → ℕ) a - 1) < S4096x128.size a) (h3 : ∀ a : Fin 2, (![n, 128] : Fin 2 → ℕ) a = 0 ∨ (![3, 0] : Fin 2 → ℕ) a + (![8, 1] : Fin 2 → ℕ) a * ((![n, 128] : Fin 2 → ℕ) a - 1) < S4096x128.size a) (h4 : ∀ a : Fin 2, (![n, 128] : Fin 2 → ℕ) a = 0 ∨ (![4, 0] : Fin 2 → ℕ) a + (![8, 1] : Fin 2 → ℕ) a * ((![n, 128] : Fin 2 → ℕ) a - 1) < S4096x128.size a) (h5 : ∀ a : Fin 2, (![n, 128] : Fin 2 → ℕ) a = 0 ∨ (![5, 0] : Fin 2 → ℕ) a + (![8, 1] : Fin 2 → ℕ) a * ((![n, 128] : Fin 2 → ℕ) a - 1) < S4096x128.size a) (h6 : ∀ a : Fin 2, (![n, 128] : Fin 2 → ℕ) a = 0 ∨ (![6, 0] : Fin 2 → ℕ) a + (![8, 1] : Fin 2 → ℕ) a * ((![n, 128] : Fin 2 → ℕ) a - 1) < S4096x128.size a) (h7 : ∀ a : Fin 2, (![n, 128] : Fin 2 → ℕ) a = 0 ∨ (![7, 0] : Fin 2 → ℕ) a + (![8, 1] : Fin 2 → ℕ) a * ((![n, 128] : Fin 2 → ℕ) a - 1) < S4096x128.size a)
    (p : ∀ a : Fin 2, 0 < (![8, 1] : Fin 2 → ℕ) a) (P0 P1 P2 P3 P4 P5 P6 P7 : (⟨2, ![n, 128]⟩ : Shape).Idx → Elt F .f32) (L) (hL : L = [(⟨(⟨(⟨![7, 0], ![n, 128], ![8, 1], h7⟩ : LoadRect S4096x128), p⟩ : Rect S4096x128), P7⟩ : View.Piece (Elt F) S4096x128 .f32), (⟨(⟨(⟨![6, 0], ![n, 128], ![8, 1], h6⟩ : LoadRect S4096x128), p⟩ : Rect S4096x128), P6⟩ : View.Piece (Elt F) S4096x128 .f32), (⟨(⟨(⟨![5, 0], ![n, 128], ![8, 1], h5⟩ : LoadRect S4096x128), p⟩ : Rect S4096x128), P5⟩ : View.Piece (Elt F) S4096x128 .f32), (⟨(⟨(⟨![4, 0], ![n, 128], ![8, 1], h4⟩ : LoadRect S4096x128), p⟩ : Rect S4096x128), P4⟩ : View.Piece (Elt F) S4096x128 .f32), (⟨(⟨(⟨![3, 0], ![n, 128], ![8, 1], h3⟩ : LoadRect S4096x128), p⟩ : Rect S4096x128), P3⟩ : View.Piece (Elt F) S4096x128 .f32), (⟨(⟨(⟨![2, 0], ![n, 128], ![8, 1], h2⟩ : LoadRect S4096x128), p⟩ : Rect S4096x128), P2⟩ : View.Piece (Elt F) S4096x128 .f32), (⟨(⟨(⟨![1, 0], ![n, 128], ![8, 1], h1⟩ : LoadRect S4096x128), p⟩ : Rect S4096x128), P1⟩ : View.Piece (Elt F) S4096x128 .f32), (⟨(⟨(⟨![0, 0], ![n, 128], ![8, 1], h0⟩ : LoadRect S4096x128), p⟩ : Rect S4096x128), P0⟩ : View.Piece (Elt F) S4096x128 .f32)]) :
    (∀ x, v.read (Elt F) (v.writes (Elt F) f L) ((⟨(⟨![0, 0], ![n, 128], ![8, 1], h0⟩ : LoadRect S4096x128), p⟩ : Rect S4096x128).emb x) = P0 x)
    ∧ (∀ x, v.read (Elt F) (v.writes (Elt F) f L) ((⟨(⟨![1, 0], ![n, 128], ![8, 1], h1⟩ : LoadRect S4096x128), p⟩ : Rect S4096x128).emb x) = P1 x)
    ∧ (∀ x, v.read (Elt F) (v.writes (Elt F) f L) ((⟨(⟨![2, 0], ![n, 128], ![8, 1], h2⟩ : LoadRect S4096x128), p⟩ : Rect S4096x128).emb x) = P2 x)
    ∧ (∀ x, v.read (Elt F) (v.writes (Elt F) f L) ((⟨(⟨![3, 0], ![n, 128], ![8, 1], h3⟩ : LoadRect S4096x128), p⟩ : Rect S4096x128).emb x) = P3 x)
    ∧ (∀ x, v.read (Elt F) (v.writes (Elt F) f L) ((⟨(⟨![4, 0], ![n, 128], ![8, 1], h4⟩ : LoadRect S4096x128), p⟩ : Rect S4096x128).emb x) = P4 x)
    ∧ (∀ x, v.read (Elt F) (v.writes (Elt F) f L) ((⟨(⟨![5, 0], ![n, 128], ![8, 1], h5⟩ : LoadRect S4096x128), p⟩ : Rect S4096x128).emb x) = P5 x)
    ∧ (∀ x, v.read (Elt F) (v.writes (Elt F) f L) ((⟨(⟨![6, 0], ![n, 128], ![8, 1], h6⟩ : LoadRect S4096x128), p⟩ : Rect S4096x128).emb x) = P6 x)
    ∧ (∀ x, v.read (Elt F) (v.writes (Elt F) f L) ((⟨(⟨![7, 0], ![n, 128], ![8, 1], h7⟩ : LoadRect S4096x128), p⟩ : Rect S4096x128).emb x) = P7 x) := by
  have hh : ∀ c : Fin 8, ∀ a : Fin 2, (![n, 128] : Fin 2 → ℕ) a = 0 ∨ (![c.val, 0] : Fin 2 → ℕ) a + (![8, 1] : Fin 2 → ℕ) a * ((![n, 128] : Fin 2 → ℕ) a - 1) < S4096x128.size a := by
    intro c a; fin_cases c; exacts [h0 a, h1 a, h2 a, h3 a, h4 a, h5 a, h6 a, h7 a]
  have hst := stores8 (n := n) hn v f [] hh p (fun q hq => absurd hq List.not_mem_nil)
    (fun c => (![P0, P1, P2, P3, P4, P5, P6, P7] : Fin 8 → (⟨2, ![n, 128]⟩ : Shape).Idx → Elt F .f32) c)
  subst hL
  exact ⟨hst 0, hst 1, hst 2, hst 3, hst 4, hst 5, hst 6, hst 7⟩
/-- What the first product leaves for a tile of 128 rows. -/
def hid1 (X0 : S4096x128.Idx → Elt F .f32) (X1 : S1x1x2048.Idx → Elt F .f32) (A : FVec F S1024x2048 .bf16) : FVec F S128x1024 .bf16 :=
  k0_pay33 (ldr X0 (⟨![0, 0], S128x128.size, ![8, 1], inb_S4096x128_S128x128_0_0_s_8_1⟩ : LoadRect S4096x128)) (ldr X0 (⟨![1, 0], S128x128.size, ![8, 1], inb_S4096x128_S128x128_1_0_s_8_1⟩ : LoadRect S4096x128)) (ldr X0 (⟨![2, 0], S128x128.size, ![8, 1], inb_S4096x128_S128x128_2_0_s_8_1⟩ : LoadRect S4096x128)) (ldr X0 (⟨![3, 0], S128x128.size, ![8, 1], inb_S4096x128_S128x128_3_0_s_8_1⟩ : LoadRect S4096x128)) (ldr X0 (⟨![4, 0], S128x128.size, ![8, 1], inb_S4096x128_S128x128_4_0_s_8_1⟩ : LoadRect S4096x128)) (ldr X0 (⟨![5, 0], S128x128.size, ![8, 1], inb_S4096x128_S128x128_5_0_s_8_1⟩ : LoadRect S4096x128)) (ldr X0 (⟨![6, 0], S128x128.size, ![8, 1], inb_S4096x128_S128x128_6_0_s_8_1⟩ : LoadRect S4096x128)) (ldr X0 (⟨![7, 0], S128x128.size, ![8, 1], inb_S4096x128_S128x128_7_0_s_8_1⟩ : LoadRect S4096x128)) A (ldr X1 (Rect.unit (s := S1x1x2048) ![0, 0, 0] S1x1x2048.size inb_S1x1x2048_S1x1x2048_0_0_0).toLoadRect)

/-- A tile of 128 rows of the output window holds the second product, column group by column group. -/
def Good1 (X0 : S4096x128.Idx → Elt F .f32) (X1 : S1x1x2048.Idx → Elt F .f32) (X2 : S1x1x1024.Idx → Elt F .f32) (A : FVec F S1024x2048 .bf16) (B : FVec F S1024x1024 .bf16) (Y : S4096x128.Idx → Elt F .f32) : Prop :=
  (∀ x, Y ((⟨(⟨![0, 0], S128x128.size, ![8, 1], inb_S4096x128_S128x128_0_0_s_8_1⟩ : LoadRect S4096x128), spos_8_1⟩ : Rect S4096x128).emb x) = k0_pay38 (hid1 X0 X1 A) B (ldr X2 (Rect.unit (s := S1x1x1024) ![0, 0, 0] S1x1x1024.size inb_S1x1x1024_S1x1x1024_0_0_0).toLoadRect) x)
  ∧ (∀ x, Y ((⟨(⟨![1, 0], S128x128.size, ![8, 1], inb_S4096x128_S128x128_1_0_s_8_1⟩ : LoadRect S4096x128), spos_8_1⟩ : Rect S4096x128).emb x) = k0_pay39 (hid1 X0 X1 A) B (ldr X2 (Rect.unit (s := S1x1x1024) ![0, 0, 0] S1x1x1024.size inb_S1x1x1024_S1x1x1024_0_0_0).toLoadRect) x)
  ∧ (∀ x, Y ((⟨(⟨![2, 0], S128x128.size, ![8, 1], inb_S4096x128_S128x128_2_0_s_8_1⟩ : LoadRect S4096x128), spos_8_1⟩ : Rect S4096x128).emb x) = k0_pay40 (hid1 X0 X1 A) B (ldr X2 (Rect.unit (s := S1x1x1024) ![0, 0, 0] S1x1x1024.size inb_S1x1x1024_S1x1x1024_0_0_0).toLoadRect) x)
  ∧ (∀ x, Y ((⟨(⟨![3, 0], S128x128.size, ![8, 1], inb_S4096x128_S128x128_3_0_s_8_1⟩ : LoadRect S4096x128), spos_8_1⟩ : Rect S4096x128).emb x) = k0_pay41 (hid1 X0 X1 A) B (ldr X2 (Rect.unit (s := S1x1x1024) ![0, 0, 0] S1x1x1024.size inb_S1x1x1024_S1x1x1024_0_0_0).toLoadRect) x)
  ∧ (∀ x, Y ((⟨(⟨![4, 0], S128x128.size, ![8, 1], inb_S4096x128_S128x128_4_0_s_8_1⟩ : LoadRect S4096x128), spos_8_1⟩ : Rect S4096x128).emb x) = k0_pay42 (hid1 X0 X1 A) B (ldr X2 (Rect.unit (s := S1x1x1024) ![0, 0, 0] S1x1x1024.size inb_S1x1x1024_S1x1x1024_0_0_0).toLoadRect) x)
  ∧ (∀ x, Y ((⟨(⟨![5, 0], S128x128.size, ![8, 1], inb_S4096x128_S128x128_5_0_s_8_1⟩ : LoadRect S4096x128), spos_8_1⟩ : Rect S4096x128).emb x) = k0_pay43 (hid1 X0 X1 A) B (ldr X2 (Rect.unit (s := S1x1x1024) ![0, 0, 0] S1x1x1024.size inb_S1x1x1024_S1x1x1024_0_0_0).toLoadRect) x)
  ∧ (∀ x, Y ((⟨(⟨![6, 0], S128x128.size, ![8, 1], inb_S4096x128_S128x128_6_0_s_8_1⟩ : LoadRect S4096x128), spos_8_1⟩ : Rect S4096x128).emb x) = k0_pay44 (hid1 X0 X1 A) B (ldr X2 (Rect.unit (s := S1x1x1024) ![0, 0, 0] S1x1x1024.size inb_S1x1x1024_S1x1x1024_0_0_0).toLoadRect) x)
  ∧ (∀ x, Y ((⟨(⟨![7, 0], S128x128.size, ![8, 1], inb_S4096x128_S128x128_7_0_s_8_1⟩ : LoadRect S4096x128), spos_8_1⟩ : Rect S4096x128).emb x) = k0_pay45 (hid1 X0 X1 A) B (ldr X2 (Rect.unit (s := S1x1x1024) ![0, 0, 0] S1x1x1024.size inb_S1x1x1024_S1x1x1024_0_0_0).toLoadRect) x)

/-- What the first product leaves for a tile of 256 rows. -/
def hid2 (X0 : S4096x128.Idx → Elt F .f32) (X1 : S1x1x2048.Idx → Elt F .f32) (A : FVec F S1024x2048 .bf16) : FVec F S256x1024 .bf16 :=
  k0_pay34 (ldr X0 (⟨![0, 0], S256x128.size, ![8, 1], inb_S4096x128_S256x128_0_0_s_8_1⟩ : LoadRect S4096x128)) (ldr X0 (⟨![1, 0], S256x128.size, ![8, 1], inb_S4096x128_S256x128_1_0_s_8_1⟩ : LoadRect S4096x128)) (ldr X0 (⟨![2, 0], S256x128.size, ![8, 1], inb_S4096x128_S256x128_2_0_s_8_1⟩ : LoadRect S4096x128)) (ldr X0 (⟨![3, 0], S256x128.size, ![8, 1], inb_S4096x128_S256x128_3_0_s_8_1⟩ : LoadRect S4096x128)) (ldr X0 (⟨![4, 0], S256x128.size, ![8, 1], inb_S4096x128_S256x128_4_0_s_8_1⟩ : LoadRect S4096x128)) (ldr X0 (⟨![5, 0], S256x128.size, ![8, 1], inb_S4096x128_S256x128_5_0_s_8_1⟩ : LoadRect S4096x128)) (ldr X0 (⟨![6, 0], S256x128.size, ![8, 1], inb_S4096x128_S256x128_6_0_s_8_1⟩ : LoadRect S4096x128)) (ldr X0 (⟨![7, 0], S256x128.size, ![8, 1], inb_S4096x128_S256x128_7_0_s_8_1⟩ : LoadRect S4096x128)) A (ldr X1 (Rect.unit (s := S1x1x2048) ![0, 0, 0] S1x1x2048.size inb_S1x1x2048_S1x1x2048_0_0_0).toLoadRect)

/-- A tile of 256 rows of the output window holds the second product, column group by column group. -/
def Good2 (X0 : S4096x128.Idx → Elt F .f32) (X1 : S1x1x2048.Idx → Elt F .f32) (X2 : S1x1x1024.Idx → Elt F .f32) (A : FVec F S1024x2048 .bf16) (B : FVec F S1024x1024 .bf16) (Y : S4096x128.Idx → Elt F .f32) : Prop :=
  (∀ x, Y ((⟨(⟨![0, 0], S256x128.size, ![8, 1], inb_S4096x128_S256x128_0_0_s_8_1⟩ : LoadRect S4096x128), spos_8_1⟩ : Rect S4096x128).emb x) = k0_pay2 (hid2 X0 X1 A) B (ldr X2 (Rect.unit (s := S1x1x1024) ![0, 0, 0] S1x1x1024.size inb_S1x1x1024_S1x1x1024_0_0_0).toLoadRect) x)
  ∧ (∀ x, Y ((⟨(⟨![1, 0], S256x128.size, ![8, 1], inb_S4096x128_S256x128_1_0_s_8_1⟩ : LoadRect S4096x128), spos_8_1⟩ : Rect S4096x128).emb x) = k0_pay3 (hid2 X0 X1 A) B (ldr X2 (Rect.unit (s := S1x1x1024) ![0, 0, 0] S1x1x1024.size inb_S1x1x1024_S1x1x1024_0_0_0).toLoadRect) x)
  ∧ (∀ x, Y ((⟨(⟨![2, 0], S256x128.size, ![8, 1], inb_S4096x128_S256x128_2_0_s_8_1⟩ : LoadRect S4096x128), spos_8_1⟩ : Rect S4096x128).emb x) = k0_pay4 (hid2 X0 X1 A) B (ldr X2 (Rect.unit (s := S1x1x1024) ![0, 0, 0] S1x1x1024.size inb_S1x1x1024_S1x1x1024_0_0_0).toLoadRect) x)
  ∧ (∀ x, Y ((⟨(⟨![3, 0], S256x128.size, ![8, 1], inb_S4096x128_S256x128_3_0_s_8_1⟩ : LoadRect S4096x128), spos_8_1⟩ : Rect S4096x128).emb x) = k0_pay5 (hid2 X0 X1 A) B (ldr X2 (Rect.unit (s := S1x1x1024) ![0, 0, 0] S1x1x1024.size inb_S1x1x1024_S1x1x1024_0_0_0).toLoadRect) x)
  ∧ (∀ x, Y ((⟨(⟨![4, 0], S256x128.size, ![8, 1], inb_S4096x128_S256x128_4_0_s_8_1⟩ : LoadRect S4096x128), spos_8_1⟩ : Rect S4096x128).emb x) = k0_pay6 (hid2 X0 X1 A) B (ldr X2 (Rect.unit (s := S1x1x1024) ![0, 0, 0] S1x1x1024.size inb_S1x1x1024_S1x1x1024_0_0_0).toLoadRect) x)
  ∧ (∀ x, Y ((⟨(⟨![5, 0], S256x128.size, ![8, 1], inb_S4096x128_S256x128_5_0_s_8_1⟩ : LoadRect S4096x128), spos_8_1⟩ : Rect S4096x128).emb x) = k0_pay7 (hid2 X0 X1 A) B (ldr X2 (Rect.unit (s := S1x1x1024) ![0, 0, 0] S1x1x1024.size inb_S1x1x1024_S1x1x1024_0_0_0).toLoadRect) x)
  ∧ (∀ x, Y ((⟨(⟨![6, 0], S256x128.size, ![8, 1], inb_S4096x128_S256x128_6_0_s_8_1⟩ : LoadRect S4096x128), spos_8_1⟩ : Rect S4096x128).emb x) = k0_pay8 (hid2 X0 X1 A) B (ldr X2 (Rect.unit (s := S1x1x1024) ![0, 0, 0] S1x1x1024.size inb_S1x1x1024_S1x1x1024_0_0_0).toLoadRect) x)
  ∧ (∀ x, Y ((⟨(⟨![7, 0], S256x128.size, ![8, 1], inb_S4096x128_S256x128_7_0_s_8_1⟩ : LoadRect S4096x128), spos_8_1⟩ : Rect S4096x128).emb x) = k0_pay9 (hid2 X0 X1 A) B (ldr X2 (Rect.unit (s := S1x1x1024) ![0, 0, 0] S1x1x1024.size inb_S1x1x1024_S1x1x1024_0_0_0).toLoadRect) x)

/-- What the first product leaves for a tile of 384 rows. -/
def hid3 (X0 : S4096x128.Idx → Elt F .f32) (X1 : S1x1x2048.Idx → Elt F .f32) (A : FVec F S1024x2048 .bf16) : FVec F S384x1024 .bf16 :=
  k0_pay35 (ldr X0 (⟨![0, 0], S384x128.size, ![8, 1], inb_S4096x128_S384x128_0_0_s_8_1⟩ : LoadRect S4096x128)) (ldr X0 (⟨![1, 0], S384x128.size, ![8, 1], inb_S4096x128_S384x128_1_0_s_8_1⟩ : LoadRect S4096x128)) (ldr X0 (⟨![2, 0], S384x128.size, ![8, 1], inb_S4096x128_S384x128_2_0_s_8_1⟩ : LoadRect S4096x128)) (ldr X0 (⟨![3, 0], S384x128.size, ![8, 1], inb_S4096x128_S384x128_3_0_s_8_1⟩ : LoadRect S4096x128)) (ldr X0 (⟨![4, 0], S384x128.size, ![8, 1], inb_S4096x128_S384x128_4_0_s_8_1⟩ : LoadRect S4096x128)) (ldr X0 (⟨![5, 0], S384x128.size, ![8, 1], inb_S4096x128_S384x128_5_0_s_8_1⟩ : LoadRect S4096x128)) (ldr X0 (⟨![6, 0], S384x128.size, ![8, 1], inb_S4096x128_S384x128_6_0_s_8_1⟩ : LoadRect S4096x128)) (ldr X0 (⟨![7, 0], S384x128.size, ![8, 1], inb_S4096x128_S384x128_7_0_s_8_1⟩ : LoadRect S4096x128)) A (ldr X1 (Rect.unit (s := S1x1x2048) ![0, 0, 0] S1x1x2048.size inb_S1x1x2048_S1x1x2048_0_0_0).toLoadRect)

/-- A tile of 384 rows of the output window holds the second product, column group by column group. -/
def Good3 (X0 : S4096x128.Idx → Elt F .f32) (X1 : S1x1x2048.Idx → Elt F .f32) (X2 : S1x1x1024.Idx → Elt F .f32) (A : FVec F S1024x2048 .bf16) (B : FVec F S1024x1024 .bf16) (Y : S4096x128.Idx → Elt F .f32) : Prop :=
  (∀ x, Y ((⟨(⟨![0, 0], S384x128.size, ![8, 1], inb_S4096x128_S384x128_0_0_s_8_1⟩ : LoadRect S4096x128), spos_8_1⟩ : Rect S4096x128).emb x) = k0_pay12 (hid3 X0 X1 A) B (ldr X2 (Rect.unit (s := S1x1x1024) ![0, 0, 0] S1x1x1024.size inb_S1x1x1024_S1x1x1024_0_0_0).toLoadRect) x)
  ∧ (∀ x, Y ((⟨(⟨![1, 0], S384x128.size, ![8, 1], inb_S4096x128_S384x128_1_0_s_8_1⟩ : LoadRect S4096x128), spos_8_1⟩ : Rect S4096x128).emb x) = k0_pay13 (hid3 X0 X1 A) B (ldr X2 (Rect.unit (s := S1x1x1024) ![0, 0, 0] S1x1x1024.size inb_S1x1x1024_S1x1x1024_0_0_0).toLoadRect) x)
  ∧ (∀ x, Y ((⟨(⟨![2, 0], S384x128.size, ![8, 1], inb_S4096x128_S384x128_2_0_s_8_1⟩ : LoadRect S4096x128), spos_8_1⟩ : Rect S4096x128).emb x) = k0_pay14 (hid3 X0 X1 A) B (ldr X2 (Rect.unit (s := S1x1x1024) ![0, 0, 0] S1x1x1024.size inb_S1x1x1024_S1x1x1024_0_0_0).toLoadRect) x)
  ∧ (∀ x, Y ((⟨(⟨![3, 0], S384x128.size, ![8, 1], inb_S4096x128_S384x128_3_0_s_8_1⟩ : LoadRect S4096x128), spos_8_1⟩ : Rect S4096x128).emb x) = k0_pay15 (hid3 X0 X1 A) B (ldr X2 (Rect.unit (s := S1x1x1024) ![0, 0, 0] S1x1x1024.size inb_S1x1x1024_S1x1x1024_0_0_0).toLoadRect) x)
  ∧ (∀ x, Y ((⟨(⟨![4, 0], S384x128.size, ![8, 1], inb_S4096x128_S384x128_4_0_s_8_1⟩ : LoadRect S4096x128), spos_8_1⟩ : Rect S4096x128).emb x) = k0_pay16 (hid3 X0 X1 A) B (ldr X2 (Rect.unit (s := S1x1x1024) ![0, 0, 0] S1x1x1024.size inb_S1x1x1024_S1x1x1024_0_0_0).toLoadRect) x)
  ∧ (∀ x, Y ((⟨(⟨![5, 0], S384x128.size, ![8, 1], inb_S4096x128_S384x128_5_0_s_8_1⟩ : LoadRect S4096x128), spos_8_1⟩ : Rect S4096x128).emb x) = k0_pay17 (hid3 X0 X1 A) B (ldr X2 (Rect.unit (s := S1x1x1024) ![0, 0, 0] S1x1x1024.size inb_S1x1x1024_S1x1x1024_0_0_0).toLoadRect) x)
  ∧ (∀ x, Y ((⟨(⟨![6, 0], S384x128.size, ![8, 1], inb_S4096x128_S384x128_6_0_s_8_1⟩ : LoadRect S4096x128), spos_8_1⟩ : Rect S4096x128).emb x) = k0_pay18 (hid3 X0 X1 A) B (ldr X2 (Rect.unit (s := S1x1x1024) ![0, 0, 0] S1x1x1024.size inb_S1x1x1024_S1x1x1024_0_0_0).toLoadRect) x)
  ∧ (∀ x, Y ((⟨(⟨![7, 0], S384x128.size, ![8, 1], inb_S4096x128_S384x128_7_0_s_8_1⟩ : LoadRect S4096x128), spos_8_1⟩ : Rect S4096x128).emb x) = k0_pay19 (hid3 X0 X1 A) B (ldr X2 (Rect.unit (s := S1x1x1024) ![0, 0, 0] S1x1x1024.size inb_S1x1x1024_S1x1x1024_0_0_0).toLoadRect) x)

/-- What the first product leaves for a tile of 512 rows. -/
def hid4 (X0 : S4096x128.Idx → Elt F .f32) (X1 : S1x1x2048.Idx → Elt F .f32) (A : FVec F S1024x2048 .bf16) : FVec F S512x1024 .bf16 :=
  k0_pay36 (ldr X0 (⟨![0, 0], S512x128.size, ![8, 1], inb_S4096x128_S512x128_0_0_s_8_1⟩ : LoadRect S4096x128)) (ldr X0 (⟨![1, 0], S512x128.size, ![8, 1], inb_S4096x128_S512x128_1_0_s_8_1⟩ : LoadRect S4096x128)) (ldr X0 (⟨![2, 0], S512x128.size, ![8, 1], inb_S4096x128_S512x128_2_0_s_8_1⟩ : LoadRect S4096x128)) (ldr X0 (⟨![3, 0], S512x128.size, ![8, 1], inb_S4096x128_S512x128_3_0_s_8_1⟩ : LoadRect S4096x128)) (ldr X0 (⟨![4, 0], S512x128.size, ![8, 1], inb_S4096x128_S512x128_4_0_s_8_1⟩ : LoadRect S4096x128)) (ldr X0 (⟨![5, 0], S512x128.size, ![8, 1], inb_S4096x128_S512x128_5_0_s_8_1⟩ : LoadRect S4096x128)) (ldr X0 (⟨![6, 0], S512x128.size, ![8, 1], inb_S4096x128_S512x128_6_0_s_8_1⟩ : LoadRect S4096x128)) (ldr X0 (⟨![7, 0], S512x128.size, ![8, 1], inb_S4096x128_S512x128_7_0_s_8_1⟩ : LoadRect S4096x128)) A (ldr X1 (Rect.unit (s := S1x1x2048) ![0, 0, 0] S1x1x2048.size inb_S1x1x2048_S1x1x2048_0_0_0).toLoadRect)

/-- A tile of 512 rows of the output window holds the second product, column group by column group. -/
def Good4 (X0 : S4096x128.Idx → Elt F .f32) (X1 : S1x1x2048.Idx → Elt F .f32) (X2 : S1x1x1024.Idx → Elt F .f32) (A : FVec F S1024x2048 .bf16) (B : FVec F S1024x1024 .bf16) (Y : S4096x128.Idx → Elt F .f32) : Prop :=
  (∀ x, Y ((⟨(⟨![0, 0], S512x128.size, ![8, 1], inb_S4096x128_S512x128_0_0_s_8_1⟩ : LoadRect S4096x128), spos_8_1⟩ : Rect S4096x128).emb x) = k0_pay22 (hid4 X0 X1 A) B (ldr X2 (Rect.unit (s := S1x1x1024) ![0, 0, 0] S1x1x1024.size inb_S1x1x1024_S1x1x1024_0_0_0).toLoadRect) x)
  ∧ (∀ x, Y ((⟨(⟨![1, 0], S512x128.size, ![8, 1], inb_S4096x128_S512x128_1_0_s_8_1⟩ : LoadRect S4096x128), spos_8_1⟩ : Rect S4096x128).emb x) = k0_pay23 (hid4 X0 X1 A) B (ldr X2 (Rect.unit (s := S1x1x1024) ![0, 0, 0] S1x1x1024.size inb_S1x1x1024_S1x1x1024_0_0_0).toLoadRect) x)
  ∧ (∀ x, Y ((⟨(⟨![2, 0], S512x128.size, ![8, 1], inb_S4096x128_S512x128_2_0_s_8_1⟩ : LoadRect S4096x128), spos_8_1⟩ : Rect S4096x128).emb x) = k0_pay24 (hid4 X0 X1 A) B (ldr X2 (Rect.unit (s := S1x1x1024) ![0, 0, 0] S1x1x1024.size inb_S1x1x1024_S1x1x1024_0_0_0).toLoadRect) x)
  ∧ (∀ x, Y ((⟨(⟨![3, 0], S512x128.size, ![8, 1], inb_S4096x128_S512x128_3_0_s_8_1⟩ : LoadRect S4096x128), spos_8_1⟩ : Rect S4096x128).emb x) = k0_pay25 (hid4 X0 X1 A) B (ldr X2 (Rect.unit (s := S1x1x1024) ![0, 0, 0] S1x1x1024.size inb_S1x1x1024_S1x1x1024_0_0_0).toLoadRect) x)
  ∧ (∀ x, Y ((⟨(⟨![4, 0], S512x128.size, ![8, 1], inb_S4096x128_S512x128_4_0_s_8_1⟩ : LoadRect S4096x128), spos_8_1⟩ : Rect S4096x128).emb x) = k0_pay26 (hid4 X0 X1 A) B (ldr X2 (Rect.unit (s := S1x1x1024) ![0, 0, 0] S1x1x1024.size inb_S1x1x1024_S1x1x1024_0_0_0).toLoadRect) x)
  ∧ (∀ x, Y ((⟨(⟨![5, 0], S512x128.size, ![8, 1], inb_S4096x128_S512x128_5_0_s_8_1⟩ : LoadRect S4096x128), spos_8_1⟩ : Rect S4096x128).emb x) = k0_pay27 (hid4 X0 X1 A) B (ldr X2 (Rect.unit (s := S1x1x1024) ![0, 0, 0] S1x1x1024.size inb_S1x1x1024_S1x1x1024_0_0_0).toLoadRect) x)
  ∧ (∀ x, Y ((⟨(⟨![6, 0], S512x128.size, ![8, 1], inb_S4096x128_S512x128_6_0_s_8_1⟩ : LoadRect S4096x128), spos_8_1⟩ : Rect S4096x128).emb x) = k0_pay28 (hid4 X0 X1 A) B (ldr X2 (Rect.unit (s := S1x1x1024) ![0, 0, 0] S1x1x1024.size inb_S1x1x1024_S1x1x1024_0_0_0).toLoadRect) x)
  ∧ (∀ x, Y ((⟨(⟨![7, 0], S512x128.size, ![8, 1], inb_S4096x128_S512x128_7_0_s_8_1⟩ : LoadRect S4096x128), spos_8_1⟩ : Rect S4096x128).emb x) = k0_pay29 (hid4 X0 X1 A) B (ldr X2 (Rect.unit (s := S1x1x1024) ![0, 0, 0] S1x1x1024.size inb_S1x1x1024_S1x1x1024_0_0_0).toLoadRect) x)

noncomputable def tail6 (i : grid0.Coords) (arg1 : Memref sig .tc .smem S1x256 .i32) (harg1 : arg1.IsWhole) (arg2 : Memref sig .tc .smem S1x128 .i32) (harg2 : arg2.IsWhole) (arg3 : Memref sig .tc .smem S1x256 .i32) (harg3 : arg3.IsWhole) (arg4 : Memref sig .tc .smem S1x256 .i32) (harg4 : arg4.IsWhole) (arg5 : Memref sig .tc .vmem S4096x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S2x1024x2048 .f32) (harg11 : arg11.IsWhole) (arg12 : Memref sig .tc .vmem S2x1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .smem S1 .i32) (harg15 : arg15.IsWhole) (arg16 : DmaSems sig S2x2) (v0 : Elt F .i32) :
    Prog (TpuEff nD τ sig (Elt F) (Λ₀ F) .tc) (Σ' (v0 : Elt F .i32) (v7 : BitVec 1) (v22 : Elt F .i32) (v33 : BitVec 32), BitVec 32) := do
  let v7 : BitVec 1 := Scalar.cmpi .slt (BitVec.ofNat 32 (i 0).val) v0
  let v22 : Elt F .i32 ← smemLoad arg3 (Rect.unit (s := S1x256) (k0_off21 i) S1x1.size (k0_off21_inb i)) numel1_S1x1 rfl
  if k0_h4 : k0_cond4 i v0 v22 = 1#1 then do
    let v81 : FVec F S128x1024 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let v82 : Vec F S1024x1024 .bf16 ← Prog.lift (.load arg14 (Rect.unit (s := S1024x1024) ![0, 0] S1024x1024.size inb_S1024x1024_S1024x1024_0_0).toLoadRect (View.loadsAt_vmem h_S1024x1024))
    let v84 : Vec F S1x1x1024 .f32 ← Prog.lift (.load arg9 (Rect.unit (s := S1x1x1024) ![0, 0, 0] S1x1x1024.size inb_S1x1x1024_S1x1x1024_0_0_0).toLoadRect (View.loadsAt_vmem h_S1x1x1024))
    let v89 : Vec F S128x128 .f32 ← Prog.lift (.load arg10 (⟨![0, 0], S128x128.size, ![8, 1], inb_S4096x128_S128x128_0_0_s_8_1⟩ : LoadRect S4096x128) (View.loadsAt_vmem h_S128x128))
    Prog.lift (.store arg10 ⟨(⟨![0, 0], S128x128.size, ![8, 1], inb_S4096x128_S128x128_0_0_s_8_1⟩ : LoadRect S4096x128), spos_8_1⟩ (k0_pay38 v81 v82 v84) Finset.univ (View.stores_vmem_bits_univ h_S128x128 rfl) (.inl rfl))
    let v91 : Vec F S128x128 .f32 ← Prog.lift (.load arg10 (⟨![1, 0], S128x128.size, ![8, 1], inb_S4096x128_S128x128_1_0_s_8_1⟩ : LoadRect S4096x128) (View.loadsAt_vmem h_S128x128))
    Prog.lift (.store arg10 ⟨(⟨![1, 0], S128x128.size, ![8, 1], inb_S4096x128_S128x128_1_0_s_8_1⟩ : LoadRect S4096x128), spos_8_1⟩ (k0_pay39 v81 v82 v84) Finset.univ (View.stores_vmem_bits_univ h_S128x128 rfl) (.inl rfl))
    let v93 : Vec F S128x128 .f32 ← Prog.lift (.load arg10 (⟨![2, 0], S128x128.size, ![8, 1], inb_S4096x128_S128x128_2_0_s_8_1⟩ : LoadRect S4096x128) (View.loadsAt_vmem h_S128x128))
    Prog.lift (.store arg10 ⟨(⟨![2, 0], S128x128.size, ![8, 1], inb_S4096x128_S128x128_2_0_s_8_1⟩ : LoadRect S4096x128), spos_8_1⟩ (k0_pay40 v81 v82 v84) Finset.univ (View.stores_vmem_bits_univ h_S128x128 rfl) (.inl rfl))
    let v95 : Vec F S128x128 .f32 ← Prog.lift (.load arg10 (⟨![3, 0], S128x128.size, ![8, 1], inb_S4096x128_S128x128_3_0_s_8_1⟩ : LoadRect S4096x128) (View.loadsAt_vmem h_S128x128))
    Prog.lift (.store arg10 ⟨(⟨![3, 0], S128x128.size, ![8, 1], inb_S4096x128_S128x128_3_0_s_8_1⟩ : LoadRect S4096x128), spos_8_1⟩ (k0_pay41 v81 v82 v84) Finset.univ (View.stores_vmem_bits_univ h_S128x128 rfl) (.inl rfl))
    let v97 : Vec F S128x128 .f32 ← Prog.lift (.load arg10 (⟨![4, 0], S128x128.size, ![8, 1], inb_S4096x128_S128x128_4_0_s_8_1⟩ : LoadRect S4096x128) (View.loadsAt_vmem h_S128x128))
    Prog.lift (.store arg10 ⟨(⟨![4, 0], S128x128.size, ![8, 1], inb_S4096x128_S128x128_4_0_s_8_1⟩ : LoadRect S4096x128), spos_8_1⟩ (k0_pay42 v81 v82 v84) Finset.univ (View.stores_vmem_bits_univ h_S128x128 rfl) (.inl rfl))
    let v99 : Vec F S128x128 .f32 ← Prog.lift (.load arg10 (⟨![5, 0], S128x128.size, ![8, 1], inb_S4096x128_S128x128_5_0_s_8_1⟩ : LoadRect S4096x128) (View.loadsAt_vmem h_S128x128))
    Prog.lift (.store arg10 ⟨(⟨![5, 0], S128x128.size, ![8, 1], inb_S4096x128_S128x128_5_0_s_8_1⟩ : LoadRect S4096x128), spos_8_1⟩ (k0_pay43 v81 v82 v84) Finset.univ (View.stores_vmem_bits_univ h_S128x128 rfl) (.inl rfl))
    let v101 : Vec F S128x128 .f32 ← Prog.lift (.load arg10 (⟨![6, 0], S128x128.size, ![8, 1], inb_S4096x128_S128x128_6_0_s_8_1⟩ : LoadRect S4096x128) (View.loadsAt_vmem h_S128x128))
    Prog.lift (.store arg10 ⟨(⟨![6, 0], S128x128.size, ![8, 1], inb_S4096x128_S128x128_6_0_s_8_1⟩ : LoadRect S4096x128), spos_8_1⟩ (k0_pay44 v81 v82 v84) Finset.univ (View.stores_vmem_bits_univ h_S128x128 rfl) (.inl rfl))
    let v103 : Vec F S128x128 .f32 ← Prog.lift (.load arg10 (⟨![7, 0], S128x128.size, ![8, 1], inb_S4096x128_S128x128_7_0_s_8_1⟩ : LoadRect S4096x128) (View.loadsAt_vmem h_S128x128))
    Prog.lift (.store arg10 ⟨(⟨![7, 0], S128x128.size, ![8, 1], inb_S4096x128_S128x128_7_0_s_8_1⟩ : LoadRect S4096x128), spos_8_1⟩ (k0_pay45 v81 v82 v84) Finset.univ (View.stores_vmem_bits_univ h_S128x128 rfl) (.inl rfl))
    let v105 : Vec F S3072x128 .f32 ← Prog.lift (.load arg10 (Rect.unit (s := S4096x128) ![1024, 0] S3072x128.size inb_S4096x128_S3072x128_1024_0).toLoadRect (View.loadsAt_vmem h_S3072x128))
    Prog.lift (.store arg10 (Rect.unit (s := S4096x128) ![1024, 0] S3072x128.size inb_S4096x128_S3072x128_1024_0) (k0_pay46 (F := F)) Finset.univ (View.stores_vmem_bits_univ h_S3072x128 rfl) (.inl rfl))
    pure ⟨⟩
  else do
    pure ⟨⟩
  let v29 : BitVec 1 := Scalar.cmpi .sgt v22 128#32
  let v30 : BitVec 1 := Scalar.andi v7 v29
  let v31 : BitVec 1 := Scalar.cmpi .sle v22 256#32
  let v32 : BitVec 1 := Scalar.andi v30 v31
  let v33 : BitVec 32 := Scalar.extui v32
  pure ⟨v0, v7, v22, v33, 0#32⟩

noncomputable def tail2 (i : grid0.Coords) (arg1 : Memref sig .tc .smem S1x256 .i32) (harg1 : arg1.IsWhole) (arg2 : Memref sig .tc .smem S1x128 .i32) (harg2 : arg2.IsWhole) (arg3 : Memref sig .tc .smem S1x256 .i32) (harg3 : arg3.IsWhole) (arg4 : Memref sig .tc .smem S1x256 .i32) (harg4 : arg4.IsWhole) (arg5 : Memref sig .tc .vmem S4096x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S2x1024x2048 .f32) (harg11 : arg11.IsWhole) (arg12 : Memref sig .tc .vmem S2x1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .smem S1 .i32) (harg15 : arg15.IsWhole) (arg16 : DmaSems sig S2x2) (v0 v22 : Elt F .i32) :
    Prog (TpuEff nD τ sig (Elt F) (Λ₀ F) .tc) PUnit := do
  if k0_h5 : k0_cond5 i v0 v22 = 1#1 then do
    let v81 : FVec F S256x1024 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let v82 : Vec F S1024x1024 .bf16 ← Prog.lift (.load arg14 (Rect.unit (s := S1024x1024) ![0, 0] S1024x1024.size inb_S1024x1024_S1024x1024_0_0).toLoadRect (View.loadsAt_vmem h_S1024x1024))
    let v84 : Vec F S1x1x1024 .f32 ← Prog.lift (.load arg9 (Rect.unit (s := S1x1x1024) ![0, 0, 0] S1x1x1024.size inb_S1x1x1024_S1x1x1024_0_0_0).toLoadRect (View.loadsAt_vmem h_S1x1x1024))
    let v89 : Vec F S256x128 .f32 ← Prog.lift (.load arg10 (⟨![0, 0], S256x128.size, ![8, 1], inb_S4096x128_S256x128_0_0_s_8_1⟩ : LoadRect S4096x128) (View.loadsAt_vmem h_S256x128))
    Prog.lift (.store arg10 ⟨(⟨![0, 0], S256x128.size, ![8, 1], inb_S4096x128_S256x128_0_0_s_8_1⟩ : LoadRect S4096x128), spos_8_1⟩ (k0_pay2 v81 v82 v84) Finset.univ (View.stores_vmem_bits_univ h_S256x128 rfl) (.inl rfl))
    let v91 : Vec F S256x128 .f32 ← Prog.lift (.load arg10 (⟨![1, 0], S256x128.size, ![8, 1], inb_S4096x128_S256x128_1_0_s_8_1⟩ : LoadRect S4096x128) (View.loadsAt_vmem h_S256x128))
    Prog.lift (.store arg10 ⟨(⟨![1, 0], S256x128.size, ![8, 1], inb_S4096x128_S256x128_1_0_s_8_1⟩ : LoadRect S4096x128), spos_8_1⟩ (k0_pay3 v81 v82 v84) Finset.univ (View.stores_vmem_bits_univ h_S256x128 rfl) (.inl rfl))
    let v93 : Vec F S256x128 .f32 ← Prog.lift (.load arg10 (⟨![2, 0], S256x128.size, ![8, 1], inb_S4096x128_S256x128_2_0_s_8_1⟩ : LoadRect S4096x128) (View.loadsAt_vmem h_S256x128))
    Prog.lift (.store arg10 ⟨(⟨![2, 0], S256x128.size, ![8, 1], inb_S4096x128_S256x128_2_0_s_8_1⟩ : LoadRect S4096x128), spos_8_1⟩ (k0_pay4 v81 v82 v84) Finset.univ (View.stores_vmem_bits_univ h_S256x128 rfl) (.inl rfl))
    let v95 : Vec F S256x128 .f32 ← Prog.lift (.load arg10 (⟨![3, 0], S256x128.size, ![8, 1], inb_S4096x128_S256x128_3_0_s_8_1⟩ : LoadRect S4096x128) (View.loadsAt_vmem h_S256x128))
    Prog.lift (.store arg10 ⟨(⟨![3, 0], S256x128.size, ![8, 1], inb_S4096x128_S256x128_3_0_s_8_1⟩ : LoadRect S4096x128), spos_8_1⟩ (k0_pay5 v81 v82 v84) Finset.univ (View.stores_vmem_bits_univ h_S256x128 rfl) (.inl rfl))
    let v97 : Vec F S256x128 .f32 ← Prog.lift (.load arg10 (⟨![4, 0], S256x128.size, ![8, 1], inb_S4096x128_S256x128_4_0_s_8_1⟩ : LoadRect S4096x128) (View.loadsAt_vmem h_S256x128))
    Prog.lift (.store arg10 ⟨(⟨![4, 0], S256x128.size, ![8, 1], inb_S4096x128_S256x128_4_0_s_8_1⟩ : LoadRect S4096x128), spos_8_1⟩ (k0_pay6 v81 v82 v84) Finset.univ (View.stores_vmem_bits_univ h_S256x128 rfl) (.inl rfl))
    let v99 : Vec F S256x128 .f32 ← Prog.lift (.load arg10 (⟨![5, 0], S256x128.size, ![8, 1], inb_S4096x128_S256x128_5_0_s_8_1⟩ : LoadRect S4096x128) (View.loadsAt_vmem h_S256x128))
    Prog.lift (.store arg10 ⟨(⟨![5, 0], S256x128.size, ![8, 1], inb_S4096x128_S256x128_5_0_s_8_1⟩ : LoadRect S4096x128), spos_8_1⟩ (k0_pay7 v81 v82 v84) Finset.univ (View.stores_vmem_bits_univ h_S256x128 rfl) (.inl rfl))
    let v101 : Vec F S256x128 .f32 ← Prog.lift (.load arg10 (⟨![6, 0], S256x128.size, ![8, 1], inb_S4096x128_S256x128_6_0_s_8_1⟩ : LoadRect S4096x128) (View.loadsAt_vmem h_S256x128))
    Prog.lift (.store arg10 ⟨(⟨![6, 0], S256x128.size, ![8, 1], inb_S4096x128_S256x128_6_0_s_8_1⟩ : LoadRect S4096x128), spos_8_1⟩ (k0_pay8 v81 v82 v84) Finset.univ (View.stores_vmem_bits_univ h_S256x128 rfl) (.inl rfl))
    let v103 : Vec F S256x128 .f32 ← Prog.lift (.load arg10 (⟨![7, 0], S256x128.size, ![8, 1], inb_S4096x128_S256x128_7_0_s_8_1⟩ : LoadRect S4096x128) (View.loadsAt_vmem h_S256x128))
    Prog.lift (.store arg10 ⟨(⟨![7, 0], S256x128.size, ![8, 1], inb_S4096x128_S256x128_7_0_s_8_1⟩ : LoadRect S4096x128), spos_8_1⟩ (k0_pay9 v81 v82 v84) Finset.univ (View.stores_vmem_bits_univ h_S256x128 rfl) (.inl rfl))
    let v105 : Vec F S2048x128 .f32 ← Prog.lift (.load arg10 (Rect.unit (s := S4096x128) ![2048, 0] S2048x128.size inb_S4096x128_S2048x128_2048_0).toLoadRect (View.loadsAt_vmem h_S2048x128))
    Prog.lift (.store arg10 (Rect.unit (s := S4096x128) ![2048, 0] S2048x128.size inb_S4096x128_S2048x128_2048_0) (k0_pay10 (F := F)) Finset.univ (View.stores_vmem_bits_univ h_S2048x128 rfl) (.inl rfl))
    pure ⟨⟩
  else do
    pure ⟨⟩
  if k0_h6 : k0_cond6 i v0 v22 = 1#1 then do
    let v81 : FVec F S384x1024 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let v82 : Vec F S1024x1024 .bf16 ← Prog.lift (.load arg14 (Rect.unit (s := S1024x1024) ![0, 0] S1024x1024.size inb_S1024x1024_S1024x1024_0_0).toLoadRect (View.loadsAt_vmem h_S1024x1024))
    let v84 : Vec F S1x1x1024 .f32 ← Prog.lift (.load arg9 (Rect.unit (s := S1x1x1024) ![0, 0, 0] S1x1x1024.size inb_S1x1x1024_S1x1x1024_0_0_0).toLoadRect (View.loadsAt_vmem h_S1x1x1024))
    let v89 : Vec F S384x128 .f32 ← Prog.lift (.load arg10 (⟨![0, 0], S384x128.size, ![8, 1], inb_S4096x128_S384x128_0_0_s_8_1⟩ : LoadRect S4096x128) (View.loadsAt_vmem h_S384x128))
    Prog.lift (.store arg10 ⟨(⟨![0, 0], S384x128.size, ![8, 1], inb_S4096x128_S384x128_0_0_s_8_1⟩ : LoadRect S4096x128), spos_8_1⟩ (k0_pay12 v81 v82 v84) Finset.univ (View.stores_vmem_bits_univ h_S384x128 rfl) (.inl rfl))
    let v91 : Vec F S384x128 .f32 ← Prog.lift (.load arg10 (⟨![1, 0], S384x128.size, ![8, 1], inb_S4096x128_S384x128_1_0_s_8_1⟩ : LoadRect S4096x128) (View.loadsAt_vmem h_S384x128))
    Prog.lift (.store arg10 ⟨(⟨![1, 0], S384x128.size, ![8, 1], inb_S4096x128_S384x128_1_0_s_8_1⟩ : LoadRect S4096x128), spos_8_1⟩ (k0_pay13 v81 v82 v84) Finset.univ (View.stores_vmem_bits_univ h_S384x128 rfl) (.inl rfl))
    let v93 : Vec F S384x128 .f32 ← Prog.lift (.load arg10 (⟨![2, 0], S384x128.size, ![8, 1], inb_S4096x128_S384x128_2_0_s_8_1⟩ : LoadRect S4096x128) (View.loadsAt_vmem h_S384x128))
    Prog.lift (.store arg10 ⟨(⟨![2, 0], S384x128.size, ![8, 1], inb_S4096x128_S384x128_2_0_s_8_1⟩ : LoadRect S4096x128), spos_8_1⟩ (k0_pay14 v81 v82 v84) Finset.univ (View.stores_vmem_bits_univ h_S384x128 rfl) (.inl rfl))
    let v95 : Vec F S384x128 .f32 ← Prog.lift (.load arg10 (⟨![3, 0], S384x128.size, ![8, 1], inb_S4096x128_S384x128_3_0_s_8_1⟩ : LoadRect S4096x128) (View.loadsAt_vmem h_S384x128))
    Prog.lift (.store arg10 ⟨(⟨![3, 0], S384x128.size, ![8, 1], inb_S4096x128_S384x128_3_0_s_8_1⟩ : LoadRect S4096x128), spos_8_1⟩ (k0_pay15 v81 v82 v84) Finset.univ (View.stores_vmem_bits_univ h_S384x128 rfl) (.inl rfl))
    let v97 : Vec F S384x128 .f32 ← Prog.lift (.load arg10 (⟨![4, 0], S384x128.size, ![8, 1], inb_S4096x128_S384x128_4_0_s_8_1⟩ : LoadRect S4096x128) (View.loadsAt_vmem h_S384x128))
    Prog.lift (.store arg10 ⟨(⟨![4, 0], S384x128.size, ![8, 1], inb_S4096x128_S384x128_4_0_s_8_1⟩ : LoadRect S4096x128), spos_8_1⟩ (k0_pay16 v81 v82 v84) Finset.univ (View.stores_vmem_bits_univ h_S384x128 rfl) (.inl rfl))
    let v99 : Vec F S384x128 .f32 ← Prog.lift (.load arg10 (⟨![5, 0], S384x128.size, ![8, 1], inb_S4096x128_S384x128_5_0_s_8_1⟩ : LoadRect S4096x128) (View.loadsAt_vmem h_S384x128))
    Prog.lift (.store arg10 ⟨(⟨![5, 0], S384x128.size, ![8, 1], inb_S4096x128_S384x128_5_0_s_8_1⟩ : LoadRect S4096x128), spos_8_1⟩ (k0_pay17 v81 v82 v84) Finset.univ (View.stores_vmem_bits_univ h_S384x128 rfl) (.inl rfl))
    let v101 : Vec F S384x128 .f32 ← Prog.lift (.load arg10 (⟨![6, 0], S384x128.size, ![8, 1], inb_S4096x128_S384x128_6_0_s_8_1⟩ : LoadRect S4096x128) (View.loadsAt_vmem h_S384x128))
    Prog.lift (.store arg10 ⟨(⟨![6, 0], S384x128.size, ![8, 1], inb_S4096x128_S384x128_6_0_s_8_1⟩ : LoadRect S4096x128), spos_8_1⟩ (k0_pay18 v81 v82 v84) Finset.univ (View.stores_vmem_bits_univ h_S384x128 rfl) (.inl rfl))
    let v103 : Vec F S384x128 .f32 ← Prog.lift (.load arg10 (⟨![7, 0], S384x128.size, ![8, 1], inb_S4096x128_S384x128_7_0_s_8_1⟩ : LoadRect S4096x128) (View.loadsAt_vmem h_S384x128))
    Prog.lift (.store arg10 ⟨(⟨![7, 0], S384x128.size, ![8, 1], inb_S4096x128_S384x128_7_0_s_8_1⟩ : LoadRect S4096x128), spos_8_1⟩ (k0_pay19 v81 v82 v84) Finset.univ (View.stores_vmem_bits_univ h_S384x128 rfl) (.inl rfl))
    let v105 : Vec F S1024x128 .f32 ← Prog.lift (.load arg10 (Rect.unit (s := S4096x128) ![3072, 0] S1024x128.size inb_S4096x128_S1024x128_3072_0).toLoadRect (View.loadsAt_vmem h_S1024x128))
    Prog.lift (.store arg10 (Rect.unit (s := S4096x128) ![3072, 0] S1024x128.size inb_S4096x128_S1024x128_3072_0) (k0_pay20 (F := F)) Finset.univ (View.stores_vmem_bits_univ h_S1024x128 rfl) (.inl rfl))
    pure ⟨⟩
  else do
    pure ⟨⟩
  if k0_h7 : k0_cond7 i v0 v22 = 1#1 then do
    let v81 : FVec F S512x1024 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let v82 : Vec F S1024x1024 .bf16 ← Prog.lift (.load arg14 (Rect.unit (s := S1024x1024) ![0, 0] S1024x1024.size inb_S1024x1024_S1024x1024_0_0).toLoadRect (View.loadsAt_vmem h_S1024x1024))
    let v84 : Vec F S1x1x1024 .f32 ← Prog.lift (.load arg9 (Rect.unit (s := S1x1x1024) ![0, 0, 0] S1x1x1024.size inb_S1x1x1024_S1x1x1024_0_0_0).toLoadRect (View.loadsAt_vmem h_S1x1x1024))
    let v89 : Vec F S512x128 .f32 ← Prog.lift (.load arg10 (⟨![0, 0], S512x128.size, ![8, 1], inb_S4096x128_S512x128_0_0_s_8_1⟩ : LoadRect S4096x128) (View.loadsAt_vmem h_S512x128))
    Prog.lift (.store arg10 ⟨(⟨![0, 0], S512x128.size, ![8, 1], inb_S4096x128_S512x128_0_0_s_8_1⟩ : LoadRect S4096x128), spos_8_1⟩ (k0_pay22 v81 v82 v84) Finset.univ (View.stores_vmem_bits_univ h_S512x128 rfl) (.inl rfl))
    let v91 : Vec F S512x128 .f32 ← Prog.lift (.load arg10 (⟨![1, 0], S512x128.size, ![8, 1], inb_S4096x128_S512x128_1_0_s_8_1⟩ : LoadRect S4096x128) (View.loadsAt_vmem h_S512x128))
    Prog.lift (.store arg10 ⟨(⟨![1, 0], S512x128.size, ![8, 1], inb_S4096x128_S512x128_1_0_s_8_1⟩ : LoadRect S4096x128), spos_8_1⟩ (k0_pay23 v81 v82 v84) Finset.univ (View.stores_vmem_bits_univ h_S512x128 rfl) (.inl rfl))
    let v93 : Vec F S512x128 .f32 ← Prog.lift (.load arg10 (⟨![2, 0], S512x128.size, ![8, 1], inb_S4096x128_S512x128_2_0_s_8_1⟩ : LoadRect S4096x128) (View.loadsAt_vmem h_S512x128))
    Prog.lift (.store arg10 ⟨(⟨![2, 0], S512x128.size, ![8, 1], inb_S4096x128_S512x128_2_0_s_8_1⟩ : LoadRect S4096x128), spos_8_1⟩ (k0_pay24 v81 v82 v84) Finset.univ (View.stores_vmem_bits_univ h_S512x128 rfl) (.inl rfl))
    let v95 : Vec F S512x128 .f32 ← Prog.lift (.load arg10 (⟨![3, 0], S512x128.size, ![8, 1], inb_S4096x128_S512x128_3_0_s_8_1⟩ : LoadRect S4096x128) (View.loadsAt_vmem h_S512x128))
    Prog.lift (.store arg10 ⟨(⟨![3, 0], S512x128.size, ![8, 1], inb_S4096x128_S512x128_3_0_s_8_1⟩ : LoadRect S4096x128), spos_8_1⟩ (k0_pay25 v81 v82 v84) Finset.univ (View.stores_vmem_bits_univ h_S512x128 rfl) (.inl rfl))
    let v97 : Vec F S512x128 .f32 ← Prog.lift (.load arg10 (⟨![4, 0], S512x128.size, ![8, 1], inb_S4096x128_S512x128_4_0_s_8_1⟩ : LoadRect S4096x128) (View.loadsAt_vmem h_S512x128))
    Prog.lift (.store arg10 ⟨(⟨![4, 0], S512x128.size, ![8, 1], inb_S4096x128_S512x128_4_0_s_8_1⟩ : LoadRect S4096x128), spos_8_1⟩ (k0_pay26 v81 v82 v84) Finset.univ (View.stores_vmem_bits_univ h_S512x128 rfl) (.inl rfl))
    let v99 : Vec F S512x128 .f32 ← Prog.lift (.load arg10 (⟨![5, 0], S512x128.size, ![8, 1], inb_S4096x128_S512x128_5_0_s_8_1⟩ : LoadRect S4096x128) (View.loadsAt_vmem h_S512x128))
    Prog.lift (.store arg10 ⟨(⟨![5, 0], S512x128.size, ![8, 1], inb_S4096x128_S512x128_5_0_s_8_1⟩ : LoadRect S4096x128), spos_8_1⟩ (k0_pay27 v81 v82 v84) Finset.univ (View.stores_vmem_bits_univ h_S512x128 rfl) (.inl rfl))
    let v101 : Vec F S512x128 .f32 ← Prog.lift (.load arg10 (⟨![6, 0], S512x128.size, ![8, 1], inb_S4096x128_S512x128_6_0_s_8_1⟩ : LoadRect S4096x128) (View.loadsAt_vmem h_S512x128))
    Prog.lift (.store arg10 ⟨(⟨![6, 0], S512x128.size, ![8, 1], inb_S4096x128_S512x128_6_0_s_8_1⟩ : LoadRect S4096x128), spos_8_1⟩ (k0_pay28 v81 v82 v84) Finset.univ (View.stores_vmem_bits_univ h_S512x128 rfl) (.inl rfl))
    let v103 : Vec F S512x128 .f32 ← Prog.lift (.load arg10 (⟨![7, 0], S512x128.size, ![8, 1], inb_S4096x128_S512x128_7_0_s_8_1⟩ : LoadRect S4096x128) (View.loadsAt_vmem h_S512x128))
    Prog.lift (.store arg10 ⟨(⟨![7, 0], S512x128.size, ![8, 1], inb_S4096x128_S512x128_7_0_s_8_1⟩ : LoadRect S4096x128), spos_8_1⟩ (k0_pay29 v81 v82 v84) Finset.univ (View.stores_vmem_bits_univ h_S512x128 rfl) (.inl rfl))
    pure ⟨⟩
  else do
    pure ⟨⟩
  if k0_h8 : k0_cond8 i v0 = 1#1 then do
    let v51 : Vec F S4096x128 .f32 ← Prog.lift (.load arg10 (Rect.unit (s := S4096x128) ![0, 0] S4096x128.size inb_S4096x128_S4096x128_0_0).toLoadRect (View.loadsAt_vmem h_S4096x128))
    Prog.lift (.store arg10 (Rect.unit (s := S4096x128) ![0, 0] S4096x128.size inb_S4096x128_S4096x128_0_0) (k0_pay30 (F := F)) Finset.univ (View.stores_vmem_bits_univ h_S4096x128 rfl) (.inl rfl))
    pure ⟨⟩
  else do
    pure ⟨⟩
  pure ⟨⟩

set_option maxHeartbeats 1600000 in
theorem tail6_hit (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt2 : TbBuf0 (F := F) c tbM0_2) (f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 : BitVec 32) (hb : k0_off21 i = ![0, (i 0).val]) (h4 : k0_cond4 i v0 (wd xt2 (i 0).val) = 1#1) (K) :
  iprop(tbPt0 c tbM0_2 xt2 ∗ hbPt0 c arg5 f0 ∗ hbPt0 c arg7 f1 ∗ hbPt0 c arg9 f2 ∗ hbPt0 c scM0_2 g2 ∗ hbPt0 c scM0_3 g3 ∗ hbPt0 c arg10 f3 ∗
    (∀ f3' : HbBuf0 (F := F) c arg10, ⌜Good1 (arg5.view.read (Elt F) f0) (arg7.view.read (Elt F) f1) (arg9.view.read (Elt F) f2) (rdGu c g2) (rdDn c g3) (arg10.view.read (Elt F) f3')⌝ -∗ tbPt0 c tbM0_2 xt2 -∗ hbPt0 c arg5 f0 -∗ hbPt0 c arg7 f1 -∗ hbPt0 c arg9 f2 -∗ hbPt0 c scM0_2 g2 -∗ hbPt0 c scM0_3 g3 -∗ hbPt0 c arg10 f3' -∗ ∀ x7 x33 x0, K ⟨v0, x7, wd xt2 (i 0).val, x33, x0⟩)) ⊢
   wp frame (wpE (defs₀ (F := F)) Variants.nat c none) Set.univ (tail6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0) K := by
  unfold tail6
  iintro ⟨HT2, H0, H1, H2, HS2, HS3, H3, HK⟩
  rw [wp_bind]
  iapply (loadT2 c xt2 _ _ _ hb _ _ _)
  isplitl [HT2]; · iexact HT2
  iintro HT2
  beta_reduce
  simp only [k0_part2_eq_skeleton]; unfold k0_part2_skel
  sl_exec (disch := first | exact h4)
  sl_step
  iapply HK $$ [] HT2 H0 H1 H2 HS2 HS3 H3
  ipureintro
  exact stores8z (n := 128) (k := 1024) (m := 3072) (by omega) (by omega) (by omega) _ _ _ _ _ _ _ _ _ _ _ _ _ _ _ _ _ _ _ _ _ _ rfl

set_option maxHeartbeats 1600000 in
theorem tail6_miss (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt2 : TbBuf0 (F := F) c tbM0_2) (f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 : BitVec 32) (hb : k0_off21 i = ![0, (i 0).val]) (h4 : ¬ k0_cond4 i v0 (wd xt2 (i 0).val) = 1#1) (K) :
  iprop(tbPt0 c tbM0_2 xt2 ∗ hbPt0 c arg5 f0 ∗ hbPt0 c arg7 f1 ∗ hbPt0 c arg9 f2 ∗ hbPt0 c scM0_2 g2 ∗ hbPt0 c scM0_3 g3 ∗ hbPt0 c arg10 f3 ∗
    (tbPt0 c tbM0_2 xt2 -∗ hbPt0 c arg5 f0 -∗ hbPt0 c arg7 f1 -∗ hbPt0 c arg9 f2 -∗ hbPt0 c scM0_2 g2 -∗ hbPt0 c scM0_3 g3 -∗ hbPt0 c arg10 f3 -∗ ∀ x7 x33 x0, K ⟨v0, x7, wd xt2 (i 0).val, x33, x0⟩)) ⊢
   wp frame (wpE (defs₀ (F := F)) Variants.nat c none) Set.univ (tail6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0) K := by
  unfold tail6
  iintro ⟨HT2, H0, H1, H2, HS2, HS3, H3, HK⟩
  rw [wp_bind]
  iapply (loadT2 c xt2 _ _ _ hb _ _ _)
  isplitl [HT2]; · iexact HT2
  iintro HT2
  beta_reduce
  simp only [k0_part2_eq_skeleton]; unfold k0_part2_skel
  sl_exec (disch := first | exact h4)
  sl_step
  iapply HK $$ HT2 H0 H1 H2 HS2 HS3 H3

set_option maxHeartbeats 1600000 in
theorem tail2_0 (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
(f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 v22 : BitVec 32) (h5 : ¬ k0_cond5 i v0 v22 = 1#1) (h6 : ¬ k0_cond6 i v0 v22 = 1#1) (h7 : ¬ k0_cond7 i v0 v22 = 1#1) (h8 : ¬ k0_cond8 i v0 = 1#1) (K : PUnit → sProp 𝕄) :
  iprop(hbPt0 c arg5 f0 ∗ hbPt0 c arg7 f1 ∗ hbPt0 c arg9 f2 ∗ hbPt0 c scM0_2 g2 ∗ hbPt0 c scM0_3 g3 ∗ hbPt0 c arg10 f3 ∗
    (hbPt0 c arg5 f0 -∗ hbPt0 c arg7 f1 -∗ hbPt0 c arg9 f2 -∗ hbPt0 c scM0_2 g2 -∗ hbPt0 c scM0_3 g3 -∗ hbPt0 c arg10 f3 -∗ K ⟨⟩)) ⊢
   wp frame (wpE (defs₀ (F := F)) Variants.nat c none) Set.univ (tail2 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v22) K := by
  unfold tail2
  iintro ⟨H0, H1, H2, HS2, HS3, H3, HK⟩
  sl_exec (disch := first | exact h5 | exact h6 | exact h7 | exact h8)
  sl_step
  iapply HK $$ H0 H1 H2 HS2 HS3 H3

set_option maxHeartbeats 1600000 in
theorem tail2_2 (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
(f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 v22 : BitVec 32) (h5 : k0_cond5 i v0 v22 = 1#1) (h6 : ¬ k0_cond6 i v0 v22 = 1#1) (h7 : ¬ k0_cond7 i v0 v22 = 1#1) (h8 : ¬ k0_cond8 i v0 = 1#1) (K : PUnit → sProp 𝕄) :
  iprop(hbPt0 c arg5 f0 ∗ hbPt0 c arg7 f1 ∗ hbPt0 c arg9 f2 ∗ hbPt0 c scM0_2 g2 ∗ hbPt0 c scM0_3 g3 ∗ hbPt0 c arg10 f3 ∗
    (∀ f3' : HbBuf0 (F := F) c arg10, ⌜Good2 (arg5.view.read (Elt F) f0) (arg7.view.read (Elt F) f1) (arg9.view.read (Elt F) f2) (rdGu c g2) (rdDn c g3) (arg10.view.read (Elt F) f3')⌝ -∗ hbPt0 c arg5 f0 -∗ hbPt0 c arg7 f1 -∗ hbPt0 c arg9 f2 -∗ hbPt0 c scM0_2 g2 -∗ hbPt0 c scM0_3 g3 -∗ hbPt0 c arg10 f3' -∗ K ⟨⟩)) ⊢
   wp frame (wpE (defs₀ (F := F)) Variants.nat c none) Set.univ (tail2 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v22) K := by
  unfold tail2
  iintro ⟨H0, H1, H2, HS2, HS3, H3, HK⟩
  simp only [k0_part3_eq_skeleton]; unfold k0_part3_skel
  sl_exec (disch := first | exact h5 | exact h6 | exact h7 | exact h8)
  sl_step
  iapply HK $$ [] H0 H1 H2 HS2 HS3 H3
  ipureintro
  exact stores8z (n := 256) (k := 2048) (m := 2048) (by omega) (by omega) (by omega) _ _ _ _ _ _ _ _ _ _ _ _ _ _ _ _ _ _ _ _ _ _ rfl

set_option maxHeartbeats 1600000 in
theorem tail2_3 (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
(f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 v22 : BitVec 32) (h5 : ¬ k0_cond5 i v0 v22 = 1#1) (h6 : k0_cond6 i v0 v22 = 1#1) (h7 : ¬ k0_cond7 i v0 v22 = 1#1) (h8 : ¬ k0_cond8 i v0 = 1#1) (K : PUnit → sProp 𝕄) :
  iprop(hbPt0 c arg5 f0 ∗ hbPt0 c arg7 f1 ∗ hbPt0 c arg9 f2 ∗ hbPt0 c scM0_2 g2 ∗ hbPt0 c scM0_3 g3 ∗ hbPt0 c arg10 f3 ∗
    (∀ f3' : HbBuf0 (F := F) c arg10, ⌜Good3 (arg5.view.read (Elt F) f0) (arg7.view.read (Elt F) f1) (arg9.view.read (Elt F) f2) (rdGu c g2) (rdDn c g3) (arg10.view.read (Elt F) f3')⌝ -∗ hbPt0 c arg5 f0 -∗ hbPt0 c arg7 f1 -∗ hbPt0 c arg9 f2 -∗ hbPt0 c scM0_2 g2 -∗ hbPt0 c scM0_3 g3 -∗ hbPt0 c arg10 f3' -∗ K ⟨⟩)) ⊢
   wp frame (wpE (defs₀ (F := F)) Variants.nat c none) Set.univ (tail2 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v22) K := by
  unfold tail2
  iintro ⟨H0, H1, H2, HS2, HS3, H3, HK⟩
  simp only [k0_part4_eq_skeleton]; unfold k0_part4_skel
  sl_exec (disch := first | exact h5 | exact h6 | exact h7 | exact h8)
  sl_step
  iapply HK $$ [] H0 H1 H2 HS2 HS3 H3
  ipureintro
  exact stores8z (n := 384) (k := 3072) (m := 1024) (by omega) (by omega) (by omega) _ _ _ _ _ _ _ _ _ _ _ _ _ _ _ _ _ _ _ _ _ _ rfl

set_option maxHeartbeats 1600000 in
theorem tail2_4 (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
(f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 v22 : BitVec 32) (h5 : ¬ k0_cond5 i v0 v22 = 1#1) (h6 : ¬ k0_cond6 i v0 v22 = 1#1) (h7 : k0_cond7 i v0 v22 = 1#1) (h8 : ¬ k0_cond8 i v0 = 1#1) (K : PUnit → sProp 𝕄) :
  iprop(hbPt0 c arg5 f0 ∗ hbPt0 c arg7 f1 ∗ hbPt0 c arg9 f2 ∗ hbPt0 c scM0_2 g2 ∗ hbPt0 c scM0_3 g3 ∗ hbPt0 c arg10 f3 ∗
    (∀ f3' : HbBuf0 (F := F) c arg10, ⌜Good4 (arg5.view.read (Elt F) f0) (arg7.view.read (Elt F) f1) (arg9.view.read (Elt F) f2) (rdGu c g2) (rdDn c g3) (arg10.view.read (Elt F) f3')⌝ -∗ hbPt0 c arg5 f0 -∗ hbPt0 c arg7 f1 -∗ hbPt0 c arg9 f2 -∗ hbPt0 c scM0_2 g2 -∗ hbPt0 c scM0_3 g3 -∗ hbPt0 c arg10 f3' -∗ K ⟨⟩)) ⊢
   wp frame (wpE (defs₀ (F := F)) Variants.nat c none) Set.univ (tail2 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v22) K := by
  unfold tail2
  iintro ⟨H0, H1, H2, HS2, HS3, H3, HK⟩
  simp only [k0_part5_eq_skeleton]; unfold k0_part5_skel
  sl_exec (disch := first | exact h5 | exact h6 | exact h7 | exact h8)
  sl_step
  iapply HK $$ [] H0 H1 H2 HS2 HS3 H3
  ipureintro
  exact stores8n (n := 512) (by omega) _ _ _ _ _ _ _ _ _ _ _ _ _ _ _ _ _ _ _ _ rfl

set_option maxHeartbeats 1600000 in
theorem tail2_8 (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
(f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 v22 : BitVec 32) (h5 : ¬ k0_cond5 i v0 v22 = 1#1) (h6 : ¬ k0_cond6 i v0 v22 = 1#1) (h7 : ¬ k0_cond7 i v0 v22 = 1#1) (h8 : k0_cond8 i v0 = 1#1) (K : PUnit → sProp 𝕄) :
  iprop(hbPt0 c arg5 f0 ∗ hbPt0 c arg7 f1 ∗ hbPt0 c arg9 f2 ∗ hbPt0 c scM0_2 g2 ∗ hbPt0 c scM0_3 g3 ∗ hbPt0 c arg10 f3 ∗
    (∀ f3' : HbBuf0 (F := F) c arg10, hbPt0 c arg5 f0 -∗ hbPt0 c arg7 f1 -∗ hbPt0 c arg9 f2 -∗ hbPt0 c scM0_2 g2 -∗ hbPt0 c scM0_3 g3 -∗ hbPt0 c arg10 f3' -∗ K ⟨⟩)) ⊢
   wp frame (wpE (defs₀ (F := F)) Variants.nat c none) Set.univ (tail2 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v22) K := by
  unfold tail2
  iintro ⟨H0, H1, H2, HS2, HS3, H3, HK⟩
  sl_exec (disch := first | exact h5 | exact h6 | exact h7 | exact h8)
  sl_step
  iapply HK $$ %_ H0 H1 H2 HS2 HS3 H3

end Cert.KernelIdeal.X

end
-- ==== Proof.I.Part6.lean ====
/-
  The second guarded part of a grid point: a new expert takes over the ring, its weights are awaited and the next copied.
-/
module

public import proofs.«01_k».proof.Proof.I.Gran

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- A store of the slot word leaves it. -/
theorem slot_eq (c : Dev nD) (w : BitVec 32) (f4 : HbBuf0 (F := F) c scM0_4) :
    scM0_4.view.writes (Elt F) f4 [⟨Rect.unit (s := S1) ![0] S1.size inb_S1_S1_0, fun _ => w⟩] = fun _ => w := by
  funext y
  have h := View.read_writes_cons_emb (Val := Elt F) scM0_4.view f4 (Rect.unit (s := S1) ![0] S1.size inb_S1_S1_0) (fun _ => w) [] y
  have hy : (Rect.unit (s := S1) ![0] S1.size inb_S1_S1_0).emb y = y := by
    funext a; fin_cases a; exact Fin.ext (by change 0 + 1 * (y 0).val = (y 0).val; omega)
  rw [hy] at h
  exact h

theorem store15 (c : Dev nD) (w : BitVec 32) (f4 : HbBuf0 (F := F) c scM0_4) (h1) (h2) (K : PUnit → sProp 𝕄) :
    iprop(hbPt0 (F := F) c scM0_4 f4 ∗ (hbPt0 (F := F) c scM0_4 (fun _ => w) -∗ K ⟨⟩)) ⊢ wp frame (wpE (defs₀ (F := F)) Variants.nat c none) Set.univ
      (Prog.lift (.store scM0_4 (Rect.unit (s := S1) ![0] S1.size inb_S1_S1_0) (fun _ => w) Finset.univ h1 h2)) K := by
  iintro ⟨H, HK⟩
  sl_exec
  iapply (le_wp_ret (a := PUnit.unit))
  iapply HK
  rw [← slot_eq c w f4]
  iexact H
noncomputable def mid6 (i : grid0.Coords) (arg1 : Memref sig .tc .smem S1x256 .i32) (harg1 : arg1.IsWhole) (arg2 : Memref sig .tc .smem S1x128 .i32) (harg2 : arg2.IsWhole) (arg3 : Memref sig .tc .smem S1x256 .i32) (harg3 : arg3.IsWhole) (arg4 : Memref sig .tc .smem S1x256 .i32) (harg4 : arg4.IsWhole) (arg5 : Memref sig .tc .vmem S4096x128 .f32) (harg5 : arg5.IsWhole) (arg6 : Memref sig .tc .hbm S32x1024x2048 .f32) (harg6 : arg6.IsWhole) (arg7 : Memref sig .tc .vmem S1x1x2048 .f32) (harg7 : arg7.IsWhole) (arg8 : Memref sig .tc .hbm S32x1024x1024 .f32) (harg8 : arg8.IsWhole) (arg9 : Memref sig .tc .vmem S1x1x1024 .f32) (harg9 : arg9.IsWhole) (arg10 : Memref sig .tc .vmem S4096x128 .f32) (harg10 : arg10.IsWhole) (arg11 : Memref sig .tc .vmem S2x1024x2048 .f32) (harg11 : arg11.IsWhole) (arg12 : Memref sig .tc .vmem S2x1024x1024 .f32) (harg12 : arg12.IsWhole) (arg13 : Memref sig .tc .vmem S1024x2048 .bf16) (harg13 : arg13.IsWhole) (arg14 : Memref sig .tc .vmem S1024x1024 .bf16) (harg14 : arg14.IsWhole) (arg15 : Memref sig .tc .smem S1 .i32) (harg15 : arg15.IsWhole) (arg16 : DmaSems sig S2x2) (v0 v2 v6 : Elt F .i32) (k0_hw1 : k0_chk1 i v0 v2) (k0_hw4 : k0_chk4 i v0 v2 v6) :
    Prog (TpuEff nD τ sig (Elt F) (Λ₀ F) .tc) (Σ' (v0 : Elt F .i32) (v7 : BitVec 1) (v22 : Elt F .i32) (v33 : BitVec 32), BitVec 32) := do
  let arg0 : BitVec 32 := BitVec.ofNat 32 (i 0).val
  let v12 : BitVec 32 := Scalar.subi v0 1#32
  let v13 : BitVec 32 := Scalar.addi arg0 1#32
  let v14 : BitVec 32 ← Prog.lift (.call (1 : (Λ₀ F).Label) ⟨i, v0, v2, k0_hw1, v12, arg1, harg1, v13⟩)
  have k0_hw5 : k0_chk5 i v0 v2 v6 v14 := (← Prog.lift (TpuEff.assume (k0_chk5 i v0 v2 v6 v14) (k0_chk5.dec i v0 v2 v6 v14))).down
  if k0_h2 : k0_cond2 i v0 v2 v6 = 1#1 then do
    let v80 : BitVec 32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v2 v6 k0_hw4 v12 v14 k0_hw5 k0_h2
    Prog.lift (.store arg15 (Rect.unit (s := S1) ![0] S1.size inb_S1_S1_0) (fun _ => v80) Finset.univ (View.stores_smem_one rfl numel1_S1) (.inl rfl))
    pure ⟨⟩
  else do
    pure ⟨⟩
  tail6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0

set_option maxHeartbeats 1600000 in
theorem mid6_hit (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (fh0 : HbBuf0 (F := F) c hbM0_0) (fh1 : HbBuf0 (F := F) c hbM0_1) (v0 v2 v6 : BitVec 32) (hw1 : k0_chk1 i v0 v2) (hw4 : k0_chk4 i v0 v2 v6) (hn : 1 ≤ v0.toNat) (hn' : v0.toNat ≤ 164) (h2 : k0_cond2 i v0 v2 v6 = 1#1) (hbe : ∀ j, (wd xt0 j).toNat < 32)
   (w : BitVec 32) (hw : w = 0#32 ∨ w = 1#32) (W) (K) :
  iprop(tbPt0 c tbM0_0 xt0 ∗ Busy c w fh0 fh1 v2.toNat ∗ Junk (F := F) c ∗ hbPt0 c scM0_4 (fun _ => w) ∗ owes (c : Thread nD τ) 0 W ∗
    (∀ (r : ℕ) W', ⌜Run xt0 v0.toNat v2 ((i 0).val + 1) r⌝ -∗ tbPt0 c tbM0_0 xt0 -∗ Nxt c (1#32 - w) fh0 fh1 xt0 v0.toNat r -∗ Conv c fh0 fh1 v2.toNat -∗ hbPt0 c scM0_4 (fun _ => 1#32 - w) -∗ owes (c : Thread nD τ) 0 W' -∗ wp frame (wpE (defs₀ (F := F)) Variants.nat c none) Set.univ  (tail6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0) K)) ⊢
   wp frame (wpE (defs₀ (F := F)) Variants.nat c none) Set.univ  (mid6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v2 v6 hw1 hw4) K := by
  have hb := i_lt i
  have hs := succ_toNat (j := bw i) (by rw [bw_toNat]; omega)
  rw [bw_toNat] at hs
  unfold mid6
  iintro ⟨HT0, HB, HJ, HS4, HW, HK⟩
  rw [wp_bind]
  iapply (call_loop c none 200 (fun u hu => by cases hu) i v0 v2 hw1 (Scalar.subi v0 1#32) tbM0_0 htbM0_0 (Scalar.addi (bw i) 1#32) _)
  iapply (while_spec c i v0 v2 hw1 hn hn' xt0 200 (Scalar.addi (bw i) 1#32) (by omega) (by omega) _)
  isplitl [HT0]; · iexact HT0
  iintro %v14 %hr HT0
  rw [hs] at hr
  have hc5 : k0_chk5 i v0 v2 v6 v14 := chk5_of hn hn' hr.1
  beta_reduce
  set_option sl_exec.stopBefore "k0_part1" in
  sl_exec (disch := first | exact hc5 | exact h2)
  rw [wp_bind]
  iapply (part1_spec c i arg5 harg5 arg7 harg7 arg9 harg9 arg10 harg10 xt0 fh0 fh1 v0 v2 v6 v14 hw4 hc5 h2 w hw v0.toNat v14.toNat (cond3_iff hn hn' hr.1) (fun h => (off12_eq hn hn' hr.1).trans (by rw [Nat.min_eq_left (by omega)])) (fun _ => hbe _) W _)
  isplitl [HT0]; · iexact HT0
  isplitl [HB]; · iexact HB
  isplitl [HJ]; · iexact HJ
  isplitl [HS4]; · iexact HS4
  isplitl [HW]; · iexact HW
  iintro %W' HT0 HN HC HS4 HW
  beta_reduce
  rw [wp_bind]
  iapply (store15 c (1#32 - w) _ _ _ _)
  isplitl [HS4]; · iexact HS4
  iintro HS4
  iapply HK $$ %v14.toNat %W' [] HT0 HN HC HS4 HW
  ipureintro
  exact hr.2

set_option maxHeartbeats 1600000 in
theorem mid6_miss (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (fh0 : HbBuf0 (F := F) c hbM0_0) (fh1 : HbBuf0 (F := F) c hbM0_1) (v0 v2 v6 : BitVec 32) (hw1 : k0_chk1 i v0 v2) (hw4 : k0_chk4 i v0 v2 v6) (hn : 1 ≤ v0.toNat) (hn' : v0.toNat ≤ 164) (h2 : ¬ k0_cond2 i v0 v2 v6 = 1#1) (K) :
  iprop(tbPt0 c tbM0_0 xt0 ∗ (tbPt0 c tbM0_0 xt0 -∗ wp frame (wpE (defs₀ (F := F)) Variants.nat c none) Set.univ  (tail6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0) K)) ⊢
   wp frame (wpE (defs₀ (F := F)) Variants.nat c none) Set.univ  (mid6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0 v2 v6 hw1 hw4) K := by
  have hb := i_lt i
  have hs := succ_toNat (j := bw i) (by rw [bw_toNat]; omega)
  rw [bw_toNat] at hs
  unfold mid6
  iintro ⟨HT0, HK⟩
  rw [wp_bind]
  iapply (call_loop c none 200 (fun u hu => by cases hu) i v0 v2 hw1 (Scalar.subi v0 1#32) tbM0_0 htbM0_0 (Scalar.addi (bw i) 1#32) _)
  iapply (while_spec c i v0 v2 hw1 hn hn' xt0 200 (Scalar.addi (bw i) 1#32) (by omega) (by omega) _)
  isplitl [HT0]; · iexact HT0
  iintro %v14 %hr HT0
  have hc5 : k0_chk5 i v0 v2 v6 v14 := chk5_of hn hn' hr.1
  beta_reduce
  set_option sl_exec.stopBefore "tail6" in
  sl_exec (disch := first | exact hc5 | exact h2)
  iapply HK
  iexact HT0

end Cert.KernelIdeal.X

end
-- ==== Proof.I.Part6b.lean ====
/-
  The two cases of the second guarded part put together, over the state that the loop leaves.
-/
module

public import proofs.«01_k».proof.Proof.I.Part6

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1600000 in
theorem part6_later (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (xt1 : TbBuf0 (F := F) c tbM0_1) (fh0 : HbBuf0 (F := F) c hbM0_0) (fh1 : HbBuf0 (F := F) c hbM0_1) (ht : Tabs xt0 (nuw xt1).toNat) (h1 : ¬ k0_cond1 i (nuw xt1) = 1#1) (K) :
  iprop(tbPt0 c tbM0_0 xt0 ∗ tbPt0 c tbM0_1 xt1 ∗ (∀ hw1 hw4, tbPt0 c tbM0_0 xt0 -∗ tbPt0 c tbM0_1 xt1 -∗ wp frame (wpE (defs₀ (F := F)) Variants.nat c none) Set.univ  (mid6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 (nuw xt1) (wd xt0 (i 0).val) (wd xt0 ((i 0).val - 1)) hw1 hw4) K)) ⊢
   wp frame (wpE (defs₀ (F := F)) Variants.nat c none) Set.univ  (k0_part6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) K := by
  simp only [k0_part6_eq_skeleton]; unfold k0_part6_skel
  iintro ⟨HT0, HT1, HK⟩
  rw [wp_bind]
  iapply (loadT1 c xt1 _ _ _ _)
  isplitl [HT1]; · iexact HT1
  iintro HT1
  beta_reduce
  rw [wp_bind]
  iapply (loadT0 c xt0 _ _ _ (off1_eq i) _ _ _)
  isplitl [HT0]; · iexact HT0
  iintro HT0
  beta_reduce
  have hw1 : k0_chk1 i (nuw xt1) (wd xt0 (i 0).val) := chk1_of (x0 := xt0) (ht.be _)
  set_option sl_exec.maxSteps 1 in
  sl_exec (disch := first | exact hw1)
  rw [wp_bind]
  iapply (loadT0 c xt0 _ _ _ off2_eq _ _ _)
  isplitl [HT0]; · iexact HT0
  iintro HT0
  beta_reduce
  have hw4 : k0_chk4 i (nuw xt1) (wd xt0 (i 0).val) (wd xt0 ((i 0).val - 1)) := chk4_of (ht.be _)
  set_option sl_exec.maxSteps 2 in
  sl_exec (disch := first | exact hw4 | exact h1)
  iapply HK $$ %hw1 %hw4 HT0 HT1

set_option maxHeartbeats 1600000 in
theorem part6_first (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (xt1 : TbBuf0 (F := F) c tbM0_1) (fh0 : HbBuf0 (F := F) c hbM0_0) (fh1 : HbBuf0 (F := F) c hbM0_1) (ht : Tabs xt0 (nuw xt1).toNat) (h1 : k0_cond1 i (nuw xt1) = 1#1) (W) (K) :
  iprop(tbPt0 c tbM0_0 xt0 ∗ tbPt0 c tbM0_1 xt1 ∗ (∃ f4 : HbBuf0 (F := F) c scM0_4, hbPt0 c scM0_4 f4) ∗ Idle c fh0 fh1 ∗ owes (c : Thread nD τ) 0 W ∗
    (∀ hw1 hw4 W', tbPt0 c tbM0_0 xt0 -∗ tbPt0 c tbM0_1 xt1 -∗ hbPt0 c scM0_4 (fun _ => 0#32) -∗ Busy0 c fh0 fh1 (wd xt0 (i 0).val).toNat -∗ owes (c : Thread nD τ) 0 W' -∗ wp frame (wpE (defs₀ (F := F)) Variants.nat c none) Set.univ  (mid6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 (nuw xt1) (wd xt0 (i 0).val) (wd xt0 ((i 0).val - 1)) hw1 hw4) K)) ⊢
   wp frame (wpE (defs₀ (F := F)) Variants.nat c none) Set.univ  (k0_part6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) K := by
  simp only [k0_part6_eq_skeleton]; unfold k0_part6_skel Busy0 BusyAt Idle
  have he := ht.be (i 0).val
  iintro ⟨HT0, HT1, ⟨%f4, HS4⟩, ⟨%g0, %g1, HS0, HS1, Hh0, Hh1, Hq0, Hq1, Hq2, Hq3⟩, HW, HK⟩
  rw [wp_bind]
  iapply (loadT1 c xt1 _ _ _ _)
  isplitl [HT1]; · iexact HT1
  iintro HT1
  beta_reduce
  rw [wp_bind]
  iapply (loadT0 c xt0 _ _ _ (off1_eq i) _ _ _)
  isplitl [HT0]; · iexact HT0
  iintro HT0
  beta_reduce
  have hw1 : k0_chk1 i (nuw xt1) (wd xt0 (i 0).val) := chk1_of (x0 := xt0) (ht.be _)
  set_option sl_exec.maxSteps 1 in
  sl_exec (disch := first | exact hw1)
  rw [wp_bind]
  iapply (loadT0 c xt0 _ _ _ off2_eq _ _ _)
  isplitl [HT0]; · iexact HT0
  iintro HT0
  beta_reduce
  have hw4 : k0_chk4 i (nuw xt1) (wd xt0 (i 0).val) (wd xt0 ((i 0).val - 1)) := chk4_of (ht.be _)
  obtain ⟨w0, rfl⟩ : ∃ w0 : BitVec 32, f4 = fun _ => w0 := ⟨f4 (Shape.Idx.first (by change 0 < S1.numel; decide)), by
    funext y; refine congrArg f4 (funext fun a => ?_); fin_cases a
    exact Fin.ext (by have h := (y 0).isLt; change (y 0).val < 1 at h; change (y 0).val = 0; omega)⟩
  set_option sl_exec.maxSteps 3 in
  sl_exec (disch := first | exact hw4 | exact h1)
  iapply (load15 c w0 _ _ _)
  isplitl [HS4]; · iexact HS4
  iintro HS4
  beta_reduce
  set_option sl_exec.dmaWindow true in
  set_option sl_exec.dmaWindowLent true in
  set_option sl_exec.rejoinStated true in
  sl_exec (disch := first | exact hw4 | exact h1)
  iapply HK $$ %hw1 %hw4 %_ HT0 HT1 [HS4] [HS0 HS1 Hh0 Hh1 Hq0 Hq1 Hq2 Hq3] HW
  · rw [← slot_eq c 0#32 (fun _ => w0)]; iexact HS4
  · iexists he, _, _
    isplitr
    rotate_left
    · isplitl [Hq0]; · iexact Hq0
      isplitl [Hq2]; · iexact Hq2
      isplitl [HS0 Hh0 HS1 Hh1]
      · isplitl [HS0]; · iexact HS0
        isplitl [Hh0]; · iexact Hh0
        isplitl [HS1]; · iexact HS1
        iexact Hh1
      isplitl [Hq1]; · iexact Hq1
      iexact Hq3
    · ipureintro
      exact ⟨gu_hit c _ fh0 0 (by decide) _ he, dn_hit c _ fh1 0 (by decide) _ he⟩

end Cert.KernelIdeal.X

end
-- ==== Proof.I.Step.lean ====
/-
  The first half of a grid point, from the state between two points to the next.
-/
module

public import proofs.«01_k».proof.Proof.I.Part6b

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem one_sub_slot {w : BitVec 32} (hw : w = 0#32 ∨ w = 1#32) : 1#32 - w = 0#32 ∨ 1#32 - w = 1#32 := by
  rcases hw with rfl | rfl
  · exact Or.inr (by decide)
  · exact Or.inl (by decide)

/-- The narrowed weights' contents forgotten. -/
theorem conv_junk (c : Dev nD) (fh0 : HbBuf0 (F := F) c hbM0_0) (fh1 : HbBuf0 (F := F) c hbM0_1) (e : ℕ) : Conv c fh0 fh1 e ⊢ Junk (F := F) c := by
  unfold Conv Junk
  iintro ⟨%he, %g, %g', -, H, H'⟩
  iexists g, g'
  isplitl [H]; · iexact H
  iexact H'

set_option maxHeartbeats 1600000 in
theorem part6_spec (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (xt1 : TbBuf0 (F := F) c tbM0_1) (fh0 : HbBuf0 (F := F) c hbM0_0) (fh1 : HbBuf0 (F := F) c hbM0_1) (ht : Tabs xt0 (nuw xt1).toNat) (W) (K) :
  iprop(tbPt0 c tbM0_0 xt0 ∗ tbPt0 c tbM0_1 xt1 ∗ St c xt0 (nuw xt1).toNat fh0 fh1 (i 0).val ∗ owes (c : Thread nD τ) 0 W ∗
    (∀ W', tbPt0 c tbM0_0 xt0 -∗ tbPt0 c tbM0_1 xt1 -∗ St c xt0 (nuw xt1).toNat fh0 fh1 ((i 0).val + 1) -∗ owes (c : Thread nD τ) 0 W' -∗ wp frame (wpE (defs₀ (F := F)) Variants.nat c none) Set.univ  (tail6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 (nuw xt1)) K)) ⊢
   wp frame (wpE (defs₀ (F := F)) Variants.nat c none) Set.univ  (k0_part6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) K := by
  have hb := i_lt i
  have hc1 := cond1_iff (i := i) ht.hi
  have hc2 := cond2_iff (i := i) (v2 := wd xt0 (i 0).val) (v6 := wd xt0 ((i 0).val - 1)) ht.hi
  have hlo := ht.lo
  by_cases hb0 : (i 0).val = 0
  · have h1 : k0_cond1 i (nuw xt1) = 1#1 := hc1.mpr ⟨hb0, by omega⟩
    have h2 := hc2.mpr ⟨by omega, Or.inl hb0⟩
    have eS : St c xt0 (nuw xt1).toNat fh0 fh1 (i 0).val = iprop((∃ f4 : HbBuf0 (F := F) c scM0_4, hbPt0 c scM0_4 f4) ∗ Junk (F := F) c ∗ Idle c fh0 fh1) := by
      unfold St; rw [if_pos hb0]
    have em : min ((i 0).val + 1) (nuw xt1).toNat = (i 0).val + 1 := by omega
    rw [eS]
    unfold St
    rw [if_neg (Nat.succ_ne_zero _), em, Nat.add_sub_cancel]
    iintro ⟨HT0, HT1, ⟨HS4, HJ, HI⟩, HW, HK⟩
    iapply (part6_first c i arg5 harg5 arg7 harg7 arg9 harg9 arg10 harg10 xt0 xt1 fh0 fh1 ht h1 W K)
    isplitl [HT0]; · iexact HT0
    isplitl [HT1]; · iexact HT1
    isplitl [HS4]; · iexact HS4
    isplitl [HI]; · iexact HI
    isplitl [HW]; · iexact HW
    iintro %hw1 %hw4 %W' HT0 HT1 HS4 HB HW
    iapply (mid6_hit c i arg5 harg5 arg7 harg7 arg9 harg9 arg10 harg10 xt0 fh0 fh1 (nuw xt1) _ _ hw1 hw4 ht.lo ht.hi h2 ht.be 0#32 (Or.inl rfl) W' K)
    isplitl [HT0]; · iexact HT0
    isplitl [HB]; · unfold Busy; rw [if_pos rfl]; iexact HB
    isplitl [HJ]; · iexact HJ
    isplitl [HS4]; · iexact HS4
    isplitl [HW]; · iexact HW
    iintro %r %W'' %hr HT0 HN HC HS4 HW
    iapply HK $$ %W'' HT0 HT1 [HS4 HN HC] HW
    iexists (1#32 - 0#32), r
    isplitr
    · ipureintro; exact ⟨one_sub_slot (Or.inl rfl), hr⟩
    isplitl [HS4]; · iexact HS4
    isplitl [HN]; · iexact HN
    iexact HC
  · have h1 : ¬ k0_cond1 i (nuw xt1) = 1#1 := fun h => hb0 (hc1.mp h).1
    by_cases hbn : (i 0).val < (nuw xt1).toNat
    · have em : min ((i 0).val + 1) (nuw xt1).toNat = (i 0).val + 1 := by omega
      have em' : min (i 0).val (nuw xt1).toNat = (i 0).val := by omega
      unfold St
      rw [if_neg hb0, if_neg (Nat.succ_ne_zero _), em, em', Nat.add_sub_cancel]
      by_cases hne : wd xt0 (i 0).val = wd xt0 ((i 0).val - 1)
      · have h2 : ¬ k0_cond2 i (nuw xt1) (wd xt0 (i 0).val) (wd xt0 ((i 0).val - 1)) = 1#1 := fun h => (hc2.mp h).2.elim hb0 (fun h => h hne)
        iintro ⟨HT0, HT1, ⟨%w, %r, %hr, HS4, HN, HC⟩, HW, HK⟩
        iapply (part6_later c i arg5 harg5 arg7 harg7 arg9 harg9 arg10 harg10 xt0 xt1 fh0 fh1 ht h1 K)
        isplitl [HT0]; · iexact HT0
        isplitl [HT1]; · iexact HT1
        iintro %hw1 %hw4 HT0 HT1
        iapply (mid6_miss c i arg5 harg5 arg7 harg7 arg9 harg9 arg10 harg10 xt0 fh0 fh1 (nuw xt1) _ _ hw1 hw4 ht.lo ht.hi h2 K)
        isplitl [HT0]; · iexact HT0
        iintro HT0
        iapply HK $$ %W HT0 HT1 [HS4 HN HC] HW
        iexists w, r
        isplitr
        · ipureintro
          refine ⟨hr.1, ?_⟩
          rw [hne]; exact hr.2.step hbn hne
        isplitl [HS4]; · iexact HS4
        isplitl [HN]; · iexact HN
        rw [hne]; iexact HC
      · have h2 := hc2.mpr ⟨hbn, Or.inr hne⟩
        iintro ⟨HT0, HT1, ⟨%w, %r, %hr, HS4, HN, HC⟩, HW, HK⟩
        obtain rfl := hr.2.eq_of_ne hne
        iapply (part6_later c i arg5 harg5 arg7 harg7 arg9 harg9 arg10 harg10 xt0 xt1 fh0 fh1 ht h1 K)
        isplitl [HT0]; · iexact HT0
        isplitl [HT1]; · iexact HT1
        iintro %hw1 %hw4 HT0 HT1
        iapply (mid6_hit c i arg5 harg5 arg7 harg7 arg9 harg9 arg10 harg10 xt0 fh0 fh1 (nuw xt1) _ _ hw1 hw4 ht.lo ht.hi h2 ht.be w hr.1 W K)
        isplitl [HT0]; · iexact HT0
        isplitl [HN]; · unfold Nxt; rw [if_pos hbn]; exact BIBase.Entails.rfl
        isplitl [HC]; · iapply (conv_junk c fh0 fh1 _); iexact HC
        isplitl [HS4]; · iexact HS4
        isplitl [HW]; · iexact HW
        iintro %r %W'' %hr' HT0 HN HC HS4 HW
        iapply HK $$ %W'' HT0 HT1 [HS4 HN HC] HW
        iexists (1#32 - w), r
        isplitr
        · ipureintro; exact ⟨one_sub_slot hr.1, hr'⟩
        isplitl [HS4]; · iexact HS4
        isplitl [HN]; · iexact HN
        iexact HC
    · have em : min ((i 0).val + 1) (nuw xt1).toNat = min (i 0).val (nuw xt1).toNat := by omega
      have h2 : ¬ k0_cond2 i (nuw xt1) (wd xt0 (i 0).val) (wd xt0 ((i 0).val - 1)) = 1#1 := fun h => hbn (hc2.mp h).1
      unfold St
      rw [if_neg hb0, if_neg (Nat.succ_ne_zero _), em]
      iintro ⟨HT0, HT1, HS, HW, HK⟩
      iapply (part6_later c i arg5 harg5 arg7 harg7 arg9 harg9 arg10 harg10 xt0 xt1 fh0 fh1 ht h1 K)
      isplitl [HT0]; · iexact HT0
      isplitl [HT1]; · iexact HT1
      iintro %hw1 %hw4 HT0 HT1
      iapply (mid6_miss c i arg5 harg5 arg7 harg7 arg9 harg9 arg10 harg10 xt0 fh0 fh1 (nuw xt1) _ _ hw1 hw4 ht.lo ht.hi h2 K)
      isplitl [HT0]; · iexact HT0
      iintro HT0
      iapply HK $$ %W HT0 HT1 HS HW

end Cert.KernelIdeal.X

end
-- ==== Proof.I.Body.lean ====
/-
  The whole of a grid point: what it leaves in the output window and in the kept buffers.
-/
module

public import proofs.«01_k».proof.Proof.I.Step

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- What a block's output rows hold after its grid point: for a block in use, the rows of the granules that hold valid tokens. -/
def Out (n b : ℕ) (nv : BitVec 32) (X0 : S4096x128.Idx → Elt F .f32) (X1 : S1x1x2048.Idx → Elt F .f32) (X2 : S1x1x1024.Idx → Elt F .f32) (A : FVec F S1024x2048 .bf16) (B : FVec F S1024x1024 .bf16) (Y : S4096x128.Idx → Elt F .f32) : Prop :=
  b < n →
    (0 < nv.toInt ∧ nv.toInt ≤ 128 → Good1 X0 X1 X2 A B Y) ∧
    (128 < nv.toInt ∧ nv.toInt ≤ 256 → Good2 X0 X1 X2 A B Y) ∧
    (256 < nv.toInt ∧ nv.toInt ≤ 384 → Good3 X0 X1 X2 A B Y) ∧
    (384 < nv.toInt ∧ nv.toInt ≤ 512 → Good4 X0 X1 X2 A B Y)

set_option maxHeartbeats 1600000 in
theorem rest_spec (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt2 : TbBuf0 (F := F) c tbM0_2) (f0 : HbBuf0 (F := F) c arg5) (f1 : HbBuf0 (F := F) c arg7) (f2 : HbBuf0 (F := F) c arg9) (f3 : HbBuf0 (F := F) c arg10) (g2 : HbBuf0 (F := F) c scM0_2) (g3 : HbBuf0 (F := F) c scM0_3) (v0 : BitVec 32) (hn : v0.toNat ≤ 164) (K : PUnit → sProp 𝕄) :
  iprop(tbPt0 c tbM0_2 xt2 ∗ hbPt0 c arg5 f0 ∗ hbPt0 c arg7 f1 ∗ hbPt0 c arg9 f2 ∗ hbPt0 c scM0_2 g2 ∗ hbPt0 c scM0_3 g3 ∗ hbPt0 c arg10 f3 ∗
    (∀ f3' : HbBuf0 (F := F) c arg10, ⌜Out v0.toNat (i 0).val (wd xt2 (i 0).val) (arg5.view.read (Elt F) f0) (arg7.view.read (Elt F) f1) (arg9.view.read (Elt F) f2) (rdGu c g2) (rdDn c g3) (arg10.view.read (Elt F) f3')⌝ -∗ tbPt0 c tbM0_2 xt2 -∗ hbPt0 c arg5 f0 -∗ hbPt0 c arg7 f1 -∗ hbPt0 c arg9 f2 -∗ hbPt0 c scM0_2 g2 -∗ hbPt0 c scM0_3 g3 -∗ hbPt0 c arg10 f3' -∗ K ⟨⟩)) ⊢
   wp frame (wpE (defs₀ (F := F)) Variants.nat c none) Set.univ  (tail6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 v0) (fun x => wp frame (wpE (defs₀ (F := F)) Variants.nat c none) Set.univ  (tail2 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 x.1 x.2.2.1) K) := by
  have c4 := cond4_iff (i := i) (v22 := wd xt2 (i 0).val) hn
  have c5 := cond5_iff (i := i) (v22 := wd xt2 (i 0).val) hn
  have c6 := cond6_iff (i := i) (v22 := wd xt2 (i 0).val) hn
  have c7 := cond7_iff (i := i) (v22 := wd xt2 (i 0).val) hn
  have c8 := cond8_iff (i := i) hn
  iintro ⟨HT2, H0, H1, H2, HS2, HS3, H3, HK⟩
  by_cases hb : (i 0).val < v0.toNat
  · have h8 : ¬ k0_cond8 i v0 = 1#1 := fun h => (c8.mp h) hb
    by_cases h4 : k0_cond4 i v0 (wd xt2 (i 0).val) = 1#1
    · have hc := c4.mp h4
      have h5 : ¬ k0_cond5 i v0 (wd xt2 (i 0).val) = 1#1 := fun h => by have := c5.mp h; omega
      have h6 : ¬ k0_cond6 i v0 (wd xt2 (i 0).val) = 1#1 := fun h => by have := c6.mp h; omega
      have h7 : ¬ k0_cond7 i v0 (wd xt2 (i 0).val) = 1#1 := fun h => by have := c7.mp h; omega
      iapply (tail6_hit c i arg5 harg5 arg7 harg7 arg9 harg9 arg10 harg10 xt2 f0 f1 f2 f3 g2 g3 v0 (off21_eq i) h4 _)
      isplitl [HT2]; · iexact HT2
      isplitl [H0]; · iexact H0
      isplitl [H1]; · iexact H1
      isplitl [H2]; · iexact H2
      isplitl [HS2]; · iexact HS2
      isplitl [HS3]; · iexact HS3
      isplitl [H3]; · iexact H3
      iintro %f3' %hG
      iintro HT2 H0 H1 H2 HS2 HS3 H3 %x7 %x33 %x0
      beta_reduce
      iapply (tail2_0 c i arg5 harg5 arg7 harg7 arg9 harg9 arg10 harg10 f0 f1 f2 f3' g2 g3 v0 _ h5 h6 h7 h8 K)
      isplitl [H0]; · iexact H0
      isplitl [H1]; · iexact H1
      isplitl [H2]; · iexact H2
      isplitl [HS2]; · iexact HS2
      isplitl [HS3]; · iexact HS3
      isplitl [H3]; · iexact H3
      iintro H0 H1 H2 HS2 HS3 H3
      iapply HK $$ [] HT2 H0 H1 H2 HS2 HS3 H3
      ipureintro
      intro hb
      refine ⟨fun hh => ?_, fun hh => ?_, fun hh => ?_, fun hh => ?_⟩
      · exact hG
      · exact absurd (c5.mpr ⟨hb, hh⟩) h5
      · exact absurd (c6.mpr ⟨hb, hh⟩) h6
      · exact absurd (c7.mpr ⟨hb, hh⟩) h7
    by_cases h5 : k0_cond5 i v0 (wd xt2 (i 0).val) = 1#1
    · have hc := c5.mp h5
      have h6 : ¬ k0_cond6 i v0 (wd xt2 (i 0).val) = 1#1 := fun h => by have := c6.mp h; omega
      have h7 : ¬ k0_cond7 i v0 (wd xt2 (i 0).val) = 1#1 := fun h => by have := c7.mp h; omega
      iapply (tail6_miss c i arg5 harg5 arg7 harg7 arg9 harg9 arg10 harg10 xt2 f0 f1 f2 f3 g2 g3 v0 (off21_eq i) h4 _)
      isplitl [HT2]; · iexact HT2
      isplitl [H0]; · iexact H0
      isplitl [H1]; · iexact H1
      isplitl [H2]; · iexact H2
      isplitl [HS2]; · iexact HS2
      isplitl [HS3]; · iexact HS3
      isplitl [H3]; · iexact H3
      iintro HT2 H0 H1 H2 HS2 HS3 H3 %x7 %x33 %x0
      beta_reduce
      iapply (tail2_2 c i arg5 harg5 arg7 harg7 arg9 harg9 arg10 harg10 f0 f1 f2 f3 g2 g3 v0 _ h5 h6 h7 h8 K)
      isplitl [H0]; · iexact H0
      isplitl [H1]; · iexact H1
      isplitl [H2]; · iexact H2
      isplitl [HS2]; · iexact HS2
      isplitl [HS3]; · iexact HS3
      isplitl [H3]; · iexact H3
      iintro %f3' %hG
      iintro H0 H1 H2 HS2 HS3 H3
      iapply HK $$ [] HT2 H0 H1 H2 HS2 HS3 H3
      ipureintro
      intro hb
      refine ⟨fun hh => ?_, fun hh => ?_, fun hh => ?_, fun hh => ?_⟩
      · exact absurd (c4.mpr ⟨hb, hh⟩) h4
      · exact hG
      · exact absurd (c6.mpr ⟨hb, hh⟩) h6
      · exact absurd (c7.mpr ⟨hb, hh⟩) h7
    by_cases h6 : k0_cond6 i v0 (wd xt2 (i 0).val) = 1#1
    · have hc := c6.mp h6
      have h7 : ¬ k0_cond7 i v0 (wd xt2 (i 0).val) = 1#1 := fun h => by have := c7.mp h; omega
      iapply (tail6_miss c i arg5 harg5 arg7 harg7 arg9 harg9 arg10 harg10 xt2 f0 f1 f2 f3 g2 g3 v0 (off21_eq i) h4 _)
      isplitl [HT2]; · iexact HT2
      isplitl [H0]; · iexact H0
      isplitl [H1]; · iexact H1
      isplitl [H2]; · iexact H2
      isplitl [HS2]; · iexact HS2
      isplitl [HS3]; · iexact HS3
      isplitl [H3]; · iexact H3
      iintro HT2 H0 H1 H2 HS2 HS3 H3 %x7 %x33 %x0
      beta_reduce
      iapply (tail2_3 c i arg5 harg5 arg7 harg7 arg9 harg9 arg10 harg10 f0 f1 f2 f3 g2 g3 v0 _ h5 h6 h7 h8 K)
      isplitl [H0]; · iexact H0
      isplitl [H1]; · iexact H1
      isplitl [H2]; · iexact H2
      isplitl [HS2]; · iexact HS2
      isplitl [HS3]; · iexact HS3
      isplitl [H3]; · iexact H3
      iintro %f3' %hG
      iintro H0 H1 H2 HS2 HS3 H3
      iapply HK $$ [] HT2 H0 H1 H2 HS2 HS3 H3
      ipureintro
      intro hb
      refine ⟨fun hh => ?_, fun hh => ?_, fun hh => ?_, fun hh => ?_⟩
      · exact absurd (c4.mpr ⟨hb, hh⟩) h4
      · exact absurd (c5.mpr ⟨hb, hh⟩) h5
      · exact hG
      · exact absurd (c7.mpr ⟨hb, hh⟩) h7
    by_cases h7 : k0_cond7 i v0 (wd xt2 (i 0).val) = 1#1
    · have hc := c7.mp h7
      iapply (tail6_miss c i arg5 harg5 arg7 harg7 arg9 harg9 arg10 harg10 xt2 f0 f1 f2 f3 g2 g3 v0 (off21_eq i) h4 _)
      isplitl [HT2]; · iexact HT2
      isplitl [H0]; · iexact H0
      isplitl [H1]; · iexact H1
      isplitl [H2]; · iexact H2
      isplitl [HS2]; · iexact HS2
      isplitl [HS3]; · iexact HS3
      isplitl [H3]; · iexact H3
      iintro HT2 H0 H1 H2 HS2 HS3 H3 %x7 %x33 %x0
      beta_reduce
      iapply (tail2_4 c i arg5 harg5 arg7 harg7 arg9 harg9 arg10 harg10 f0 f1 f2 f3 g2 g3 v0 _ h5 h6 h7 h8 K)
      isplitl [H0]; · iexact H0
      isplitl [H1]; · iexact H1
      isplitl [H2]; · iexact H2
      isplitl [HS2]; · iexact HS2
      isplitl [HS3]; · iexact HS3
      isplitl [H3]; · iexact H3
      iintro %f3' %hG
      iintro H0 H1 H2 HS2 HS3 H3
      iapply HK $$ [] HT2 H0 H1 H2 HS2 HS3 H3
      ipureintro
      intro hb
      refine ⟨fun hh => ?_, fun hh => ?_, fun hh => ?_, fun hh => ?_⟩
      · exact absurd (c4.mpr ⟨hb, hh⟩) h4
      · exact absurd (c5.mpr ⟨hb, hh⟩) h5
      · exact absurd (c6.mpr ⟨hb, hh⟩) h6
      · exact hG
    iapply (tail6_miss c i arg5 harg5 arg7 harg7 arg9 harg9 arg10 harg10 xt2 f0 f1 f2 f3 g2 g3 v0 (off21_eq i) h4 _)
    isplitl [HT2]; · iexact HT2
    isplitl [H0]; · iexact H0
    isplitl [H1]; · iexact H1
    isplitl [H2]; · iexact H2
    isplitl [HS2]; · iexact HS2
    isplitl [HS3]; · iexact HS3
    isplitl [H3]; · iexact H3
    iintro HT2 H0 H1 H2 HS2 HS3 H3 %x7 %x33 %x0
    beta_reduce
    iapply (tail2_0 c i arg5 harg5 arg7 harg7 arg9 harg9 arg10 harg10 f0 f1 f2 f3 g2 g3 v0 _ h5 h6 h7 h8 K)
    isplitl [H0]; · iexact H0
    isplitl [H1]; · iexact H1
    isplitl [H2]; · iexact H2
    isplitl [HS2]; · iexact HS2
    isplitl [HS3]; · iexact HS3
    isplitl [H3]; · iexact H3
    iintro H0 H1 H2 HS2 HS3 H3
    iapply HK $$ [] HT2 H0 H1 H2 HS2 HS3 H3
    ipureintro
    intro hb
    refine ⟨fun hh => ?_, fun hh => ?_, fun hh => ?_, fun hh => ?_⟩
    · exact absurd (c4.mpr ⟨hb, hh⟩) h4
    · exact absurd (c5.mpr ⟨hb, hh⟩) h5
    · exact absurd (c6.mpr ⟨hb, hh⟩) h6
    · exact absurd (c7.mpr ⟨hb, hh⟩) h7
  · have h8 : k0_cond8 i v0 = 1#1 := c8.mpr hb
    have h4 : ¬ k0_cond4 i v0 (wd xt2 (i 0).val) = 1#1 := fun h => by have := c4.mp h; omega
    have h5 : ¬ k0_cond5 i v0 (wd xt2 (i 0).val) = 1#1 := fun h => by have := c5.mp h; omega
    have h6 : ¬ k0_cond6 i v0 (wd xt2 (i 0).val) = 1#1 := fun h => by have := c6.mp h; omega
    have h7 : ¬ k0_cond7 i v0 (wd xt2 (i 0).val) = 1#1 := fun h => by have := c7.mp h; omega
    iapply (tail6_miss c i arg5 harg5 arg7 harg7 arg9 harg9 arg10 harg10 xt2 f0 f1 f2 f3 g2 g3 v0 (off21_eq i) h4 _)
    isplitl [HT2]; · iexact HT2
    isplitl [H0]; · iexact H0
    isplitl [H1]; · iexact H1
    isplitl [H2]; · iexact H2
    isplitl [HS2]; · iexact HS2
    isplitl [HS3]; · iexact HS3
    isplitl [H3]; · iexact H3
    iintro HT2 H0 H1 H2 HS2 HS3 H3 %x7 %x33 %x0
    beta_reduce
    iapply (tail2_8 c i arg5 harg5 arg7 harg7 arg9 harg9 arg10 harg10 f0 f1 f2 f3 g2 g3 v0 _ h5 h6 h7 h8 K)
    isplitl [H0]; · iexact H0
    isplitl [H1]; · iexact H1
    isplitl [H2]; · iexact H2
    isplitl [HS2]; · iexact HS2
    isplitl [HS3]; · iexact HS3
    isplitl [H3]; · iexact H3
    iintro %f3'
    iintro H0 H1 H2 HS2 HS3 H3
    iapply HK $$ [] HT2 H0 H1 H2 HS2 HS3 H3
    ipureintro
    intro hb
    refine ⟨fun hh => ?_, fun hh => ?_, fun hh => ?_, fun hh => ?_⟩
    · exact absurd hb (c8.mp h8)
    · exact absurd hb (c8.mp h8)
    · exact absurd hb (c8.mp h8)
    · exact absurd hb (c8.mp h8)

theorem experts_split (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole) (Q : PUnit → sProp 𝕄) (c : Dev nD) :
  wp frame (wpE (defs₀ (F := F)) Variants.nat c none) Set.univ  (cc0_experts i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) Q = wp frame (wpE (defs₀ (F := F)) Variants.nat c none) Set.univ  (k0_part6 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) (fun x => wp frame (wpE (defs₀ (F := F)) Variants.nat c none) Set.univ  (tail2 i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5 x.1 x.2.2.1) Q) := by
  simp only [cc0_experts_eq_skeleton]
  unfold cc0_experts_skel
  rw [wp_bind]
  rfl

end Cert.KernelIdeal.X

end
-- ==== Proof.I.Point.lean ====
/-
  A grid point from end to end: what it takes and what it hands back.
-/
module

public import proofs.«01_k».proof.Proof.I.Body

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- `Out` for the weights that a block's own expert has. -/
def OutAt (c : Dev nD) (x0 : TbBuf0 (F := F) c tbM0_0) (n : ℕ) (fh : HbBuf0 (F := F) c hbM0_0) (fh' : HbBuf0 (F := F) c hbM0_1) (b : ℕ) (nv : BitVec 32)
    (X0 : S4096x128.Idx → Elt F .f32) (X1 : S1x1x2048.Idx → Elt F .f32) (X2 : S1x1x1024.Idx → Elt F .f32) (Y : S4096x128.Idx → Elt F .f32) : Prop :=
  b < n → ∃ he : (wd x0 b).toNat < 32, Out n b nv X0 X1 X2 (k0_pay31 (Wgu c fh _ he)) (k0_pay32 (Wdn c fh' _ he)) Y

theorem conv_eq (c : Dev nD) (fh : HbBuf0 (F := F) c hbM0_0) (fh' : HbBuf0 (F := F) c hbM0_1) (e : ℕ) : Conv c fh fh' e =
  iprop(∃ (he : e < 32) (g : HbBuf0 (F := F) c scM0_2) (g' : HbBuf0 (F := F) c scM0_3), ⌜rdGu c g = k0_pay31 (Wgu c fh e he) ∧ rdDn c g' = k0_pay32 (Wdn c fh' e he)⌝ ∗
    hbPt0 c scM0_2 g ∗ hbPt0 c scM0_3 g') := rfl

theorem conv_cast (c : Dev nD) (fh : HbBuf0 (F := F) c hbM0_0) (fh' : HbBuf0 (F := F) c hbM0_1) {e e' : ℕ} (h : e = e') (he : e < 32) {a b} (hg : a = k0_pay31 (Wgu c fh e he) ∧ b = k0_pay32 (Wdn c fh' e he)) :
    ∃ he' : e' < 32, a = k0_pay31 (Wgu c fh e' he') ∧ b = k0_pay32 (Wdn c fh' e' he') := by
  subst h; exact ⟨he, hg⟩

set_option maxHeartbeats 1600000 in
theorem body_spec (c : Dev nD) (i : grid0.Coords) (arg5 : Memref sig .tc .vmem S4096x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S4096x128 .f32) (harg10 : arg10.IsWhole)
   (xt0 : TbBuf0 (F := F) c tbM0_0) (xt1 : TbBuf0 (F := F) c tbM0_1) (xt2 : TbBuf0 (F := F) c tbM0_2) (fh0 : HbBuf0 (F := F) c hbM0_0) (fh1 : HbBuf0 (F := F) c hbM0_1)
   (f0 : HbBuf0 (F := F) c arg5) (f1 : HbBuf0 (F := F) c arg7) (f2 : HbBuf0 (F := F) c arg9) (f3 : HbBuf0 (F := F) c arg10) (ht : Tabs xt0 (nuw xt1).toNat) (W) (K : PUnit → sProp 𝕄) :
  iprop(tbPt0 c tbM0_0 xt0 ∗ tbPt0 c tbM0_1 xt1 ∗ tbPt0 c tbM0_2 xt2 ∗ St c xt0 (nuw xt1).toNat fh0 fh1 (i 0).val ∗ hbPt0 c arg5 f0 ∗ hbPt0 c arg7 f1 ∗ hbPt0 c arg9 f2 ∗ hbPt0 c arg10 f3 ∗ owes (c : Thread nD τ) 0 W ∗
    (∀ W' (f3' : HbBuf0 (F := F) c arg10), ⌜OutAt c xt0 (nuw xt1).toNat fh0 fh1 (i 0).val (wd xt2 (i 0).val) (arg5.view.read (Elt F) f0) (arg7.view.read (Elt F) f1) (arg9.view.read (Elt F) f2) (arg10.view.read (Elt F) f3')⌝ -∗
      tbPt0 c tbM0_0 xt0 -∗ tbPt0 c tbM0_1 xt1 -∗ tbPt0 c tbM0_2 xt2 -∗ St c xt0 (nuw xt1).toNat fh0 fh1 ((i 0).val + 1) -∗ hbPt0 c arg5 f0 -∗ hbPt0 c arg7 f1 -∗ hbPt0 c arg9 f2 -∗ hbPt0 c arg10 f3' -∗ owes (c : Thread nD τ) 0 W' -∗ K ⟨⟩)) ⊢
   wp frame (wpE (defs₀ (F := F)) Variants.nat c none) Set.univ  (cc0_experts i tbM0_0 htbM0_0 tbM0_1 htbM0_1 tbM0_2 htbM0_2 tbM0_3 htbM0_3 arg5 harg5 (Memref.whole main_v14) (Memref.isWhole_whole _) arg7 harg7 (Memref.whole main_v17) (Memref.isWhole_whole _) arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) K := by
  have eS : St c xt0 (nuw xt1).toNat fh0 fh1 ((i 0).val + 1) = iprop(∃ w r, ⌜(w = 0#32 ∨ w = 1#32) ∧ Run xt0 (nuw xt1).toNat (wd xt0 (min ((i 0).val + 1) (nuw xt1).toNat - 1)) (min ((i 0).val + 1) (nuw xt1).toNat) r⌝ ∗ hbPt0 c scM0_4 (fun _ => w) ∗ Nxt c w fh0 fh1 xt0 (nuw xt1).toNat r ∗ Conv c fh0 fh1 (wd xt0 (min ((i 0).val + 1) (nuw xt1).toNat - 1)).toNat) := by
    unfold St; rw [if_neg (Nat.succ_ne_zero _)]
  rw [conv_eq] at eS
  have eO := BIBase.Entails.of_eq eS
  have eC := BIBase.Entails.of_eq eS.symm
  rw [experts_split]
  iintro ⟨HT0, HT1, HT2, HS, H0, H1, H2, H3, HW, HK⟩
  iapply (part6_spec c i arg5 harg5 arg7 harg7 arg9 harg9 arg10 harg10 xt0 xt1 fh0 fh1 ht W _)
  isplitl [HT0]; · iexact HT0
  isplitl [HT1]; · iexact HT1
  isplitl [HS]; · iexact HS
  isplitl [HW]; · iexact HW
  iintro %W' HT0 HT1 HS HW

  ihave HS := eO $$ HS
  icases HS with ⟨%w, %r, %hr, HS4, HN, %he, %g2, %g3, %hg, HS2, HS3⟩
  iapply (rest_spec c i arg5 harg5 arg7 harg7 arg9 harg9 arg10 harg10 xt2 f0 f1 f2 f3 g2 g3 (nuw xt1) ht.hi K)
  isplitl [HT2]; · iexact HT2
  isplitl [H0]; · iexact H0
  isplitl [H1]; · iexact H1
  isplitl [H2]; · iexact H2
  isplitl [HS2]; · iexact HS2
  isplitl [HS3]; · iexact HS3
  isplitl [H3]; · iexact H3
  iintro %f3' %hG HT2 H0 H1 H2 HS2 HS3 H3
  iapply HK $$ %W' %f3' [] HT0 HT1 HT2 [HS4 HN HS2 HS3] H0 H1 H2 H3 HW
  · ipureintro
    intro hb
    have e : min ((i 0).val + 1) (nuw xt1).toNat - 1 = (i 0).val := by omega
    obtain ⟨he', h1, h2⟩ := conv_cast c fh0 fh1 (congrArg (fun b => (wd xt0 b).toNat) e) he hg
    refine ⟨he', ?_⟩
    rw [← h1, ← h2]
    exact hG
  · iapply eC
    iexists w, r
    isplitr; · ipureintro; exact hr
    isplitl [HS4]; · iexact HS4
    isplitl [HN]; · iexact HN
    iexists he, g2, g3
    isplitr; · ipureintro; exact hg
    isplitl [HS2]; · iexact HS2
    iexact HS3

end Cert.KernelIdeal.X

end
-- ==== Proof.I.Launch.lean ====
/-
  The launch: the pipeline at the data of the output window, and what every final memory holds.
-/
module

public import proofs.«01_k».proof.Proof.I.Point
public import Idealize.ShloMosaic.Lib.Pipeline.DatRel
public import Idealize.ShloMosaic.Lib.Pipeline.FrameBody
public import Idealize.ShloMosaic.Lib.Claim

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The window whose contents are held to a predicate: the output. -/
def marked : Fin 4 → Bool := fun w => w.val == 3

/-- The number of blocks in use. -/
abbrev nbl : ℕ := (nuw (tbl m 1)).toNat

/-- Between two points: the state of the two rings of weights, the generator register and the tables. -/
def Inv (c : Dev nD) (b : ℕ) : sProp 𝕄 :=
  iprop(St c (tbl m 0) (nbl m) (V m c main_v14) (V m c main_v17) b ∗ (∃ r, prngReg c r) ∗ (tbPt0 c tbM0_0 (tbl m 0) ∗ tbPt0 c tbM0_1 (tbl m 1) ∗ tbPt0 c tbM0_2 (tbl m 2) ∗ tbPt0 c tbM0_3 (tbl m 3)))

def dats (hO : Ok m) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ t := Inv m c t.val
  q _ := fullShare
  owed _ := 0

/-- What point `t` leaves in the output window. -/
def rel (hO : Ok m) (c : Dev nD) (w : Fin (cfgM m hO).W) (t : Fin (cfgM m hO).N) (X : ((cfgM m hO).win w).block.Idx → Elt F ((cfgM m hO).win w).elt) : Prop :=
  match w, X with
  | ⟨3, _⟩, X => OutAt c (tbl m 0) (nbl m) (V m c main_v14) (V m c main_v17) t.val (wd (tbl m 2) t.val) (iblk m hO c 0 t) (iblk m hO c 1 t) (iblk m hO c 2 t) X
  | _, _ => True

theorem A_eq (hO : Ok m) (c : Dev nD) (w : Fin (cfgM m hO).W) : (dats m hO c).A w = V m c (Pipeline.arrRef spec0 w) := by
  dsimp only [dats]

theorem after0_0 (hO : Ok m) (c : Dev nD) (t : Fin (cfgM m hO).N) : (dats m hO c).after 0 t = iblk m hO c 0 t := by dsimp only [dats]; try rfl
theorem after0_1 (hO : Ok m) (c : Dev nD) (t : Fin (cfgM m hO).N) : (dats m hO c).after 1 t = iblk m hO c 1 t := by dsimp only [dats]; try rfl
theorem after0_2 (hO : Ok m) (c : Dev nD) (t : Fin (cfgM m hO).N) : (dats m hO c).after 2 t = iblk m hO c 2 t := by dsimp only [dats]; try rfl

theorem before0_0 (hO : Ok m) (c : Dev nD) (t : Fin (cfgM m hO).N) (d) : (dats m hO c).before 0 t d = iblk m hO c 0 t :=
  before0_0_of m hO (dats m hO c) (A_eq m hO c 0) (after0_0 m hO c) t d
theorem before0_1 (hO : Ok m) (c : Dev nD) (t : Fin (cfgM m hO).N) (d) : (dats m hO c).before 1 t d = iblk m hO c 1 t :=
  before0_1_of m hO (dats m hO c) (A_eq m hO c 1) (after0_1 m hO c) t d
theorem before0_2 (hO : Ok m) (c : Dev nD) (t : Fin (cfgM m hO).N) (d) : (dats m hO c).before 2 t d = iblk m hO c 2 t :=
  before0_2_of m hO (dats m hO c) (A_eq m hO c 2) (after0_2 m hO c) t d

theorem coords_val (t : Fin grid0.N) : (grid0.coords t 0).val = t.val := by
  have h : t.val < 164 := t.isLt
  rw [Pipeline.Grid.coords_val (S := 1) (B := 164) t 0 (by decide) rfl, Nat.div_one, Nat.mod_eq_of_lt h]

def bodyPre (hO : Ok m) (c : Dev nD) (t : Fin (cfgM m hO).N) : sProp 𝕄 :=
  iprop((dats m hO c).Φ t.castSucc ∗ (dats m hO c).owesAt () t.castSucc
    ∗ (∃ d, owns (c : Thread nD τ) (ms0_0 m hO t) fullShare ((dats m hO c).before 0 t d))
    ∗ (∃ d, owns (c : Thread nD τ) (ms0_1 m hO t) fullShare ((dats m hO c).before 1 t d))
    ∗ (∃ d, owns (c : Thread nD τ) (ms0_2 m hO t) fullShare ((dats m hO c).before 2 t d))
    ∗ (∃ Y, ⌜((dats m hO c).toRRel marked (rel m hO c)).Finds 3 t Y⌝ ∗ owns (c : Thread nD τ) (ms0_3 m hO t) fullShare Y))

def bodyPost (hO : Ok m) (c : Dev nD) (t : Fin (cfgM m hO).N) : sProp 𝕄 :=
  iprop((dats m hO c).Φ t.succ ∗ (dats m hO c).owesAt () t.succ
    ∗ owns (c : Thread nD τ) (ms0_0 m hO t) fullShare ((dats m hO c).after 0 t)
    ∗ owns (c : Thread nD τ) (ms0_1 m hO t) fullShare ((dats m hO c).after 1 t)
    ∗ owns (c : Thread nD τ) (ms0_2 m hO t) fullShare ((dats m hO c).after 2 t)
    ∗ (∃ X, ⌜rel m hO c 3 t X⌝ ∗ owns (c : Thread nD τ) (ms0_3 m hO t) fullShare X))

set_option maxHeartbeats 1600000 in
theorem sound_body (hO : Ok m) (hT : Tabs (tbl m 0) (nbl m)) (c : Dev nD) (t : Fin (cfgM m hO).N) :
    bodyPre m hO c t ⊢ wp frame (wpE (defs₀ (F := F)) Variants.nat c none) Set.univ (bodyAt0 (adm m hO) t) (fun _ => bodyPost m hO c t) := by
  obtain rfl : c = 0 := Subsingleton.elim _ _
  have et : (grid0.coords t 0).val = t.val := coords_val t
  unfold bodyPre bodyPost bodyAt0
  simp only [before0_0, before0_1, before0_2]
  rw [show (dats m hO 0).Φ t.succ = Inv m 0 (t.val + 1) from rfl, show (dats m hO 0).Φ t.castSucc = Inv m 0 t.val from rfl,
    after0_0, after0_1, after0_2]
  unfold Dat.owesAt Pipeline.owesWithin Inv owns
  rw [show (dats m hO 0).owed t.castSucc = 0 from rfl, show (dats m hO 0).owed t.succ = 0 from rfl,
    (hs0_0 m hO t).set_eq_univ, (hs0_1 m hO t).set_eq_univ, (hs0_2 m hO t).set_eq_univ, (hs0_3 m hO t).set_eq_univ]
  iintro ⟨⟨HS, Hg, HT0, HT1, HT2, HT3⟩, ⟨%W, -, HW⟩, ⟨%d0, %f0, %hf0, H0⟩, ⟨%d1, %f1, %hf1, H1⟩, ⟨%d2, %f2, %hf2, H2⟩, ⟨%Y, -, %f3, -, H3⟩⟩
  iapply (body_spec 0 (grid0.coords t) _ _ _ _ _ _ _ _ (tbl m 0) (tbl m 1) (tbl m 2) (V m 0 main_v14) (V m 0 main_v17) f0 f1 f2 f3 hT W _)
  isplitl [HT0]; · iexact HT0
  isplitl [HT1]; · iexact HT1
  isplitl [HT2]; · iexact HT2
  isplitl [HS]; · rw [et]; iexact HS
  isplitl [H0]; · iexact H0
  isplitl [H1]; · iexact H1
  isplitl [H2]; · iexact H2
  isplitl [H3]; · iexact H3
  isplitl [HW]; · iexact HW
  iintro %W' %f3' %hout HT0 HT1 HT2 HS H0 H1 H2 H3 HW'
  isplitl [HS Hg HT0 HT1 HT2 HT3]
  · isplitl [HS]; · rw [et]; iexact HS
    isplitl [Hg]; · iexact Hg
    isplitl [HT0]; · iexact HT0
    isplitl [HT1]; · iexact HT1
    isplitl [HT2]; · iexact HT2
    iexact HT3
  isplitl [HW']
  · iexists W'; isplitr; · ipureintro; exact fun _ _ => Or.inl trivial
    iexact HW'
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _
  isplitr
  rotate_left
  · iexists f3'; isplitr; · ipureintro; rfl
    iexact H3
  ipureintro
  rw [et, hf0, hf1, hf2] at hout
  exact hout

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hT : Tabs (tbl m 0) (nbl m)) (c : Dev nD) :
    Pipeline.BodyObligationRel (dats (F := F) m hO c) (defs₀ (F := F)) Variants.nat () Set.univ marked (rel m hO c) := fun t => by
  rw [bigSep_W0, bigSep_W0, defs₀_row m hO]
  exact triple_restated (sound_body m hO hT c t) rfl .rfl fun _ => .rfl

theorem hin (hO : Ok m) (c : Dev nD) : iprop(Pipeline.ΦD osem0 spec0 H0 (V m) c ∗ Pipeline.ΦT pre0 (tbl m) c) ⊢ (dats m hO c).Φ 0 := by
  rw [show (dats m hO c).Φ 0 = Inv m c 0 from rfl, PhiD0_eq, PhiT0_eq]
  unfold Inv St
  rw [if_pos rfl]
  simp only [scM0_0, scM0_1, scM0_2, scM0_3, scM0_4, owns_whole]
  unfold Junk Idle
  iintro ⟨⟨⟨⟨%g0, HS0⟩, ⟨%g1, HS1⟩, ⟨%g2, HS2⟩, ⟨%g3, HS3⟩, ⟨%g4, HS4⟩⟩, Hg, ⟨Hq0, Hq1, Hq2, Hq3⟩, ⟨Hh0, Hh1⟩⟩, HT⟩
  isplitl [HS0 HS1 HS2 HS3 HS4 Hq0 Hq1 Hq2 Hq3 Hh0 Hh1]
  · isplitl [HS4]; · iexists g4; iexact HS4
    isplitl [HS2 HS3]
    · iexists g2, g3
      isplitl [HS2]; · iexact HS2
      iexact HS3
    iexists g0, g1
    isplitl [HS0]; · iexact HS0
    isplitl [HS1]; · iexact HS1
    isplitl [Hh0]; · iexact Hh0
    isplitl [Hh1]; · iexact Hh1
    isplitl [Hq0]; · iexact Hq0
    isplitl [Hq1]; · iexact Hq1
    isplitl [Hq2]; · iexact Hq2
    iexact Hq3
  isplitl [Hg]; · iexact Hg
  iexact HT

theorem nxt_end (c : Dev nD) (w : BitVec 32) (fh : HbBuf0 (F := F) c hbM0_0) (fh' : HbBuf0 (F := F) c hbM0_1) (x0 : TbBuf0 (F := F) c tbM0_0) {n r : ℕ} {e : BitVec 32} (hr : Run x0 n e n r) :
    Nxt c w fh fh' x0 n r ⊢ Idle c fh fh' := by
  unfold Nxt
  have h : ¬ r < n := Nat.not_lt.mpr hr.1
  rw [if_neg h]

theorem st_end (c : Dev nD) (x0 : TbBuf0 (F := F) c tbM0_0) (n : ℕ) (hn : n ≤ 164) (fh : HbBuf0 (F := F) c hbM0_0) (fh' : HbBuf0 (F := F) c hbM0_1) :
    St c x0 n fh fh' 164 ⊢ iprop((∃ f4 : HbBuf0 (F := F) c scM0_4, hbPt0 c scM0_4 f4) ∗ Junk (F := F) c ∗ Idle c fh fh') := by
  unfold St
  rw [if_neg (by decide), Nat.min_eq_right hn]
  iintro ⟨%w, %r, %hr, HS4, HN, HC⟩
  isplitl [HS4]; · iexists _; iexact HS4
  isplitl [HC]; · iapply (conv_junk c fh fh' _); iexact HC
  iapply (nxt_end c w fh fh' x0 hr.2)
  iexact HN

theorem hout (hO : Ok m) (hn : nbl m ≤ 164) (c : Dev nD) : (dats m hO c).Φ (Fin.last (cfgM m hO).N) ⊢ Pipeline.ΦD osem0 spec0 H0 (V m) c := by
  rw [show (dats m hO c).Φ (Fin.last (cfgM m hO).N) = Inv m c 164 from rfl, PhiD0_eq]
  simp only [scM0_0, scM0_1, scM0_2, scM0_3, scM0_4, owns_whole]
  unfold Inv
  iintro ⟨HS, Hg, -⟩
  ihave HS := (st_end c (tbl m 0) (nbl m) hn (V m c main_v14) (V m c main_v17)) $$ HS
  unfold Junk Idle
  icases HS with ⟨HS4, ⟨%g2, %g3, HS2, HS3⟩, ⟨%g0, %g1, HS0, HS1, Hh0, Hh1, Hq0, Hq1, Hq2, Hq3⟩⟩
  isplitl [HS0 HS1 HS2 HS3 HS4]
  · isplitl [HS0]; · iexists g0; iexact HS0
    isplitl [HS1]; · iexists g1; iexact HS1
    isplitl [HS2]; · iexists g2; iexact HS2
    isplitl [HS3]; · iexists g3; iexact HS3
    iexact HS4
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

set_option backward.isDefEq.respectTransparency.types false in
/-- Every final memory: the output array after the blocks' write-backs, everything else as the region found it, every counter at zero. -/
theorem run_main (hO : Ok m) (hT : Tabs (tbl m 0) (nbl m)) : θ_run defs (onTc (τ := τ) (main (F := F))) (s₀ m ρ)
    (fun r => Pipeline.RDat.FramePost ((Pipeline.pin pcfgs fun _ => adm m hO) 0) (fun c => (dats m hO c).toRRel marked (rel m hO c)) (V m) r ∧ r.2.sem = fun _ => 0) :=
  Pipeline.RDat.θ_run_frameP_dma pcfgs (fun _ => adm m hO) (0 : Fin 1) launch0 osem0 defs₀ Variants.nat (fun c => (dats m hO c).toRRel marked (rel m hO c)) ownSemFacts0 H0 H0_sub m ρ main
    (hbody := fun c => (body_obligation m hO hT c).toRRel) (hshare := fun c => (dats m hO c).share_full fun _ => rfl)
    (howed := fun _ _ => rfl) (V := V m) (hmain := hmain m Variants.nat) (hA := A_eq m hO) (hpf := V_pre m) (hin := hin m hO) (hout := hout m hO hT.hi) (Q' := _) (hQ' := fun _ h => h)

theorem unchanged (hO : Ok m) (hT : Tabs (tbl m 0) (nbl m)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO c).toRRel marked (rel m hO c)) (A_eq m hO) ((θ_run defs _ _).mono (fun _ h => h.1) (run_main m ρ hO hT))

/-- The launch terminates, its arguments end as they began and every counter at zero. -/
theorem frame (hO : Ok m) (hT : Tabs (tbl m 0) (nbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hT) ((θ_run defs _ _).mono (fun _ h => h.2) (run_main m ρ hO hT))

end Cert.KernelIdeal.X

end
-- ==== Proof.I.Ok.lean ====
/-
  The printed precondition gives what the proof of the launch asks: every block that an index map names lies inside its
  array, and every word of the tables is in range. It also reads the host-made table and the reshaped weights.
-/
module

public import proofs.«01_k».proof.Proof.I.Launch
public import proofs.«01_k».proof.Proof.Pre
public import Idealize.ShloMosaic.Lib.StableHlo.Predicate

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The expert table, the table of the used blocks, and the table of valid rows, as words. -/
abbrev a0 (c : Dev nD) : S1x256.Idx → BitVec 32 := m ((c : Thread nD τ).loc main_arg0)
abbrev a1 (c : Dev nD) : S1x128.Idx → BitVec 32 := m ((c : Thread nD τ).loc main_arg1)
abbrev a2 (c : Dev nD) : S1x256.Idx → BitVec 32 := m ((c : Thread nD τ).loc main_arg2)

set_option maxHeartbeats 4000000 in
/-- The host-made table: a word of a used block is the expert table's own word there. -/
theorem V_v13 (c : Dev nD) : ∃ e : S1x1.Idx → BitVec 32, (∀ k, ∃ j, e k = a0 m c j) ∧
    V m c main_v13 = select (cmpi .slt (iotaInDim S1x256 32 1) (broadcastInDim S1x256 ![] bcast_S_S1x256
      (shapeCast S_ (extractStridedSlice S1x1 ![0, 0] (a1 m c) slices_S1x128_S1x1_0_0) shapeCasts_S1x1_S_))) (a0 m c)
      (broadcastInDim S1x256 ![0, 1] bcast_S1x1_S1x256_0_1 e) := by
  refine ⟨?e, ?h, ?g⟩
  case g =>
    unfold_abbrev_sides
    after_results
    rfl
  case h =>
    intro k
    exact ⟨_, rfl⟩

theorem V_v14 (c : Dev nD) : V m c main_v14 = shapeCast S32x1024x2048 (m ((c : Thread nD τ).loc main_arg4)) shapeCasts_S1x32x1024x2048_S32x1024x2048 := by
  unfold_abbrev_sides
  after_results
  rfl

/-- A word of the host-made table is a word of the expert table; of a used block, its own. -/
theorem v13_word (c : Dev nD) (j : S1x256.Idx) : (∃ k, V m c main_v13 j = a0 m c k) ∧
    (((j 1).val : ℤ) < (a1 m c fun a => ⟨0, by revert a; decide⟩).toInt → V m c main_v13 j = a0 m c j) := by
  obtain ⟨e, he, eq⟩ := V_v13 m c
  have eqj := congrFun eq j
  have hb : (broadcastInDim S1x256 ![] bcast_S_S1x256 (shapeCast S_ (extractStridedSlice S1x1 ![0, 0] (a1 m c) slices_S1x128_S1x1_0_0) shapeCasts_S1x1_S_)) j
      = a1 m c fun a => ⟨0, by revert a; decide⟩ := TablesIn.word0 (a1 m c) _ _ _
  have hi : (iotaInDim S1x256 32 1 j).toInt = ((j 1).val : ℤ) := by
    have := (j 1).isLt
    have h2 : (j 1).val < 256 := this
    show (BitVec.ofNat 32 (j 1).val).toInt = _
    exact StableHlo.Predicate.toInt_ofNat_small _ (by omega)
  simp only [select, Scalar.select] at eqj
  constructor
  · rw [eqj]
    split
    · exact ⟨j, rfl⟩
    · obtain ⟨k, hk⟩ := he _
      exact ⟨k, hk⟩
  · intro hlt
    rw [eqj, if_pos]
    simp only [cmpi]
    refine IntOp.cmpi_slt.mpr ?_
    rw [hi, hb]
    exact hlt

/-- The word at the head of a table is the one its first element is. -/
theorem head_emb (x : S1x128.Idx → BitVec 32) (h h1) :
    x ((Rect.unit (s := S1x128) ![0, 0] S1x1.size h).emb (Shape.Idx.first (s := (Rect.unit (s := S1x128) ![0, 0] S1x1.size h).shape) h1)) = nuw x := by
  refine congrArg x (funext fun a => Fin.ext ?_)
  rw [Rect.emb_apply]
  fin_cases a <;> rfl

/-- The block of rows a grid point reads: its own, or the last used one. -/
theorem trans0 (pf : pre0.Contents (Elt F)) (i : grid0.Coords) : cc0_transform_0 inb_S1x128_S1x1_0_0 numel1_S1x1 pf i =
    ![(Scalar.maxsi (Scalar.minsi (BitVec.ofNat 32 (i 0).val) (Scalar.subi (nuw (pf 1)) 1#32)) 0#32).toNat, 0] := by
  have e : pf.at 1 (Rect.unit (s := S1x128) ![0, 0] S1x1.size inb_S1x128_S1x1_0_0) numel1_S1x1 = nuw (pf 1) := head_emb (pf 1) _ _
  rw [← e]
  rfl

/-- The expert whose biases a grid point reads: the word of the host-made table there. -/
theorem trans2 (pf : pre0.Contents (Elt F)) (i : grid0.Coords) : ∃ j : S1x256.Idx, (j 1).val = (i 0).val ∧ (j 0).val = 0 ∧
    cc0_transform_2 k0_off1_inb numel1_S1x1 pf i = ![(pf 3 j : BitVec 32).toNat, 0, 0] ∧
    cc0_transform_4 k0_off1_inb numel1_S1x1 pf i = ![(pf 3 j : BitVec 32).toNat, 0, 0] := by
  refine ⟨(Rect.unit (s := S1x256) (k0_off1 i) S1x1.size (k0_off1_inb i)).emb (Shape.Idx.first (numel1_S1x1.symm ▸ Nat.one_pos)), ?_, ?_, rfl, rfl⟩
  · rw [Rect.emb_apply]
    have h := (i 0).isLt
    have h' : (i 0).val < 164 := h
    show (BitVec.ofNat 32 (i 0).val).toNat + 1 * 0 = _
    rw [BitVec.toNat_ofNat, Nat.mod_eq_of_lt (by omega)]
    omega
  · rfl

variable (hg : TablesIn.Good (a0 m 0) (a1 m 0) (a2 m 0))

theorem toNat_lt {w : BitVec 32} {n : ℕ} (h0 : 0 ≤ w.toInt) (h1 : w.toInt < n) (hn : n < 2 ^ 31) : w.toNat < n := by
  have := w.isLt
  rw [BitVec.toInt_eq_toNat_cond] at h0 h1
  split at h0 <;> omega

include hg in
theorem tbl3_lt (j : S1x256.Idx) : (tbl m 3 j : BitVec 32).toNat < 32 := by
  obtain ⟨k, hk⟩ := (v13_word m 0 j).1
  show (V m 0 main_v13 j : BitVec 32).toNat < 32
  rw [hk]
  exact toNat_lt (hg.ge k) (by have := hg.lt k; exact_mod_cast this) (by decide)

theorem nuw_eq : nuw (tbl m 1) = a1 m 0 fun a => ⟨0, by revert a; decide⟩ := by
  show nuw (V m 0 main_arg1) = _
  rw [V_main_arg1]
  rfl

include hg in
theorem tabs : Tabs (tbl m 0) (nbl m) := by
  have hn := hg.lo
  have hn' := hg.hi
  rw [← nuw_eq m] at hn hn'
  have h := toNat_lt (w := nuw (tbl m 1)) (n := 165) (by omega) (by omega) (by decide)
  have e : (nuw (tbl m 1)).toInt = (nuw (tbl m 1)).toNat := by
    rw [BitVec.toInt_eq_toNat_cond, if_pos (by omega)]
  rw [e] at hn
  refine ⟨fun j => ?_, by exact_mod_cast hn, by show (nuw (tbl m 1)).toNat ≤ 164; omega⟩
  have ew : wd (tbl m 0) j = wd (a0 m 0) j := congrArg (fun x => wd x j) (V_main_arg0 m 0)
  rw [ew]
  by_cases h : j < 256
  · rw [wd, dif_pos h]
    exact toNat_lt (hg.ge _) (by have := hg.lt (ix256 j h); exact_mod_cast this) (by decide)
  · rw [wd, dif_neg h]
    decide

include hg in
theorem ok_of_good : Ok m := by
  have hT := tabs m hg
  refine ⟨fun i => ⟨?_, .inl rfl⟩, fun i => ⟨?_, .inl rfl⟩, fun i => ⟨?_, .inl rfl⟩⟩
  · have hi := (i 0).isLt
    have hi' : (i 0).val < 164 := hi
    have hn : (nuw (tbl m 1)).toNat ≤ 164 := hT.hi
    have hl : 1 ≤ (nuw (tbl m 1)).toNat := hT.lo
    have e1 : (Scalar.subi (nuw (tbl m 1)) 1#32).toNat = (nuw (tbl m 1)).toNat - 1 := pred_toNat hl
    have e2 : (BitVec.ofNat 32 (i 0).val).toNat = (i 0).val := by simp; omega
    have e3 := min_toNat (a := BitVec.ofNat 32 (i 0).val) (b := Scalar.subi (nuw (tbl m 1)) 1#32) (by omega) (by omega)
    rw [trans0, Scalar.maxsi_zero_of_nonneg (by omega), e3]
    intro a
    fin_cases a
    · change (min _ _ + 1) * 4096 ≤ 671744
      omega
    · change (0 + 1) * 128 ≤ 128
      omega
  · obtain ⟨j, _, _, e, _⟩ := trans2 (tbl m) i
    have := tbl3_lt m hg j
    rw [e]
    intro a
    fin_cases a
    · change ((tbl m 3 j : BitVec 32).toNat + 1) * 1 ≤ 32
      omega
    · change (0 + 1) * 1 ≤ 1
      omega
    · change (0 + 1) * 2048 ≤ 2048
      omega
  · obtain ⟨j, _, _, _, e⟩ := trans2 (tbl m) i
    have := tbl3_lt m hg j
    rw [e]
    intro a
    fin_cases a
    · change ((tbl m 3 j : BitVec 32).toNat + 1) * 1 ≤ 32
      omega
    · change (0 + 1) * 1 ≤ 1
      omega
    · change (0 + 1) * 1024 ≤ 1024
      omega

end Cert.KernelIdeal.X

end
-- ==== Proof.Spec.lean ====
/-
  The mathematics of one element of the experts' layer, on plain functions of natural coordinates: the gated product
  of one row with one expert's two weight matrices. Both the kernel's tile and the reference's array are read as it.
-/
module

public import Idealize.ShloMosaic.PureOps.Ideal.Laws
public import Idealize.ShloMosaic.Lib.ValueIdx

@[expose] public section

noncomputable section

namespace Cert.Spec

open Idealize.ShloMosaic
open scoped BigOperators

/-- The bound 7 of the two clamps. -/
abbrev c7 : EReal := Ideal.ofBits .f32 0x40E00000#32
/-- The bound −7. -/
abbrev cm7 : EReal := Ideal.ofBits .f32 0xC0E00000#32
/-- One. -/
abbrev c1 : EReal := Ideal.ofBits .f32 0x3F800000#32
/-- The slope 1.702 inside the logistic function. -/
abbrev cs : EReal := Ideal.ofBits .f32 0x3FD9DB23#32

/-- One entry of a row's first product, with its bias. -/
def pre (x : Fin 1024 → EReal) (W : Fin 1024 → Fin 2048 → EReal) (b : Fin 2048 → EReal) (f : Fin 2048) : EReal :=
  (∑ k, x k * W k f) + b f

/-- The gate: the clamped linear half plus one, times the clamped gate, times the logistic of the scaled gate. -/
def act (g u : EReal) : EReal := (min c7 (max cm7 u) + c1) * min g c7 * Ideal.logistic (cs * min g c7)

/-- One entry of a row's hidden layer. -/
def hid (x : Fin 1024 → EReal) (W : Fin 1024 → Fin 2048 → EReal) (b : Fin 2048 → EReal) (k : Fin 1024) : EReal :=
  act (pre x W b ⟨k.val, by have := k.isLt; omega⟩) (pre x W b ⟨1024 + k.val, by have := k.isLt; omega⟩)

/-- One entry of a row's result. -/
def out (x : Fin 1024 → EReal) (W : Fin 1024 → Fin 2048 → EReal) (b : Fin 2048 → EReal) (V : Fin 1024 → Fin 1024 → EReal)
    (c : Fin 1024 → EReal) (d : Fin 1024) : EReal :=
  (∑ k, hid x W b k * V k d) + c d

end Cert.Spec

end
-- ==== Proof.Take.lean ====
/-
  Taking whole matrices out of a stack by a column of positions, read at one element.
-/
module

public import Idealize.ShloMosaic.Lib.Routing.Ops
public import Idealize.ShloMosaic.Lib.ValueIdx

@[expose] public section

namespace Cert.Take

open Idealize.ShloMosaic Idealize.ShloMosaic.ValueIdx

/-- Taking members of a stack of matrices: dimension numbers for a stack `[N, R, C]` and `n` positions. -/
abbrev stackDims (N R C n : Nat)
    (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

theorem ne1 : (1 : Fin 3) ≠ 0 := by decide
theorem ne2 : (2 : Fin 3) ≠ 0 := by decide

/-- Member `b` of the result is the stack's member the position `b` names, when that position is in range. -/
theorem stack_apply {α : Type} {N R C n : Nat}
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ 32) (b : Fin n) (r : Fin R) (c : Fin C) (e : Fin N)
    (he : (idx (ix2 b (0 : Fin 1))).toInt = (e.val : Int)) :
    Host.gather (stackDims N R C n wf) x idx (ix3 b r c) = x (ix3 e r c) := by
  unfold Host.gather
  refine congrArg x (funext fun a => Fin.ext ?_)
  have hbN : ∀ a', a' ∉ (stackDims N R C n wf).operandBatchingDims := fun a' => List.not_mem_nil
  show (stackDims N R C n wf).start (ix3 b r c) idx a + (stackDims N R C n wf).batchCoord (ix3 b r c) a
      + (stackDims N R C n wf).offCoord (ix3 b r c) a = _
  rw [GatherDims.batchCoord_eq_zero _ _ _ (hbN a), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (stackDims N R C n wf).startIndexMap from List.mem_singleton.mpr rfl)]
    have hsi : (stackDims N R C n wf).siIdx (ix3 b r c) ⟨List.idxOf (0 : Fin 3) (stackDims N R C n wf).startIndexMap,
        List.idxOf_lt_length_iff.2 (List.mem_singleton.mpr rfl)⟩ = ix2 b (0 : Fin 1) := by
      funext q; refine Fin.ext ?_
      match q with
      | ⟨0, _⟩ => rfl
      | ⟨1, _⟩ => rfl
    have hl := e.isLt
    show min (idx ((stackDims N R C n wf).siIdx (ix3 b r c) ⟨List.idxOf (0 : Fin 3) (stackDims N R C n wf).startIndexMap,
        List.idxOf_lt_length_iff.2 (List.mem_singleton.mpr rfl)⟩)).toInt.toNat (N - 1) = e.val
    rw [hsi, he]
    omega
  · have hm : (1 : Fin 3) ∉ (stackDims N R C n wf).startIndexMap := fun h => ne1 (List.mem_singleton.1 h)
    have hk : (1 : Fin 3) ∈ (stackDims N R C n wf).sKept :=
      (GatherDims.mem_sKept _ _).2 ⟨fun h => ne1 (List.mem_singleton.1 h), hbN 1⟩
    unfold GatherDims.start GatherDims.offCoord
    rw [dif_neg hm, dif_pos hk, Nat.zero_add]
    rfl
  · have hm : (2 : Fin 3) ∉ (stackDims N R C n wf).startIndexMap := fun h => ne2 (List.mem_singleton.1 h)
    have hk : (2 : Fin 3) ∈ (stackDims N R C n wf).sKept :=
      (GatherDims.mem_sKept _ _).2 ⟨fun h => ne2 (List.mem_singleton.1 h), hbN 2⟩
    unfold GatherDims.start GatherDims.offCoord
    rw [dif_neg hm, dif_pos hk, Nat.zero_add]
    rfl

end Cert.Take
-- ==== Proof.Ref.lean ====
/-
  The reference's array read at one element: row `r` of block `b` goes through the expert the block's table entry names.
-/
module

public import proofs.«01_k».proof.Proof.Gen.ReferenceIdeal.Read
public import proofs.«01_k».proof.Proof.Spec
public import proofs.«01_k».proof.Proof.Take

@[expose] public section

noncomputable section

namespace Cert.Ref

open Idealize.ShloMosaic Idealize.ShloMosaic.ValueIdx Cert.ReferenceIdeal Cert.ReferenceIdeal.Read Cert.ReferenceIdeal.Gen
open scoped BigOperators

theorem c1_eq : Spec.c1 = 1 := by simp [Spec.c1, Ideal.ofBits, Ideal.ieee, -EReal.coe_mul]; norm_num

/-- Row `r` of block `b` of the packed rows: its column `k` is in slab row `8r + k/128` of the block. -/
def row (x3 : S671744x128.Idx → EReal) (b : Fin 164) (r : Fin 512) (k : Fin 1024) : EReal :=
  x3 (ix2 ⟨b.val * 4096 + 8 * r.val + k.val / 128, by have := b.isLt; have := r.isLt; have := k.isLt; omega⟩
    ⟨k.val % 128, Nat.mod_lt _ (by decide)⟩)
/-- Expert `e`'s first matrix. -/
def w1 (x4 : S1x32x1024x2048.Idx → EReal) (e : Fin 32) (k : Fin 1024) (f : Fin 2048) : EReal := x4 (ix4 (0 : Fin 1) e k f)
/-- Expert `e`'s first bias. -/
def b1 (x5 : S1x32x2048.Idx → EReal) (e : Fin 32) (f : Fin 2048) : EReal := x5 (ix3 (0 : Fin 1) e f)
/-- Expert `e`'s second matrix. -/
def w2 (x6 : S1x32x1024x1024.Idx → EReal) (e : Fin 32) (k : Fin 1024) (f : Fin 1024) : EReal := x6 (ix4 (0 : Fin 1) e k f)
/-- Expert `e`'s second bias. -/
def b2 (x7 : S1x32x1024.Idx → EReal) (e : Fin 32) (f : Fin 1024) : EReal := x7 (ix3 (0 : Fin 1) e f)

section Word
variable (x0 : S1x256.Idx → BitVec 32) (hge : ∀ j, 0 ≤ (x0 j).toInt) (b : Fin 164)

/-- The table entry of a block. -/
abbrev wrd : BitVec 32 := x0 (ix2 (0 : Fin 1) ⟨b.val, by have := b.isLt; omega⟩)

theorem v1_apply : val_main_v1 (F := Ideal) x0 (ix1 b) = wrd x0 b := by
  rw [val_main_v1_apply, val_main_v0_apply]
  refine congrArg x0 (funext fun a => Fin.ext ?_)
  have := b.isLt
  match a with
  | ⟨0, _⟩ => rfl
  | ⟨1, _⟩ => exact Nat.mod_eq_of_lt this

include hge

theorem not_neg (c : BitVec 32) (hc : c = 0#32) : IntOp.cmpi .slt (wrd x0 b) c = 0#1 := by
  subst hc
  refine eq_zero_of_ne_one fun h => ?_
  have h1 := IntOp.cmpi_slt.mp h
  have h2 : 0 ≤ (wrd x0 b).toInt := hge _
  have h3 : (0#32 : BitVec 32).toInt = 0 := by decide
  omega

theorem v9_apply : val_main_v9 (F := Ideal) x0 (ix2 b (0 : Fin 1)) = wrd x0 b := by
  have e : idx_main_v9 (ix2 b (0 : Fin 1)) = ix1 b := funext fun a => match a with | ⟨0, _⟩ => rfl
  rw [val_main_v9_apply, e, val_main_v8_apply, val_main_v5_apply, val_main_v4_apply, val_main_c_apply, v1_apply,
    not_neg x0 hge b _ rfl, select_zero]

theorem v18_apply : val_main_v18 (F := Ideal) x0 (ix2 b (0 : Fin 1)) = wrd x0 b := by
  have e : idx_main_v18 (ix2 b (0 : Fin 1)) = ix1 b := funext fun a => match a with | ⟨0, _⟩ => rfl
  rw [val_main_v18_apply, e, val_main_v17_apply, val_main_v14_apply, val_main_v13_apply, val_main_c_1_apply, v1_apply,
    not_neg x0 hge b _ rfl, select_zero]

theorem v48_apply : val_main_v48 (F := Ideal) x0 (ix2 b (0 : Fin 1)) = wrd x0 b := by
  have e : idx_main_v48 (ix2 b (0 : Fin 1)) = ix1 b := funext fun a => match a with | ⟨0, _⟩ => rfl
  rw [val_main_v48_apply, e, val_main_v47_apply, val_main_v44_apply, val_main_v43_apply, val_main_c_9_apply, v1_apply,
    not_neg x0 hge b _ rfl, select_zero]

theorem v57_apply : val_main_v57 (F := Ideal) x0 (ix2 b (0 : Fin 1)) = wrd x0 b := by
  have e : idx_main_v57 (ix2 b (0 : Fin 1)) = ix1 b := funext fun a => match a with | ⟨0, _⟩ => rfl
  rw [val_main_v57_apply, e, val_main_v56_apply, val_main_v53_apply, val_main_v52_apply, val_main_c_11_apply, v1_apply,
    not_neg x0 hge b _ rfl, select_zero]

end Word

section Elem
variable (x0 : S1x256.Idx → BitVec 32) (x3 : S671744x128.Idx → EReal) (x4 : S1x32x1024x2048.Idx → EReal)
  (x5 : S1x32x2048.Idx → EReal) (x6 : S1x32x1024x1024.Idx → EReal) (x7 : S1x32x1024.Idx → EReal)
  (hge : ∀ j, 0 ≤ (x0 j).toInt) (b : Fin 164) (e : Fin 32) (he : (wrd x0 b).toInt = (e.val : Int)) (r : Fin 512)

theorem v2_apply (k : Fin 1024) : val_main_v2 (F := Ideal) x3 (ix3 b r k) = row x3 b r k := by
  rw [val_main_v2_apply]
  refine congrArg x3 (funext fun a => Fin.ext ?_)
  have := b.isLt; have := r.isLt; have := k.isLt
  match a with
  | ⟨0, _⟩ => show ((b.val * 512 + r.val) * 1024 + k.val) / 128 = b.val * 4096 + 8 * r.val + k.val / 128; omega
  | ⟨1, _⟩ => show ((b.val * 512 + r.val) * 1024 + k.val) % 128 = k.val % 128; omega

theorem v3_apply (k : Fin 1024) (f : Fin 2048) : val_main_v3 (F := Ideal) x4 (ix3 e k f) = w1 x4 e k f := by
  rw [val_main_v3_apply]
  refine congrArg x4 (funext fun a => Fin.ext ?_)
  have := e.isLt; have := k.isLt; have := f.isLt
  match a with
  | ⟨0, _⟩ => rfl
  | ⟨1, _⟩ => show ((e.val * 1024 + k.val) * 2048 + f.val) / 2097152 % 32 = e.val; omega
  | ⟨2, _⟩ => show ((e.val * 1024 + k.val) * 2048 + f.val) / 2048 % 1024 = k.val; omega
  | ⟨3, _⟩ => show ((e.val * 1024 + k.val) * 2048 + f.val) % 2048 = f.val; omega

theorem v42_apply (k : Fin 1024) (f : Fin 1024) : val_main_v42 (F := Ideal) x6 (ix3 e k f) = w2 x6 e k f := by
  rw [val_main_v42_apply]
  refine congrArg x6 (funext fun a => Fin.ext ?_)
  have := e.isLt; have := k.isLt; have := f.isLt
  match a with
  | ⟨0, _⟩ => rfl
  | ⟨1, _⟩ => show ((e.val * 1024 + k.val) * 1024 + f.val) / 1048576 % 32 = e.val; omega
  | ⟨2, _⟩ => show ((e.val * 1024 + k.val) * 1024 + f.val) / 1024 % 1024 = k.val; omega
  | ⟨3, _⟩ => show ((e.val * 1024 + k.val) * 1024 + f.val) % 1024 = f.val; omega

theorem v12_apply (f : Fin 2048) : val_main_v12 (F := Ideal) x5 (ix2 e f) = b1 x5 e f := by
  rw [val_main_v12_apply]
  refine congrArg x5 (funext fun a => Fin.ext ?_)
  have := e.isLt; have := f.isLt
  match a with
  | ⟨0, _⟩ => rfl
  | ⟨1, _⟩ => show (e.val * 2048 + f.val) / 2048 % 32 = e.val; omega
  | ⟨2, _⟩ => show (e.val * 2048 + f.val) % 2048 = f.val; omega

theorem v51_apply (f : Fin 1024) : val_main_v51 (F := Ideal) x7 (ix2 e f) = b2 x7 e f := by
  rw [val_main_v51_apply]
  refine congrArg x7 (funext fun a => Fin.ext ?_)
  have := e.isLt; have := f.isLt
  match a with
  | ⟨0, _⟩ => rfl
  | ⟨1, _⟩ => show (e.val * 1024 + f.val) / 1024 % 32 = e.val; omega
  | ⟨2, _⟩ => show (e.val * 1024 + f.val) % 1024 = f.val; omega

include hge he

theorem v10_apply (k : Fin 1024) (f : Fin 2048) : val_main_v10 (F := Ideal) x0 x4 (ix3 b k f) = w1 x4 e k f := by
  unfold val_main_v10
  refine (Take.stack_apply (N := 32) (R := 1024) (C := 2048) (n := 164) gather_S32x1024x2048_S164x1_S164x1024x2048_12_0_n_n_0_1_110242048.wf _ _ b k f e ?_).trans (v3_apply x4 e k f)
  rw [v9_apply x0 hge b]; exact he

theorem v49_apply (k : Fin 1024) (f : Fin 1024) : val_main_v49 (F := Ideal) x0 x6 (ix3 b k f) = w2 x6 e k f := by
  unfold val_main_v49
  refine (Take.stack_apply (N := 32) (R := 1024) (C := 1024) (n := 164) gather_S32x1024x1024_S164x1_S164x1024x1024_12_0_n_n_0_1_110241024.wf _ _ b k f e ?_).trans (v42_apply x6 e k f)
  rw [v48_apply x0 hge b]; exact he

theorem word_ofNat : wrd x0 b = BitVec.ofNat 32 e.val := by
  apply BitVec.eq_of_toInt_eq
  rw [he, StableHlo.Predicate.toInt_ofNat_small _ (by have := e.isLt; omega)]

theorem v19_apply (f : Fin 2048) : val_main_v19 (F := Ideal) x0 x5 (ix2 b f) = b1 x5 e f := by
  unfold val_main_v19
  refine (Routing.gather_row (nb := 32) (B := 2048) (n := 164) gather_S32x2048_S164x1_S164x2048_1_0_n_n_0_1_12048 rfl rfl rfl rfl rfl _ _ b f e ?_ (by decide)).trans (v12_apply x5 e f)
  exact (v18_apply x0 hge b).trans (word_ofNat x0 hge b e he)

theorem v58_apply (f : Fin 1024) : val_main_v58 (F := Ideal) x0 x7 (ix2 b f) = b2 x7 e f := by
  unfold val_main_v58
  refine (Routing.gather_row (nb := 32) (B := 1024) (n := 164) gather_S32x1024_S164x1_S164x1024_1_0_n_n_0_1_11024 rfl rfl rfl rfl rfl _ _ b f e ?_ (by decide)).trans (v51_apply x7 e f)
  exact (v57_apply x0 hge b).trans (word_ofNat x0 hge b e he)

/-- The first product's entry. -/
theorem v22_apply (f : Fin 2048) : val_main_v22 (F := Ideal) x0 x3 x4 x5 (ix3 b r f) = Spec.pre (row x3 b r) (w1 x4 e) (b1 x5 e) f := by
  rw [val_main_v22_apply, val_main_v11_apply, val_main_v21_apply, val_main_v20_apply]
  have e1 : idx_main_v20 (idx_main_v21 (ix3 b r f)) = ix2 b f := funext fun a => match a with | ⟨0, _⟩ => rfl | ⟨1, _⟩ => rfl
  rw [e1, v19_apply x0 x5 hge b e he]
  refine congrArg (· + b1 x5 e f) (Finset.sum_congr rfl fun k _ => ?_)
  have e2 : lidx_main_v11 (ix3 b r f) k = ix3 b r k := funext fun a => match a with | ⟨0, _⟩ => rfl | ⟨1, _⟩ => rfl | ⟨2, _⟩ => rfl
  have e3 : ridx_main_v11 (ix3 b r f) k = ix3 b k f := funext fun a => match a with | ⟨0, _⟩ => rfl | ⟨1, _⟩ => rfl | ⟨2, _⟩ => rfl
  rw [e2, e3, v2_apply, v10_apply x0 x4 hge b e he]

/-- The hidden layer's entry. -/
theorem v41_apply (k : Fin 1024) : val_main_v41 (F := Ideal) x0 x3 x4 x5 (ix3 b r k) = Spec.hid (row x3 b r) (w1 x4 e) (b1 x5 e) k := by
  have hk := k.isLt
  have e1 : idx_main_v23 (ix3 b r k) = ix3 b r ⟨k.val, by omega⟩ := funext fun a => match a with
    | ⟨0, _⟩ => Fin.ext (by show _ = b.val; simp) | ⟨1, _⟩ => Fin.ext (by show _ = r.val; simp) | ⟨2, _⟩ => Fin.ext (by show _ = k.val; simp)
  have e2 : idx_main_v26 (ix3 b r k) = ix3 b r ⟨1024 + k.val, by omega⟩ := funext fun a => match a with
    | ⟨0, _⟩ => Fin.ext (by show _ = b.val; simp) | ⟨1, _⟩ => Fin.ext (by show _ = r.val; simp) | ⟨2, _⟩ => Fin.ext (by show _ = 1024 + k.val; simp)
  have hg : val_main_v25 (F := Ideal) x0 x3 x4 x5 (ix3 b r k) = min (Spec.pre (row x3 b r) (w1 x4 e) (b1 x5 e) ⟨k.val, by omega⟩) Spec.c7 := by
    rw [val_main_v25_apply, val_main_v23_apply, e1, v22_apply x0 x3 x4 x5 hge b e he r, val_main_v24_apply, val_main_cst_apply]; rfl
  have hu : val_main_v29 (F := Ideal) x0 x3 x4 x5 (ix3 b r k) = min Spec.c7 (max Spec.cm7 (Spec.pre (row x3 b r) (w1 x4 e) (b1 x5 e) ⟨1024 + k.val, by omega⟩)) := by
    show FloatOps.minimumf (F := Ideal) (φ := .f32) (FloatOps.maximumf (F := Ideal) (φ := .f32) (val_main_v26 (F := Ideal) x0 x3 x4 x5 (ix3 b r k)) (val_main_v27 (F := Ideal) (ix3 b r k))) (val_main_v28 (F := Ideal) (ix3 b r k)) = _
    rw [val_main_v26_apply, e2, v22_apply x0 x3 x4 x5 hge b e he r, val_main_v27_apply, val_main_cst_3_apply, val_main_v28_apply, val_main_cst_4_apply]
    show min (max _ Spec.cm7) Spec.c7 = _
    rw [min_comm, max_comm]
  rw [val_main_v41_apply, val_main_v32_apply, val_main_v31_apply, val_main_v40_apply, val_main_v38_apply, val_main_v36_apply, val_main_v35_apply,
    val_main_v34_apply, hg, hu, val_main_v30_apply, val_main_cst_5_apply, val_main_v39_apply, val_main_cst_8_apply, val_main_v37_apply, val_main_cst_7_apply,
    val_main_v33_apply, val_main_cst_6_apply]
  unfold Spec.hid
  generalize Spec.pre (row x3 b r) (w1 x4 e) (b1 x5 e) ⟨k.val, _⟩ = G
  generalize Spec.pre (row x3 b r) (w1 x4 e) (b1 x5 e) ⟨1024 + k.val, _⟩ = U
  show (min Spec.c7 (max Spec.cm7 U) + Spec.c1) * min G Spec.c7
    * Ideal.div Spec.c1 (Spec.c1 + Ideal.exp (-(Spec.cs * min G Spec.c7))) = Spec.act G U
  unfold Spec.act Ideal.logistic
  rw [c1_eq]

/-- The result's entry. -/
theorem v61_apply (d : Fin 1024) : val_main_v61 (F := Ideal) x0 x3 x4 x5 x6 x7 (ix3 b r d)
    = Spec.out (row x3 b r) (w1 x4 e) (b1 x5 e) (w2 x6 e) (b2 x7 e) d := by
  rw [val_main_v61_apply, val_main_v50_apply, val_main_v60_apply, val_main_v59_apply]
  have e1 : idx_main_v59 (idx_main_v60 (ix3 b r d)) = ix2 b d := funext fun a => match a with | ⟨0, _⟩ => rfl | ⟨1, _⟩ => rfl
  rw [e1, v58_apply x0 x7 hge b e he]
  refine congrArg (· + b2 x7 e d) (Finset.sum_congr rfl fun k _ => ?_)
  have e2 : lidx_main_v50 (ix3 b r d) k = ix3 b r k := funext fun a => match a with | ⟨0, _⟩ => rfl | ⟨1, _⟩ => rfl | ⟨2, _⟩ => rfl
  have e3 : ridx_main_v50 (ix3 b r d) k = ix3 b k d := funext fun a => match a with | ⟨0, _⟩ => rfl | ⟨1, _⟩ => rfl | ⟨2, _⟩ => rfl
  rw [e2, e3, v41_apply x0 x3 x4 x5 hge b e he r, v49_apply x0 x6 hge b e he]

/-- The packed result's entry: slab row `8r + c` of block `b`, lane `l`. -/
theorem v62_apply (c : Fin 8) (l : Fin 128) :
    val_main_v62 (F := Ideal) x0 x3 x4 x5 x6 x7 (ix2 ⟨b.val * 4096 + (8 * r.val + c.val), by have := b.isLt; have := r.isLt; have := c.isLt; omega⟩ l)
    = Spec.out (row x3 b r) (w1 x4 e) (b1 x5 e) (w2 x6 e) (b2 x7 e) ⟨128 * c.val + l.val, by have := c.isLt; have := l.isLt; omega⟩ := by
  rw [val_main_v62_apply]
  refine Eq.trans (congrArg _ (funext fun a => Fin.ext ?_)) (v61_apply x0 x3 x4 x5 x6 x7 hge b e he r _)
  have := b.isLt; have := r.isLt; have := c.isLt; have := l.isLt
  match a with
  | ⟨0, _⟩ => show ((b.val * 4096 + (8 * r.val + c.val)) * 128 + l.val) / 524288 = b.val; omega
  | ⟨1, _⟩ => show ((b.val * 4096 + (8 * r.val + c.val)) * 128 + l.val) / 1024 % 512 = r.val; omega
  | ⟨2, _⟩ => show ((b.val * 4096 + (8 * r.val + c.val)) * 128 + l.val) % 1024 = 128 * c.val + l.val; omega

end Elem

end Cert.Ref

end
-- ==== Proof.I.Blocks.lean ====
/-
  What the kernel's operands hold: the expert's matrices as the body copies them, and the blocks of rows and of biases that
  a used grid point finds staged, each read at an index of the program's arguments.
-/
module

public import proofs.«01_k».proof.Proof.I.Ok
public import proofs.«01_k».proof.Proof.Ref
public import Idealize.ShloMosaic.Lib.Pipeline.Value

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

/-- The first matrix, converted: the copied one's elements. -/
theorem pay31_apply (v : Vec Ideal S1x1024x2048 .f32) (k : Fin 1024) (f : Fin 2048) : k0_pay31 (F := Ideal) v (ix2 k f) = v (ix3 (0 : Fin 1) k f) := by
  unfold k0_pay31
  rw [shapeCast_apply _ _ _ (ix2 k f) rfl]
  show shapeCast S1024x2048 v shapeCasts_S1x1024x2048_S1024x2048 (ix2 k f) = _
  exact shapeCast_apply _ _ _ (ix3 (0 : Fin 1) k f) (by
    rw [Shape.rowMajor_val_three, Shape.rowMajor_val_two]
    show (0 * 1024 + k.val) * 2048 + f.val = k.val * 2048 + f.val
    omega)

/-- The second matrix, converted. -/
theorem pay32_apply (v : Vec Ideal S1x1024x1024 .f32) (k : Fin 1024) (f : Fin 1024) : k0_pay32 (F := Ideal) v (ix2 k f) = v (ix3 (0 : Fin 1) k f) := by
  unfold k0_pay32
  rw [shapeCast_apply _ _ _ (ix2 k f) rfl]
  show shapeCast S1024x1024 v shapeCasts_S1x1024x1024_S1024x1024 (ix2 k f) = _
  exact shapeCast_apply _ _ _ (ix3 (0 : Fin 1) k f) (by
    rw [Shape.rowMajor_val_three, Shape.rowMajor_val_two]
    show (0 * 1024 + k.val) * 1024 + f.val = k.val * 1024 + f.val
    omega)

variable (m : (ℓ : Loc nD τ sig) → Buf (Elt Ideal) ℓ)

/-- The rows, the weights and the biases, as the program's arguments. -/
abbrev a3 (c : Dev nD) : S671744x128.Idx → EReal := m ((c : Thread nD τ).loc main_arg3)
abbrev a4 (c : Dev nD) : S1x32x1024x2048.Idx → EReal := m ((c : Thread nD τ).loc main_arg4)
abbrev a5 (c : Dev nD) : S1x32x2048.Idx → EReal := m ((c : Thread nD τ).loc main_arg5)
abbrev a6 (c : Dev nD) : S1x32x1024x1024.Idx → EReal := m ((c : Thread nD τ).loc main_arg6)
abbrev a7 (c : Dev nD) : S1x32x1024.Idx → EReal := m ((c : Thread nD τ).loc main_arg7)

theorem V_v16 (c : Dev nD) : V m c main_v16 = shapeCast S32x1x2048 (shapeCast S32x2048 (a5 m c) shapeCasts_S1x32x2048_S32x2048) shapeCasts_S32x2048_S32x1x2048 := by
  unfold_abbrev_sides
  after_results
  rfl

theorem V_v17 (c : Dev nD) : V m c main_v17 = shapeCast S32x1024x1024 (a6 m c) shapeCasts_S1x32x1024x1024_S32x1024x1024 := by
  unfold_abbrev_sides
  after_results
  rfl

theorem V_v19 (c : Dev nD) : V m c main_v19 = shapeCast S32x1x1024 (shapeCast S32x1024 (a7 m c) shapeCasts_S1x32x1024_S32x1024) shapeCasts_S32x1024_S32x1x1024 := by
  unfold_abbrev_sides
  after_results
  rfl

theorem v14_apply (c : Dev nD) (e : Fin 32) (k : Fin 1024) (f : Fin 2048) : (V m c main_v14 : S32x1024x2048.Idx → EReal) (ix3 e k f) = Cert.Ref.w1 (a4 m c) e k f := by
  rw [V_v14]
  exact shapeCast_apply _ _ _ (ix4 (0 : Fin 1) e k f) (by
    rw [Shape.rowMajor_val_four, Shape.rowMajor_val_three]
    show ((0 * 32 + e.val) * 1024 + k.val) * 2048 + f.val = (e.val * 1024 + k.val) * 2048 + f.val
    omega)

theorem v17_apply (c : Dev nD) (e : Fin 32) (k : Fin 1024) (f : Fin 1024) : (V m c main_v17 : S32x1024x1024.Idx → EReal) (ix3 e k f) = Cert.Ref.w2 (a6 m c) e k f := by
  rw [V_v17]
  exact shapeCast_apply _ _ _ (ix4 (0 : Fin 1) e k f) (by
    rw [Shape.rowMajor_val_four, Shape.rowMajor_val_three]
    show ((0 * 32 + e.val) * 1024 + k.val) * 1024 + f.val = (e.val * 1024 + k.val) * 1024 + f.val
    omega)

theorem v16_apply (c : Dev nD) (e : Fin 32) (f : Fin 2048) : (V m c main_v16 : S32x1x2048.Idx → EReal) (ix3 e (0 : Fin 1) f) = Cert.Ref.b1 (a5 m c) e f := by
  rw [V_v16]
  refine (shapeCast_apply _ _ _ (ix2 e f) (by
    rw [Shape.rowMajor_val_two, Shape.rowMajor_val_three]
    show e.val * 2048 + f.val = (e.val * 1 + 0) * 2048 + f.val
    omega)).trans ?_
  exact shapeCast_apply _ _ _ (ix3 (0 : Fin 1) e f) (by
    rw [Shape.rowMajor_val_two, Shape.rowMajor_val_three]
    show (0 * 32 + e.val) * 2048 + f.val = e.val * 2048 + f.val
    omega)

theorem v19_apply (c : Dev nD) (e : Fin 32) (f : Fin 1024) : (V m c main_v19 : S32x1x1024.Idx → EReal) (ix3 e (0 : Fin 1) f) = Cert.Ref.b2 (a7 m c) e f := by
  rw [V_v19]
  refine (shapeCast_apply _ _ _ (ix2 e f) (by
    rw [Shape.rowMajor_val_two, Shape.rowMajor_val_three]
    show e.val * 1024 + f.val = (e.val * 1 + 0) * 1024 + f.val
    omega)).trans ?_
  exact shapeCast_apply _ _ _ (ix3 (0 : Fin 1) e f) (by
    rw [Shape.rowMajor_val_two, Shape.rowMajor_val_three]
    show (0 * 32 + e.val) * 1024 + f.val = e.val * 1024 + f.val
    omega)

/-- An expert's first matrix as one load of the array of them. -/
theorem Wgu_apply (c : Dev nD) (fh : HbBuf0 (F := Ideal) c hbM0_0) (e : ℕ) (he : e < 32) (k : Fin 1024) (f : Fin 2048) :
    Wgu (F := Ideal) c fh e he (ix3 (0 : Fin 1) k f) = (fh : S32x1024x2048.Idx → EReal) (ix3 ⟨e, he⟩ k f) := by
  refine congrArg (fh : S32x1024x2048.Idx → EReal) (funext fun a => Fin.ext ?_)
  match a with
  | ⟨0, _⟩ => show e + 1 * 0 = e; omega
  | ⟨1, _⟩ => show 0 + 1 * k.val = k.val; omega
  | ⟨2, _⟩ => show 0 + 1 * f.val = f.val; omega

theorem Wdn_apply (c : Dev nD) (fh : HbBuf0 (F := Ideal) c hbM0_1) (e : ℕ) (he : e < 32) (k : Fin 1024) (f : Fin 1024) :
    Wdn (F := Ideal) c fh e he (ix3 (0 : Fin 1) k f) = (fh : S32x1024x1024.Idx → EReal) (ix3 ⟨e, he⟩ k f) := by
  refine congrArg (fh : S32x1024x1024.Idx → EReal) (funext fun a => Fin.ext ?_)
  match a with
  | ⟨0, _⟩ => show e + 1 * 0 = e; omega
  | ⟨1, _⟩ => show 0 + 1 * k.val = k.val; omega
  | ⟨2, _⟩ => show 0 + 1 * f.val = f.val; omega

/-- The first matrix the tile multiplies with: the expert's. -/
theorem A_apply (c : Dev nD) (e : ℕ) (he : e < 32) (k : Fin 1024) (f : Fin 2048) :
    k0_pay31 (F := Ideal) (Wgu c (V m c main_v14) e he) (ix2 k f) = Cert.Ref.w1 (a4 m c) ⟨e, he⟩ k f :=
  (pay31_apply _ k f).trans ((Wgu_apply c _ e he k f).trans (v14_apply m c ⟨e, he⟩ k f))

theorem B_apply (c : Dev nD) (e : ℕ) (he : e < 32) (k : Fin 1024) (f : Fin 1024) :
    k0_pay32 (F := Ideal) (Wdn c (V m c main_v17) e he) (ix2 k f) = Cert.Ref.w2 (a6 m c) ⟨e, he⟩ k f :=
  (pay32_apply _ k f).trans ((Wdn_apply c _ e he k f).trans (v17_apply m c ⟨e, he⟩ k f))

section Windows
variable (hO : Ok m) (c : Dev nD) (t : Fin (cfgM m hO).N)

/-- The staged rows at a point whose index map names block `n`. -/
theorem iblk0_apply (n : ℕ) (h : cc0_transform_0 inb_S1x128_S1x1_0_0 numel1_S1x1 (tbl m) (grid0.coords t) = ![n, 0]) (hn : n < 164) (s : Fin 4096) (l : Fin 128) :
    (iblk m hO c 0 t : S4096x128.Idx → EReal) (ix2 s l) = a3 m c (ix2 (n0 := 671744) (n1 := 128) ⟨n * 4096 + s.val, by have := s.isLt; omega⟩ l) := by
  refine Eq.trans ?_ (congrFun (V_main_arg3 m c) _)
  refine congrArg (V m c main_arg3 : S671744x128.Idx → EReal) (funext fun a => Fin.ext ?_)
  show ((((cfgM m hO).win 0).rect t).emb (ix2 s l) a : ℕ) = _
  have e : ((cfgM m hO).win 0).index t = ![n, 0] := h
  refine (Pipeline.Window.rect_emb_val ((cfgM m hO).win 0) t (ix2 s l) a).trans ?_
  refine (congrArg (fun z => z * ((cfgM m hO).win 0).size a + _) (congrFun e a)).trans ?_
  match a with
  | ⟨0, _⟩ => rfl
  | ⟨1, _⟩ => show 0 * 128 + l.val = l.val; omega

/-- The staged first bias at a point whose index map names expert `n`. -/
theorem iblk1_apply (n : ℕ) (h : cc0_transform_2 k0_off1_inb numel1_S1x1 (tbl m) (grid0.coords t) = ![n, 0, 0]) (hn : n < 32) (f : Fin 2048) :
    (iblk m hO c 1 t : S1x1x2048.Idx → EReal) (ix3 (0 : Fin 1) (0 : Fin 1) f) = Cert.Ref.b1 (a5 m c) ⟨n, hn⟩ f := by
  refine Eq.trans ?_ (v16_apply m c ⟨n, hn⟩ f)
  refine congrArg (V m c main_v16 : S32x1x2048.Idx → EReal) (funext fun a => Fin.ext ?_)
  show ((((cfgM m hO).win 1).rect t).emb (ix3 (0 : Fin 1) (0 : Fin 1) f) a : ℕ) = _
  have e : ((cfgM m hO).win 1).index t = ![n, 0, 0] := h
  refine (Pipeline.Window.rect_emb_val ((cfgM m hO).win 1) t (ix3 (0 : Fin 1) (0 : Fin 1) f) a).trans ?_
  refine (congrArg (fun z => z * ((cfgM m hO).win 1).size a + _) (congrFun e a)).trans ?_
  match a with
  | ⟨0, _⟩ => show n * 1 + 0 = n; omega
  | ⟨1, _⟩ => rfl
  | ⟨2, _⟩ => show 0 * 2048 + f.val = f.val; omega

/-- The staged second bias. -/
theorem iblk2_apply (n : ℕ) (h : cc0_transform_4 k0_off1_inb numel1_S1x1 (tbl m) (grid0.coords t) = ![n, 0, 0]) (hn : n < 32) (f : Fin 1024) :
    (iblk m hO c 2 t : S1x1x1024.Idx → EReal) (ix3 (0 : Fin 1) (0 : Fin 1) f) = Cert.Ref.b2 (a7 m c) ⟨n, hn⟩ f := by
  refine Eq.trans ?_ (v19_apply m c ⟨n, hn⟩ f)
  refine congrArg (V m c main_v19 : S32x1x1024.Idx → EReal) (funext fun a => Fin.ext ?_)
  show ((((cfgM m hO).win 2).rect t).emb (ix3 (0 : Fin 1) (0 : Fin 1) f) a : ℕ) = _
  have e : ((cfgM m hO).win 2).index t = ![n, 0, 0] := h
  refine (Pipeline.Window.rect_emb_val ((cfgM m hO).win 2) t (ix3 (0 : Fin 1) (0 : Fin 1) f) a).trans ?_
  refine (congrArg (fun z => z * ((cfgM m hO).win 2).size a + _) (congrFun e a)).trans ?_
  match a with
  | ⟨0, _⟩ => show n * 1 + 0 = n; omega
  | ⟨1, _⟩ => rfl
  | ⟨2, _⟩ => show 0 * 1024 + f.val = f.val; omega

/-- Where an element of the output's block at point `t` sits in the array. -/
theorem emb3 (y : S4096x128.Idx) (a : Fin 2) :
    ((((cfgM m hO).win 3).blk t).view.emb y a : ℕ) = ![t.val * 4096 + (y 0).val, (y 1).val] a := by
  show ((((cfgM m hO).win 3).rect t).emb y a : ℕ) = _
  have e : ((cfgM m hO).win 3).index t = ![(BitVec.ofNat 32 (grid0.coords t 0).val).toNat, 0] := rfl
  have ht : t.val < 164 := t.isLt
  have e' : (BitVec.ofNat 32 (grid0.coords t 0).val).toNat = t.val := by
    rw [coords_val, BitVec.toNat_ofNat, Nat.mod_eq_of_lt (by omega)]
  rw [e'] at e
  refine (Pipeline.Window.rect_emb_val ((cfgM m hO).win 3) t y a).trans ?_
  refine (congrArg (fun z => z * ((cfgM m hO).win 3).size a + _) (congrFun e a)).trans ?_
  match a with
  | ⟨0, _⟩ => rfl
  | ⟨1, _⟩ => show 0 * 128 + (y 1).val = (y 1).val; omega

end Windows

end Cert.KernelIdeal.X

end
-- ==== Proof.Tile.lean ====
/-
  The arithmetic of one row tile, for any number `M` of rows, read at one element over exact numbers.
-/
module

public import Idealize.ShloMosaic.Lib.MatmulPlain
public import Idealize.ShloMosaic.Lib.Pipeline.Value
public import proofs.«01_k».proof.Proof.Spec

@[expose] public section

noncomputable section

namespace Cert.Tile

open Idealize.ShloMosaic Idealize.ShloMosaic.ValueIdx
open scoped BigOperators

/-- A shape of two axes. -/
abbrev S2 (m n : ℕ) : Shape := ⟨2, ![m, n]⟩
/-- A shape of three axes whose first two have one position. -/
abbrev S11 (n : ℕ) : Shape := ⟨3, ![1, 1, n]⟩

/-- A product with its bias row. -/
def lin {M K N : ℕ} (x : FVec Ideal (S2 M K) .bf16) (A : FVec Ideal (S2 K N) .bf16) (b : FVec Ideal (S11 N) .f32)
    (h1 : (S11 N).ShapeCasts (S2 1 N)) (h2 : (S2 1 N).Broadcasts (S2 M N)) : FVec Ideal (S2 M N) .f32 :=
  addf (matmul (DotDims.plain M K N) none x A (constant (S2 M N) .f32 0x00000000#32)) (broadcastTo (S2 M N) (shapeCast (S2 1 N) b h1) h2)

theorem bias_apply {M N : ℕ} (b : FVec Ideal (S11 N) .f32) (hN : N ≠ 1)
    (h1 : (S11 N).ShapeCasts (S2 1 N)) (h2 : (S2 1 N).Broadcasts (S2 M N)) (r : Fin M) (f : Fin N) :
    broadcastTo (S2 M N) (shapeCast (S2 1 N) b h1) h2 (ix2 r f) = b (ix3 (0 : Fin 1) (0 : Fin 1) f) := by
  rw [broadcastTo_apply _ h2 (ix2 r f) (ix2 (0 : Fin 1) f) (fun a => match a with
    | ⟨0, _⟩ => by show 0 = if (1 : ℕ) = 1 then 0 else _; rw [if_pos rfl]
    | ⟨1, _⟩ => by show f.val = if N = 1 then 0 else f.val; rw [if_neg hN])]
  exact shapeCast_apply b h1 (ix2 (0 : Fin 1) f) (ix3 (0 : Fin 1) (0 : Fin 1) f)
    (by rw [Shape.rowMajor_val_three, Shape.rowMajor_val_two]; show (0 * 1 + 0) * N + f.val = 0 * N + f.val; omega)

theorem lin_apply {M K N : ℕ} (x : FVec Ideal (S2 M K) .bf16) (A : FVec Ideal (S2 K N) .bf16) (b : FVec Ideal (S11 N) .f32) (hN : N ≠ 1)
    (h1 : (S11 N).ShapeCasts (S2 1 N)) (h2 : (S2 1 N).Broadcasts (S2 M N)) (r : Fin M) (f : Fin N) :
    lin x A b h1 h2 (ix2 r f) = ((∑ k : Fin K, x (ix2 r k) * A (ix2 k f)) + b (ix3 (0 : Fin 1) (0 : Fin 1) f) : EReal) := by
  show (FloatOps.matmul (DotDims.plain M K N) none x A (constant (S2 M N) .f32 0x00000000#32) (ix2 r f) : EReal)
    + broadcastTo (S2 M N) (shapeCast (S2 1 N) b h1) h2 (ix2 r f) = _
  rw [Ideal.matmul_plain_apply, bias_apply b hN h1 h2 r f]
  show Ideal.ofBits .f32 0x00000000#32 + _ + _ = _
  rw [Ideal.ofBits_zero_f32, zero_add]

/-- The gate over a tile. -/
def gate {M : ℕ} (y : FVec Ideal (S2 M 2048) .f32) (hl : FTy.bits .bf16 < FTy.bits .f32)
    (h0 : (S2 M 2048).Slices ![0, 0] (S2 M 1024)) (h1 : (S2 M 2048).Slices ![0, 1024] (S2 M 1024)) : FVec Ideal (S2 M 1024) .bf16 :=
  truncf .bf16 (mulf (mulf (addf (minimumf (broadcast (S2 M 1024) (Scalar.ofBits .f32 0x40E00000#32)) (maximumf (broadcast (S2 M 1024) (Scalar.ofBits .f32 0xC0E00000#32)) (extractStridedSlice (S2 M 1024) ![0, 1024] y h1))) (broadcast (S2 M 1024) (Scalar.ofBits .f32 0x3F800000#32)))
      (minimumf (extractStridedSlice (S2 M 1024) ![0, 0] y h0) (broadcast (S2 M 1024) (Scalar.ofBits .f32 0x40E00000#32))))
    (logistic (mulf (broadcast (S2 M 1024) (Scalar.ofBits .f32 0x3FD9DB23#32)) (minimumf (extractStridedSlice (S2 M 1024) ![0, 0] y h0) (broadcast (S2 M 1024) (Scalar.ofBits .f32 0x40E00000#32)))))) hl

theorem gate_apply {M : ℕ} (y : FVec Ideal (S2 M 2048) .f32) (hl : FTy.bits .bf16 < FTy.bits .f32)
    (h0 : (S2 M 2048).Slices ![0, 0] (S2 M 1024)) (h1 : (S2 M 2048).Slices ![0, 1024] (S2 M 1024)) (r : Fin M) (k : Fin 1024) :
    gate y hl h0 h1 (ix2 r k) = Spec.act (y (ix2 r ⟨k.val, by have := k.isLt; omega⟩)) (y (ix2 r ⟨1024 + k.val, by have := k.isLt; omega⟩)) := by
  have e0 : extractStridedSlice (S2 M 1024) ![0, 0] y h0 (ix2 r k) = y (ix2 r ⟨k.val, by have := k.isLt; omega⟩) :=
    extractStridedSlice_apply ![0, 0] y h0 _ _ (fun a => match a with
      | ⟨0, _⟩ => (Nat.zero_add _).symm
      | ⟨1, _⟩ => (Nat.zero_add _).symm)
  have e1 : extractStridedSlice (S2 M 1024) ![0, 1024] y h1 (ix2 r k) = y (ix2 r ⟨1024 + k.val, by have := k.isLt; omega⟩) :=
    extractStridedSlice_apply ![0, 1024] y h1 _ _ (fun a => match a with
      | ⟨0, _⟩ => (Nat.zero_add _).symm
      | ⟨1, _⟩ => rfl)
  rw [← e0, ← e1]
  rfl

/-- Eight column chunks side by side, read at a column. -/
theorem cat_apply {M : ℕ} (v : Fin 8 → (S2 M 128).Idx → EReal)
    (h : Shape.Concatenates [S2 M 128, S2 M 128, S2 M 128, S2 M 128, S2 M 128, S2 M 128, S2 M 128, S2 M 128] (S2 M 1024) 1)
    (r : Fin M) (k : Fin 1024) :
    concatenate (S2 M 1024) 1 [⟨S2 M 128, v 0⟩, ⟨S2 M 128, v 1⟩, ⟨S2 M 128, v 2⟩, ⟨S2 M 128, v 3⟩, ⟨S2 M 128, v 4⟩, ⟨S2 M 128, v 5⟩, ⟨S2 M 128, v 6⟩, ⟨S2 M 128, v 7⟩] h (ix2 r k)
      = v ⟨k.val / 128, by have := k.isLt; omega⟩ (ix2 r ⟨k.val % 128, Nat.mod_lt _ (by decide)⟩) := by
  refine concatenate_ofFn_apply (t := S2 M 1024) (s₁ := S2 M 128) 1 v h rfl 128 rfl (ix2 r k) _ rfl _ rfl (fun b hb => ?_)
  match b with
  | ⟨0, _⟩ => rfl
  | ⟨1, _⟩ => exact absurd rfl hb

/-- The hidden layer of a tile. -/
def hidM {M : ℕ} (v : Fin 8 → FVec Ideal (S2 M 128) .f32) (A : FVec Ideal (S2 1024 2048) .bf16) (b : FVec Ideal (S11 2048) .f32)
    (h : Shape.Concatenates [S2 M 128, S2 M 128, S2 M 128, S2 M 128, S2 M 128, S2 M 128, S2 M 128, S2 M 128] (S2 M 1024) 1)
    (hl : FTy.bits .bf16 < FTy.bits .f32) (h1 : (S11 2048).ShapeCasts (S2 1 2048)) (h2 : (S2 1 2048).Broadcasts (S2 M 2048))
    (g0 : (S2 M 2048).Slices ![0, 0] (S2 M 1024)) (g1 : (S2 M 2048).Slices ![0, 1024] (S2 M 1024)) : FVec Ideal (S2 M 1024) .bf16 :=
  gate (lin (truncf .bf16 (concatenate (S2 M 1024) 1 [⟨S2 M 128, v 0⟩, ⟨S2 M 128, v 1⟩, ⟨S2 M 128, v 2⟩, ⟨S2 M 128, v 3⟩, ⟨S2 M 128, v 4⟩, ⟨S2 M 128, v 5⟩, ⟨S2 M 128, v 6⟩, ⟨S2 M 128, v 7⟩] h) hl) A b h1 h2) hl g0 g1

theorem hidM_apply {M : ℕ} (v : Fin 8 → FVec Ideal (S2 M 128) .f32) (A : FVec Ideal (S2 1024 2048) .bf16) (b : FVec Ideal (S11 2048) .f32)
    (h : Shape.Concatenates [S2 M 128, S2 M 128, S2 M 128, S2 M 128, S2 M 128, S2 M 128, S2 M 128, S2 M 128] (S2 M 1024) 1)
    (hl : FTy.bits .bf16 < FTy.bits .f32) (h1 : (S11 2048).ShapeCasts (S2 1 2048)) (h2 : (S2 1 2048).Broadcasts (S2 M 2048))
    (g0 : (S2 M 2048).Slices ![0, 0] (S2 M 1024)) (g1 : (S2 M 2048).Slices ![0, 1024] (S2 M 1024)) (r : Fin M) (k : Fin 1024)
    (x : Fin 1024 → EReal) (W : Fin 1024 → Fin 2048 → EReal) (bb : Fin 2048 → EReal)
    (hx : ∀ q : Fin 1024, v ⟨q.val / 128, by have := q.isLt; omega⟩ (ix2 r ⟨q.val % 128, Nat.mod_lt _ (by decide)⟩) = x q)
    (hW : ∀ q f, A (ix2 q f) = W q f) (hb : ∀ f, b (ix3 (0 : Fin 1) (0 : Fin 1) f) = bb f) :
    hidM v A b h hl h1 h2 g0 g1 (ix2 r k) = Spec.hid x W bb k := by
  have e : ∀ f : Fin 2048, lin (truncf .bf16 (concatenate (S2 M 1024) 1 [⟨S2 M 128, v 0⟩, ⟨S2 M 128, v 1⟩, ⟨S2 M 128, v 2⟩, ⟨S2 M 128, v 3⟩, ⟨S2 M 128, v 4⟩, ⟨S2 M 128, v 5⟩, ⟨S2 M 128, v 6⟩, ⟨S2 M 128, v 7⟩] h) hl) A b h1 h2 (ix2 r f) = Spec.pre x W bb f := by
    intro f
    rw [lin_apply _ A b (by decide) h1 h2 r f, hb f]
    refine congrArg (· + bb f) (Finset.sum_congr rfl fun q _ => ?_)
    rw [hW q f, ← hx q]
    exact congrArg (· * W q f) (cat_apply v h r q)
  unfold hidM
  rw [gate_apply, e, e]
  rfl

/-- The result of a tile: the second product over the hidden layer. -/
theorem out_apply {M : ℕ} (y : FVec Ideal (S2 M 1024) .bf16) (B : FVec Ideal (S2 1024 1024) .bf16) (b : FVec Ideal (S11 1024) .f32)
    (h1 : (S11 1024).ShapeCasts (S2 1 1024)) (h2 : (S2 1 1024).Broadcasts (S2 M 1024)) (o : ℕ)
    (hs : (S2 M 1024).Slices ![0, o] (S2 M 128)) (r : Fin M) (l : Fin 128) (ho : o + l.val < 1024)
    (x : Fin 1024 → EReal) (W : Fin 1024 → Fin 2048 → EReal) (bb : Fin 2048 → EReal) (V : Fin 1024 → Fin 1024 → EReal) (cc : Fin 1024 → EReal)
    (hy : ∀ k, y (ix2 r k) = Spec.hid x W bb k) (hV : ∀ q f, B (ix2 q f) = V q f) (hc : ∀ f, b (ix3 (0 : Fin 1) (0 : Fin 1) f) = cc f) :
    extractStridedSlice (S2 M 128) ![0, o] (lin y B b h1 h2) hs (ix2 r l) = Spec.out x W bb V cc ⟨o + l.val, ho⟩ := by
  rw [extractStridedSlice_apply ![0, o] (lin y B b h1 h2) hs (ix2 r l) (ix2 r ⟨o + l.val, ho⟩) (fun a => match a with
      | ⟨0, _⟩ => (Nat.zero_add _).symm
      | ⟨1, _⟩ => rfl), lin_apply y B b (by decide) h1 h2 r _, hc]
  refine congrArg (· + cc _) (Finset.sum_congr rfl fun q _ => ?_)
  rw [hV, hy]

end Cert.Tile

end
-- ==== Proof.I.TileV.lean ====
/-
  The value of a row tile: what the kernel leaves in the output window for each of the four tile sizes is the layer's
  mathematics (Spec) of the rows, the weights and the biases.
-/
module

public import proofs.«01_k».proof.Proof.I.Gran
public import proofs.«01_k».proof.Proof.Tile

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

/-- A strided row group of a block: row `r` of group `c` is slab row `8r + c`. -/
theorem str_idx {M c : ℕ} (inb : ∀ a : Fin 2, (![M, 128] : Fin 2 → ℕ) a = 0 ∨ (![c, 0] : Fin 2 → ℕ) a + (![8, 1] : Fin 2 → ℕ) a * ((![M, 128] : Fin 2 → ℕ) a - 1) < S4096x128.size a)
    (r : Fin M) (l : Fin 128) (h : 8 * r.val + c < 4096) :
    (⟨![c, 0], ![M, 128], ![8, 1], inb⟩ : LoadRect S4096x128).idx (ix2 r l) = ix2 (n0 := 4096) (n1 := 128) ⟨8 * r.val + c, h⟩ l := by
  funext a; apply Fin.ext
  match a with
  | ⟨0, _⟩ => show c + 8 * r.val = 8 * r.val + c; omega
  | ⟨1, _⟩ => show 0 + 1 * l.val = l.val; omega

/-- A whole window of three axes read as one load. -/
theorem whole3_idx {n : ℕ} (inb) (f : Fin n) :
    (Rect.unit (s := ⟨3, ![1, 1, n]⟩) ![0, 0, 0] ![1, 1, n] inb).toLoadRect.idx (ix3 (0 : Fin 1) (0 : Fin 1) f) = ix3 (0 : Fin 1) (0 : Fin 1) f := by
  funext a; apply Fin.ext
  match a with
  | ⟨0, _⟩ => rfl
  | ⟨1, _⟩ => rfl
  | ⟨2, _⟩ => show 0 + 1 * f.val = f.val; omega

section Value
variable {X0 : S4096x128.Idx → EReal} {X1 : S1x1x2048.Idx → EReal} {X2 : S1x1x1024.Idx → EReal}
  {A : FVec Ideal S1024x2048 .bf16} {B : FVec Ideal S1024x1024 .bf16} {Y : S4096x128.Idx → EReal}
  {x : Fin 1024 → EReal} {W : Fin 1024 → Fin 2048 → EReal} {bb : Fin 2048 → EReal} {Vv : Fin 1024 → Fin 1024 → EReal} {cc : Fin 1024 → EReal}

/-- The row groups of a tile of 128 rows, as loads. -/
def rows1 (X0 : S4096x128.Idx → EReal) : Fin 8 → FVec Ideal S128x128 .f32 := ![ldr X0 (⟨![0, 0], S128x128.size, ![8, 1], inb_S4096x128_S128x128_0_0_s_8_1⟩ : LoadRect S4096x128), ldr X0 (⟨![1, 0], S128x128.size, ![8, 1], inb_S4096x128_S128x128_1_0_s_8_1⟩ : LoadRect S4096x128), ldr X0 (⟨![2, 0], S128x128.size, ![8, 1], inb_S4096x128_S128x128_2_0_s_8_1⟩ : LoadRect S4096x128), ldr X0 (⟨![3, 0], S128x128.size, ![8, 1], inb_S4096x128_S128x128_3_0_s_8_1⟩ : LoadRect S4096x128), ldr X0 (⟨![4, 0], S128x128.size, ![8, 1], inb_S4096x128_S128x128_4_0_s_8_1⟩ : LoadRect S4096x128), ldr X0 (⟨![5, 0], S128x128.size, ![8, 1], inb_S4096x128_S128x128_5_0_s_8_1⟩ : LoadRect S4096x128), ldr X0 (⟨![6, 0], S128x128.size, ![8, 1], inb_S4096x128_S128x128_6_0_s_8_1⟩ : LoadRect S4096x128), ldr X0 (⟨![7, 0], S128x128.size, ![8, 1], inb_S4096x128_S128x128_7_0_s_8_1⟩ : LoadRect S4096x128)]

theorem rows1_apply (r : Fin 128) (c : Fin 8) (l : Fin 128) :
    rows1 X0 c (ix2 r l) = X0 (ix2 (n0 := 4096) (n1 := 128) ⟨8 * r.val + c.val, by have := r.isLt; have := c.isLt; omega⟩ l) := by
  fin_cases c <;> exact congrArg X0 (str_idx _ r l _)

theorem hid1_apply (r : Fin 128) (k : Fin 1024)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f) :
    hid1 (F := Ideal) X0 X1 A (ix2 r k) = Spec.hid x W bb k := by
  have e : hid1 (F := Ideal) X0 X1 A = Tile.hidM (M := 128) (rows1 X0) A (ldr X1 (Rect.unit (s := S1x1x2048) ![0, 0, 0] S1x1x2048.size inb_S1x1x2048_S1x1x2048_0_0_0).toLoadRect)
      concatenates_S128x128_S128x128_S128x128_S128x128_S128x128_S128x128_S128x128_S128x128_S128x1024_d1 bitsLt_bf16_f32 shapeCasts_S1x1x2048_S1x2048 broadcasts_S1x2048_S128x2048
      slices_S128x2048_o0_0_S128x1024 slices_S128x2048_o0_1024_S128x1024 := rfl
  rw [e]
  refine Tile.hidM_apply (M := 128) _ _ _ _ _ _ _ _ _ r k x W bb (fun q => ?_) hW (fun f => ?_)
  · exact (rows1_apply r _ _).trans (hx q)
  · exact (congrArg X1 (whole3_idx _ f)).trans (hb f)

set_option maxHeartbeats 1600000 in
theorem good1_apply (h : Good1 (F := Ideal) X0 X1 X2 A B Y) (r : Fin 128) (c : Fin 8) (l : Fin 128)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f)
    (hV : ∀ q f, B (ix2 q f) = Vv q f) (hc : ∀ f, X2 (ix3 (0 : Fin 1) (0 : Fin 1) f) = cc f) :
    Y (ix2 (n0 := 4096) (n1 := 128) ⟨8 * r.val + c.val, by have := r.isLt; have := c.isLt; omega⟩ l)
      = Spec.out x W bb Vv cc ⟨128 * c.val + l.val, by have := c.isLt; have := l.isLt; omega⟩ := by
  have hy : ∀ k, hid1 (F := Ideal) X0 X1 A (ix2 r k) = Spec.hid x W bb k := fun k => hid1_apply r k hx hW hb
  have hc' : ∀ f, ldr X2 (Rect.unit (s := S1x1x1024) ![0, 0, 0] S1x1x1024.size inb_S1x1x1024_S1x1x1024_0_0_0).toLoadRect (ix3 (0 : Fin 1) (0 : Fin 1) f) = cc f :=
    fun f => (congrArg X2 (whole3_idx _ f)).trans (hc f)
  obtain ⟨h0, h1, h2, h3, h4, h5, h6, h7⟩ := h
  generalize hid1 (F := Ideal) X0 X1 A = y at hy h0 h1 h2 h3 h4 h5 h6 h7
  generalize (ldr X2 (Rect.unit (s := S1x1x1024) ![0, 0, 0] S1x1x1024.size inb_S1x1x1024_S1x1x1024_0_0_0).toLoadRect) = z at hc' h0 h1 h2 h3 h4 h5 h6 h7
  have hl := l.isLt
  obtain ⟨c, hcl⟩ := c
  match c, hcl with
  | 0, hcl =>
    exact (congrArg Y (str_idx inb_S4096x128_S128x128_0_0_s_8_1 r l _).symm).trans ((h0 (ix2 r l)).trans
      (Tile.out_apply (M := 128) y B z shapeCasts_S1x1x1024_S1x1024 broadcasts_S1x1024_S128x1024 0 slices_S128x1024_o0_0_S128x128 r l (by omega) x W bb Vv cc hy hV hc'))
  | 1, hcl =>
    exact (congrArg Y (str_idx inb_S4096x128_S128x128_1_0_s_8_1 r l _).symm).trans ((h1 (ix2 r l)).trans
      (Tile.out_apply (M := 128) y B z shapeCasts_S1x1x1024_S1x1024 broadcasts_S1x1024_S128x1024 128 slices_S128x1024_o0_128_S128x128 r l (by omega) x W bb Vv cc hy hV hc'))
  | 2, hcl =>
    exact (congrArg Y (str_idx inb_S4096x128_S128x128_2_0_s_8_1 r l _).symm).trans ((h2 (ix2 r l)).trans
      (Tile.out_apply (M := 128) y B z shapeCasts_S1x1x1024_S1x1024 broadcasts_S1x1024_S128x1024 256 slices_S128x1024_o0_256_S128x128 r l (by omega) x W bb Vv cc hy hV hc'))
  | 3, hcl =>
    exact (congrArg Y (str_idx inb_S4096x128_S128x128_3_0_s_8_1 r l _).symm).trans ((h3 (ix2 r l)).trans
      (Tile.out_apply (M := 128) y B z shapeCasts_S1x1x1024_S1x1024 broadcasts_S1x1024_S128x1024 384 slices_S128x1024_o0_384_S128x128 r l (by omega) x W bb Vv cc hy hV hc'))
  | 4, hcl =>
    exact (congrArg Y (str_idx inb_S4096x128_S128x128_4_0_s_8_1 r l _).symm).trans ((h4 (ix2 r l)).trans
      (Tile.out_apply (M := 128) y B z shapeCasts_S1x1x1024_S1x1024 broadcasts_S1x1024_S128x1024 512 slices_S128x1024_o0_512_S128x128 r l (by omega) x W bb Vv cc hy hV hc'))
  | 5, hcl =>
    exact (congrArg Y (str_idx inb_S4096x128_S128x128_5_0_s_8_1 r l _).symm).trans ((h5 (ix2 r l)).trans
      (Tile.out_apply (M := 128) y B z shapeCasts_S1x1x1024_S1x1024 broadcasts_S1x1024_S128x1024 640 slices_S128x1024_o0_640_S128x128 r l (by omega) x W bb Vv cc hy hV hc'))
  | 6, hcl =>
    exact (congrArg Y (str_idx inb_S4096x128_S128x128_6_0_s_8_1 r l _).symm).trans ((h6 (ix2 r l)).trans
      (Tile.out_apply (M := 128) y B z shapeCasts_S1x1x1024_S1x1024 broadcasts_S1x1024_S128x1024 768 slices_S128x1024_o0_768_S128x128 r l (by omega) x W bb Vv cc hy hV hc'))
  | 7, hcl =>
    exact (congrArg Y (str_idx inb_S4096x128_S128x128_7_0_s_8_1 r l _).symm).trans ((h7 (ix2 r l)).trans
      (Tile.out_apply (M := 128) y B z shapeCasts_S1x1x1024_S1x1024 broadcasts_S1x1024_S128x1024 896 slices_S128x1024_o0_896_S128x128 r l (by omega) x W bb Vv cc hy hV hc'))

/-- The row groups of a tile of 256 rows, as loads. -/
def rows2 (X0 : S4096x128.Idx → EReal) : Fin 8 → FVec Ideal S256x128 .f32 := ![ldr X0 (⟨![0, 0], S256x128.size, ![8, 1], inb_S4096x128_S256x128_0_0_s_8_1⟩ : LoadRect S4096x128), ldr X0 (⟨![1, 0], S256x128.size, ![8, 1], inb_S4096x128_S256x128_1_0_s_8_1⟩ : LoadRect S4096x128), ldr X0 (⟨![2, 0], S256x128.size, ![8, 1], inb_S4096x128_S256x128_2_0_s_8_1⟩ : LoadRect S4096x128), ldr X0 (⟨![3, 0], S256x128.size, ![8, 1], inb_S4096x128_S256x128_3_0_s_8_1⟩ : LoadRect S4096x128), ldr X0 (⟨![4, 0], S256x128.size, ![8, 1], inb_S4096x128_S256x128_4_0_s_8_1⟩ : LoadRect S4096x128), ldr X0 (⟨![5, 0], S256x128.size, ![8, 1], inb_S4096x128_S256x128_5_0_s_8_1⟩ : LoadRect S4096x128), ldr X0 (⟨![6, 0], S256x128.size, ![8, 1], inb_S4096x128_S256x128_6_0_s_8_1⟩ : LoadRect S4096x128), ldr X0 (⟨![7, 0], S256x128.size, ![8, 1], inb_S4096x128_S256x128_7_0_s_8_1⟩ : LoadRect S4096x128)]

theorem rows2_apply (r : Fin 256) (c : Fin 8) (l : Fin 128) :
    rows2 X0 c (ix2 r l) = X0 (ix2 (n0 := 4096) (n1 := 128) ⟨8 * r.val + c.val, by have := r.isLt; have := c.isLt; omega⟩ l) := by
  fin_cases c <;> exact congrArg X0 (str_idx _ r l _)

theorem hid2_apply (r : Fin 256) (k : Fin 1024)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f) :
    hid2 (F := Ideal) X0 X1 A (ix2 r k) = Spec.hid x W bb k := by
  have e : hid2 (F := Ideal) X0 X1 A = Tile.hidM (M := 256) (rows2 X0) A (ldr X1 (Rect.unit (s := S1x1x2048) ![0, 0, 0] S1x1x2048.size inb_S1x1x2048_S1x1x2048_0_0_0).toLoadRect)
      concatenates_S256x128_S256x128_S256x128_S256x128_S256x128_S256x128_S256x128_S256x128_S256x1024_d1 bitsLt_bf16_f32 shapeCasts_S1x1x2048_S1x2048 broadcasts_S1x2048_S256x2048
      slices_S256x2048_o0_0_S256x1024 slices_S256x2048_o0_1024_S256x1024 := rfl
  rw [e]
  refine Tile.hidM_apply (M := 256) _ _ _ _ _ _ _ _ _ r k x W bb (fun q => ?_) hW (fun f => ?_)
  · exact (rows2_apply r _ _).trans (hx q)
  · exact (congrArg X1 (whole3_idx _ f)).trans (hb f)

set_option maxHeartbeats 1600000 in
theorem good2_apply (h : Good2 (F := Ideal) X0 X1 X2 A B Y) (r : Fin 256) (c : Fin 8) (l : Fin 128)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f)
    (hV : ∀ q f, B (ix2 q f) = Vv q f) (hc : ∀ f, X2 (ix3 (0 : Fin 1) (0 : Fin 1) f) = cc f) :
    Y (ix2 (n0 := 4096) (n1 := 128) ⟨8 * r.val + c.val, by have := r.isLt; have := c.isLt; omega⟩ l)
      = Spec.out x W bb Vv cc ⟨128 * c.val + l.val, by have := c.isLt; have := l.isLt; omega⟩ := by
  have hy : ∀ k, hid2 (F := Ideal) X0 X1 A (ix2 r k) = Spec.hid x W bb k := fun k => hid2_apply r k hx hW hb
  have hc' : ∀ f, ldr X2 (Rect.unit (s := S1x1x1024) ![0, 0, 0] S1x1x1024.size inb_S1x1x1024_S1x1x1024_0_0_0).toLoadRect (ix3 (0 : Fin 1) (0 : Fin 1) f) = cc f :=
    fun f => (congrArg X2 (whole3_idx _ f)).trans (hc f)
  obtain ⟨h0, h1, h2, h3, h4, h5, h6, h7⟩ := h
  generalize hid2 (F := Ideal) X0 X1 A = y at hy h0 h1 h2 h3 h4 h5 h6 h7
  generalize (ldr X2 (Rect.unit (s := S1x1x1024) ![0, 0, 0] S1x1x1024.size inb_S1x1x1024_S1x1x1024_0_0_0).toLoadRect) = z at hc' h0 h1 h2 h3 h4 h5 h6 h7
  have hl := l.isLt
  obtain ⟨c, hcl⟩ := c
  match c, hcl with
  | 0, hcl =>
    exact (congrArg Y (str_idx inb_S4096x128_S256x128_0_0_s_8_1 r l _).symm).trans ((h0 (ix2 r l)).trans
      (Tile.out_apply (M := 256) y B z shapeCasts_S1x1x1024_S1x1024 broadcasts_S1x1024_S256x1024 0 slices_S256x1024_o0_0_S256x128 r l (by omega) x W bb Vv cc hy hV hc'))
  | 1, hcl =>
    exact (congrArg Y (str_idx inb_S4096x128_S256x128_1_0_s_8_1 r l _).symm).trans ((h1 (ix2 r l)).trans
      (Tile.out_apply (M := 256) y B z shapeCasts_S1x1x1024_S1x1024 broadcasts_S1x1024_S256x1024 128 slices_S256x1024_o0_128_S256x128 r l (by omega) x W bb Vv cc hy hV hc'))
  | 2, hcl =>
    exact (congrArg Y (str_idx inb_S4096x128_S256x128_2_0_s_8_1 r l _).symm).trans ((h2 (ix2 r l)).trans
      (Tile.out_apply (M := 256) y B z shapeCasts_S1x1x1024_S1x1024 broadcasts_S1x1024_S256x1024 256 slices_S256x1024_o0_256_S256x128 r l (by omega) x W bb Vv cc hy hV hc'))
  | 3, hcl =>
    exact (congrArg Y (str_idx inb_S4096x128_S256x128_3_0_s_8_1 r l _).symm).trans ((h3 (ix2 r l)).trans
      (Tile.out_apply (M := 256) y B z shapeCasts_S1x1x1024_S1x1024 broadcasts_S1x1024_S256x1024 384 slices_S256x1024_o0_384_S256x128 r l (by omega) x W bb Vv cc hy hV hc'))
  | 4, hcl =>
    exact (congrArg Y (str_idx inb_S4096x128_S256x128_4_0_s_8_1 r l _).symm).trans ((h4 (ix2 r l)).trans
      (Tile.out_apply (M := 256) y B z shapeCasts_S1x1x1024_S1x1024 broadcasts_S1x1024_S256x1024 512 slices_S256x1024_o0_512_S256x128 r l (by omega) x W bb Vv cc hy hV hc'))
  | 5, hcl =>
    exact (congrArg Y (str_idx inb_S4096x128_S256x128_5_0_s_8_1 r l _).symm).trans ((h5 (ix2 r l)).trans
      (Tile.out_apply (M := 256) y B z shapeCasts_S1x1x1024_S1x1024 broadcasts_S1x1024_S256x1024 640 slices_S256x1024_o0_640_S256x128 r l (by omega) x W bb Vv cc hy hV hc'))
  | 6, hcl =>
    exact (congrArg Y (str_idx inb_S4096x128_S256x128_6_0_s_8_1 r l _).symm).trans ((h6 (ix2 r l)).trans
      (Tile.out_apply (M := 256) y B z shapeCasts_S1x1x1024_S1x1024 broadcasts_S1x1024_S256x1024 768 slices_S256x1024_o0_768_S256x128 r l (by omega) x W bb Vv cc hy hV hc'))
  | 7, hcl =>
    exact (congrArg Y (str_idx inb_S4096x128_S256x128_7_0_s_8_1 r l _).symm).trans ((h7 (ix2 r l)).trans
      (Tile.out_apply (M := 256) y B z shapeCasts_S1x1x1024_S1x1024 broadcasts_S1x1024_S256x1024 896 slices_S256x1024_o0_896_S256x128 r l (by omega) x W bb Vv cc hy hV hc'))

/-- The row groups of a tile of 384 rows, as loads. -/
def rows3 (X0 : S4096x128.Idx → EReal) : Fin 8 → FVec Ideal S384x128 .f32 := ![ldr X0 (⟨![0, 0], S384x128.size, ![8, 1], inb_S4096x128_S384x128_0_0_s_8_1⟩ : LoadRect S4096x128), ldr X0 (⟨![1, 0], S384x128.size, ![8, 1], inb_S4096x128_S384x128_1_0_s_8_1⟩ : LoadRect S4096x128), ldr X0 (⟨![2, 0], S384x128.size, ![8, 1], inb_S4096x128_S384x128_2_0_s_8_1⟩ : LoadRect S4096x128), ldr X0 (⟨![3, 0], S384x128.size, ![8, 1], inb_S4096x128_S384x128_3_0_s_8_1⟩ : LoadRect S4096x128), ldr X0 (⟨![4, 0], S384x128.size, ![8, 1], inb_S4096x128_S384x128_4_0_s_8_1⟩ : LoadRect S4096x128), ldr X0 (⟨![5, 0], S384x128.size, ![8, 1], inb_S4096x128_S384x128_5_0_s_8_1⟩ : LoadRect S4096x128), ldr X0 (⟨![6, 0], S384x128.size, ![8, 1], inb_S4096x128_S384x128_6_0_s_8_1⟩ : LoadRect S4096x128), ldr X0 (⟨![7, 0], S384x128.size, ![8, 1], inb_S4096x128_S384x128_7_0_s_8_1⟩ : LoadRect S4096x128)]

theorem rows3_apply (r : Fin 384) (c : Fin 8) (l : Fin 128) :
    rows3 X0 c (ix2 r l) = X0 (ix2 (n0 := 4096) (n1 := 128) ⟨8 * r.val + c.val, by have := r.isLt; have := c.isLt; omega⟩ l) := by
  fin_cases c <;> exact congrArg X0 (str_idx _ r l _)

theorem hid3_apply (r : Fin 384) (k : Fin 1024)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f) :
    hid3 (F := Ideal) X0 X1 A (ix2 r k) = Spec.hid x W bb k := by
  have e : hid3 (F := Ideal) X0 X1 A = Tile.hidM (M := 384) (rows3 X0) A (ldr X1 (Rect.unit (s := S1x1x2048) ![0, 0, 0] S1x1x2048.size inb_S1x1x2048_S1x1x2048_0_0_0).toLoadRect)
      concatenates_S384x128_S384x128_S384x128_S384x128_S384x128_S384x128_S384x128_S384x128_S384x1024_d1 bitsLt_bf16_f32 shapeCasts_S1x1x2048_S1x2048 broadcasts_S1x2048_S384x2048
      slices_S384x2048_o0_0_S384x1024 slices_S384x2048_o0_1024_S384x1024 := rfl
  rw [e]
  refine Tile.hidM_apply (M := 384) _ _ _ _ _ _ _ _ _ r k x W bb (fun q => ?_) hW (fun f => ?_)
  · exact (rows3_apply r _ _).trans (hx q)
  · exact (congrArg X1 (whole3_idx _ f)).trans (hb f)

set_option maxHeartbeats 1600000 in
theorem good3_apply (h : Good3 (F := Ideal) X0 X1 X2 A B Y) (r : Fin 384) (c : Fin 8) (l : Fin 128)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f)
    (hV : ∀ q f, B (ix2 q f) = Vv q f) (hc : ∀ f, X2 (ix3 (0 : Fin 1) (0 : Fin 1) f) = cc f) :
    Y (ix2 (n0 := 4096) (n1 := 128) ⟨8 * r.val + c.val, by have := r.isLt; have := c.isLt; omega⟩ l)
      = Spec.out x W bb Vv cc ⟨128 * c.val + l.val, by have := c.isLt; have := l.isLt; omega⟩ := by
  have hy : ∀ k, hid3 (F := Ideal) X0 X1 A (ix2 r k) = Spec.hid x W bb k := fun k => hid3_apply r k hx hW hb
  have hc' : ∀ f, ldr X2 (Rect.unit (s := S1x1x1024) ![0, 0, 0] S1x1x1024.size inb_S1x1x1024_S1x1x1024_0_0_0).toLoadRect (ix3 (0 : Fin 1) (0 : Fin 1) f) = cc f :=
    fun f => (congrArg X2 (whole3_idx _ f)).trans (hc f)
  obtain ⟨h0, h1, h2, h3, h4, h5, h6, h7⟩ := h
  generalize hid3 (F := Ideal) X0 X1 A = y at hy h0 h1 h2 h3 h4 h5 h6 h7
  generalize (ldr X2 (Rect.unit (s := S1x1x1024) ![0, 0, 0] S1x1x1024.size inb_S1x1x1024_S1x1x1024_0_0_0).toLoadRect) = z at hc' h0 h1 h2 h3 h4 h5 h6 h7
  have hl := l.isLt
  obtain ⟨c, hcl⟩ := c
  match c, hcl with
  | 0, hcl =>
    exact (congrArg Y (str_idx inb_S4096x128_S384x128_0_0_s_8_1 r l _).symm).trans ((h0 (ix2 r l)).trans
      (Tile.out_apply (M := 384) y B z shapeCasts_S1x1x1024_S1x1024 broadcasts_S1x1024_S384x1024 0 slices_S384x1024_o0_0_S384x128 r l (by omega) x W bb Vv cc hy hV hc'))
  | 1, hcl =>
    exact (congrArg Y (str_idx inb_S4096x128_S384x128_1_0_s_8_1 r l _).symm).trans ((h1 (ix2 r l)).trans
      (Tile.out_apply (M := 384) y B z shapeCasts_S1x1x1024_S1x1024 broadcasts_S1x1024_S384x1024 128 slices_S384x1024_o0_128_S384x128 r l (by omega) x W bb Vv cc hy hV hc'))
  | 2, hcl =>
    exact (congrArg Y (str_idx inb_S4096x128_S384x128_2_0_s_8_1 r l _).symm).trans ((h2 (ix2 r l)).trans
      (Tile.out_apply (M := 384) y B z shapeCasts_S1x1x1024_S1x1024 broadcasts_S1x1024_S384x1024 256 slices_S384x1024_o0_256_S384x128 r l (by omega) x W bb Vv cc hy hV hc'))
  | 3, hcl =>
    exact (congrArg Y (str_idx inb_S4096x128_S384x128_3_0_s_8_1 r l _).symm).trans ((h3 (ix2 r l)).trans
      (Tile.out_apply (M := 384) y B z shapeCasts_S1x1x1024_S1x1024 broadcasts_S1x1024_S384x1024 384 slices_S384x1024_o0_384_S384x128 r l (by omega) x W bb Vv cc hy hV hc'))
  | 4, hcl =>
    exact (congrArg Y (str_idx inb_S4096x128_S384x128_4_0_s_8_1 r l _).symm).trans ((h4 (ix2 r l)).trans
      (Tile.out_apply (M := 384) y B z shapeCasts_S1x1x1024_S1x1024 broadcasts_S1x1024_S384x1024 512 slices_S384x1024_o0_512_S384x128 r l (by omega) x W bb Vv cc hy hV hc'))
  | 5, hcl =>
    exact (congrArg Y (str_idx inb_S4096x128_S384x128_5_0_s_8_1 r l _).symm).trans ((h5 (ix2 r l)).trans
      (Tile.out_apply (M := 384) y B z shapeCasts_S1x1x1024_S1x1024 broadcasts_S1x1024_S384x1024 640 slices_S384x1024_o0_640_S384x128 r l (by omega) x W bb Vv cc hy hV hc'))
  | 6, hcl =>
    exact (congrArg Y (str_idx inb_S4096x128_S384x128_6_0_s_8_1 r l _).symm).trans ((h6 (ix2 r l)).trans
      (Tile.out_apply (M := 384) y B z shapeCasts_S1x1x1024_S1x1024 broadcasts_S1x1024_S384x1024 768 slices_S384x1024_o0_768_S384x128 r l (by omega) x W bb Vv cc hy hV hc'))
  | 7, hcl =>
    exact (congrArg Y (str_idx inb_S4096x128_S384x128_7_0_s_8_1 r l _).symm).trans ((h7 (ix2 r l)).trans
      (Tile.out_apply (M := 384) y B z shapeCasts_S1x1x1024_S1x1024 broadcasts_S1x1024_S384x1024 896 slices_S384x1024_o0_896_S384x128 r l (by omega) x W bb Vv cc hy hV hc'))

/-- The row groups of a tile of 512 rows, as loads. -/
def rows4 (X0 : S4096x128.Idx → EReal) : Fin 8 → FVec Ideal S512x128 .f32 := ![ldr X0 (⟨![0, 0], S512x128.size, ![8, 1], inb_S4096x128_S512x128_0_0_s_8_1⟩ : LoadRect S4096x128), ldr X0 (⟨![1, 0], S512x128.size, ![8, 1], inb_S4096x128_S512x128_1_0_s_8_1⟩ : LoadRect S4096x128), ldr X0 (⟨![2, 0], S512x128.size, ![8, 1], inb_S4096x128_S512x128_2_0_s_8_1⟩ : LoadRect S4096x128), ldr X0 (⟨![3, 0], S512x128.size, ![8, 1], inb_S4096x128_S512x128_3_0_s_8_1⟩ : LoadRect S4096x128), ldr X0 (⟨![4, 0], S512x128.size, ![8, 1], inb_S4096x128_S512x128_4_0_s_8_1⟩ : LoadRect S4096x128), ldr X0 (⟨![5, 0], S512x128.size, ![8, 1], inb_S4096x128_S512x128_5_0_s_8_1⟩ : LoadRect S4096x128), ldr X0 (⟨![6, 0], S512x128.size, ![8, 1], inb_S4096x128_S512x128_6_0_s_8_1⟩ : LoadRect S4096x128), ldr X0 (⟨![7, 0], S512x128.size, ![8, 1], inb_S4096x128_S512x128_7_0_s_8_1⟩ : LoadRect S4096x128)]

theorem rows4_apply (r : Fin 512) (c : Fin 8) (l : Fin 128) :
    rows4 X0 c (ix2 r l) = X0 (ix2 (n0 := 4096) (n1 := 128) ⟨8 * r.val + c.val, by have := r.isLt; have := c.isLt; omega⟩ l) := by
  fin_cases c <;> exact congrArg X0 (str_idx _ r l _)

theorem hid4_apply (r : Fin 512) (k : Fin 1024)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f) :
    hid4 (F := Ideal) X0 X1 A (ix2 r k) = Spec.hid x W bb k := by
  have e : hid4 (F := Ideal) X0 X1 A = Tile.hidM (M := 512) (rows4 X0) A (ldr X1 (Rect.unit (s := S1x1x2048) ![0, 0, 0] S1x1x2048.size inb_S1x1x2048_S1x1x2048_0_0_0).toLoadRect)
      concatenates_S512x128_S512x128_S512x128_S512x128_S512x128_S512x128_S512x128_S512x128_S512x1024_d1 bitsLt_bf16_f32 shapeCasts_S1x1x2048_S1x2048 broadcasts_S1x2048_S512x2048
      slices_S512x2048_o0_0_S512x1024 slices_S512x2048_o0_1024_S512x1024 := rfl
  rw [e]
  refine Tile.hidM_apply (M := 512) _ _ _ _ _ _ _ _ _ r k x W bb (fun q => ?_) hW (fun f => ?_)
  · exact (rows4_apply r _ _).trans (hx q)
  · exact (congrArg X1 (whole3_idx _ f)).trans (hb f)

set_option maxHeartbeats 1600000 in
theorem good4_apply (h : Good4 (F := Ideal) X0 X1 X2 A B Y) (r : Fin 512) (c : Fin 8) (l : Fin 128)
    (hx : ∀ q : Fin 1024, X0 (ix2 (n0 := 4096) (n1 := 128) ⟨8 * r.val + q.val / 128, by have := r.isLt; have := q.isLt; omega⟩ ⟨q.val % 128, Nat.mod_lt _ (by decide)⟩) = x q)
    (hW : ∀ q f, A (ix2 q f) = W q f) (hb : ∀ f, X1 (ix3 (0 : Fin 1) (0 : Fin 1) f) = bb f)
    (hV : ∀ q f, B (ix2 q f) = Vv q f) (hc : ∀ f, X2 (ix3 (0 : Fin 1) (0 : Fin 1) f) = cc f) :
    Y (ix2 (n0 := 4096) (n1 := 128) ⟨8 * r.val + c.val, by have := r.isLt; have := c.isLt; omega⟩ l)
      = Spec.out x W bb Vv cc ⟨128 * c.val + l.val, by have := c.isLt; have := l.isLt; omega⟩ := by
  have hy : ∀ k, hid4 (F := Ideal) X0 X1 A (ix2 r k) = Spec.hid x W bb k := fun k => hid4_apply r k hx hW hb
  have hc' : ∀ f, ldr X2 (Rect.unit (s := S1x1x1024) ![0, 0, 0] S1x1x1024.size inb_S1x1x1024_S1x1x1024_0_0_0).toLoadRect (ix3 (0 : Fin 1) (0 : Fin 1) f) = cc f :=
    fun f => (congrArg X2 (whole3_idx _ f)).trans (hc f)
  obtain ⟨h0, h1, h2, h3, h4, h5, h6, h7⟩ := h
  generalize hid4 (F := Ideal) X0 X1 A = y at hy h0 h1 h2 h3 h4 h5 h6 h7
  generalize (ldr X2 (Rect.unit (s := S1x1x1024) ![0, 0, 0] S1x1x1024.size inb_S1x1x1024_S1x1x1024_0_0_0).toLoadRect) = z at hc' h0 h1 h2 h3 h4 h5 h6 h7
  have hl := l.isLt
  obtain ⟨c, hcl⟩ := c
  match c, hcl with
  | 0, hcl =>
    exact (congrArg Y (str_idx inb_S4096x128_S512x128_0_0_s_8_1 r l _).symm).trans ((h0 (ix2 r l)).trans
      (Tile.out_apply (M := 512) y B z shapeCasts_S1x1x1024_S1x1024 broadcasts_S1x1024_S512x1024 0 slices_S512x1024_o0_0_S512x128 r l (by omega) x W bb Vv cc hy hV hc'))
  | 1, hcl =>
    exact (congrArg Y (str_idx inb_S4096x128_S512x128_1_0_s_8_1 r l _).symm).trans ((h1 (ix2 r l)).trans
      (Tile.out_apply (M := 512) y B z shapeCasts_S1x1x1024_S1x1024 broadcasts_S1x1024_S512x1024 128 slices_S512x1024_o0_128_S512x128 r l (by omega) x W bb Vv cc hy hV hc'))
  | 2, hcl =>
    exact (congrArg Y (str_idx inb_S4096x128_S512x128_2_0_s_8_1 r l _).symm).trans ((h2 (ix2 r l)).trans
      (Tile.out_apply (M := 512) y B z shapeCasts_S1x1x1024_S1x1024 broadcasts_S1x1024_S512x1024 256 slices_S512x1024_o0_256_S512x128 r l (by omega) x W bb Vv cc hy hV hc'))
  | 3, hcl =>
    exact (congrArg Y (str_idx inb_S4096x128_S512x128_3_0_s_8_1 r l _).symm).trans ((h3 (ix2 r l)).trans
      (Tile.out_apply (M := 512) y B z shapeCasts_S1x1x1024_S1x1024 broadcasts_S1x1024_S512x1024 384 slices_S512x1024_o0_384_S512x128 r l (by omega) x W bb Vv cc hy hV hc'))
  | 4, hcl =>
    exact (congrArg Y (str_idx inb_S4096x128_S512x128_4_0_s_8_1 r l _).symm).trans ((h4 (ix2 r l)).trans
      (Tile.out_apply (M := 512) y B z shapeCasts_S1x1x1024_S1x1024 broadcasts_S1x1024_S512x1024 512 slices_S512x1024_o0_512_S512x128 r l (by omega) x W bb Vv cc hy hV hc'))
  | 5, hcl =>
    exact (congrArg Y (str_idx inb_S4096x128_S512x128_5_0_s_8_1 r l _).symm).trans ((h5 (ix2 r l)).trans
      (Tile.out_apply (M := 512) y B z shapeCasts_S1x1x1024_S1x1024 broadcasts_S1x1024_S512x1024 640 slices_S512x1024_o0_640_S512x128 r l (by omega) x W bb Vv cc hy hV hc'))
  | 6, hcl =>
    exact (congrArg Y (str_idx inb_S4096x128_S512x128_6_0_s_8_1 r l _).symm).trans ((h6 (ix2 r l)).trans
      (Tile.out_apply (M := 512) y B z shapeCasts_S1x1x1024_S1x1024 broadcasts_S1x1024_S512x1024 768 slices_S512x1024_o0_768_S512x128 r l (by omega) x W bb Vv cc hy hV hc'))
  | 7, hcl =>
    exact (congrArg Y (str_idx inb_S4096x128_S512x128_7_0_s_8_1 r l _).symm).trans ((h7 (ix2 r l)).trans
      (Tile.out_apply (M := 512) y B z shapeCasts_S1x1x1024_S1x1024 broadcasts_S1x1024_S512x1024 896 slices_S512x1024_o0_896_S512x128 r l (by omega) x W bb Vv cc hy hV hc'))

end Value

end Cert.KernelIdeal.X

end
-- ==== Proof.Mask.lean ====
/-
  What the printed mask says of an element of the packed rows: its block is one of the used ones, and its row is one of
  the block's valid rows.
-/
module

public import proofs.«01_k».proof.On_valid_rows
public import proofs.«01_k».proof.Proof.Pre
public import Idealize.ShloMosaic.Lib.StableHlo.Predicate
public import Idealize.ShloMosaic.Lib.Affine
public import Idealize.ShloMosaic.Lib.Pipeline.Value
public import Idealize.ShloMosaic.Lib.ValueIdx

@[expose] public section

noncomputable section

namespace Cert.Mask

open Idealize.ShloMosaic Idealize.ShloMosaic.ValueIdx Cert.On_valid_rows
open Cert.On_valid_rows.Facts

/-- An element of row `r` of block `b` that the mask marks is in a used block and in a valid row of it. -/
theorem marked [Facts] {F : FTy → Type} [FloatOps F] (a0 : IVec S1x256 32) (a1 : IVec S1x128 32) (a2 : IVec S1x256 32)
    (a3 : FVec F S671744x128 .f32) (a4 : FVec F S1x32x1024x2048 .f32) (a5 : FVec F S1x32x2048 .f32) (a6 : FVec F S1x32x1024x1024 .f32)
    (a7 : FVec F S1x32x1024 .f32) (b : Fin 164) (r : Fin 512) (c : Fin 8) (l : Fin 128)
    (h : fn a0 a1 a2 a3 a4 a5 a6 a7 (ix2 ⟨b.val * 4096 + (8 * r.val + c.val), by have := b.isLt; have := r.isLt; have := c.isLt; omega⟩ l) = 1#1) :
    (b.val : ℤ) < (a1 fun a => ⟨0, by revert a; decide⟩).toInt ∧
    (r.val : ℤ) < (a2 (ix2 (0 : Fin 1) ⟨b.val, by have := b.isLt; omega⟩)).toInt := by
  have hb := b.isLt; have hr := r.isLt; have hc := c.isLt; have hl := l.isLt
  unfold fn at h
  dsimp only at h
  rw [shapeCast_apply _ _ _ (ix4 b r c l) (by
    rw [Shape.rowMajor_val_four, Shape.rowMajor_val_two]
    show ((b.val * 512 + r.val) * 8 + c.val) * 128 + l.val = (b.val * 4096 + (8 * r.val + c.val)) * 128 + l.val
    omega)] at h
  obtain ⟨h1, h2⟩ := IntOp.andi_eq_one.mp h
  have h1' := IntOp.cmpi_slt.mp h1
  have h2' := IntOp.cmpi_slt.mp h2
  have e1 : (iotaInDim S164x512x8x128 32 0 (ix4 b r c l)).toInt = (b.val : ℤ) :=
    StableHlo.Predicate.toInt_ofNat_small _ (by show b.val < _; omega)
  have e2 : (iotaInDim S164x512x8x128 32 1 (ix4 b r c l)).toInt = (r.val : ℤ) :=
    StableHlo.Predicate.toInt_ofNat_small _ (by show r.val < _; omega)
  rw [e1] at h1'
  rw [e2] at h2'
  constructor
  · refine lt_of_lt_of_eq h1' (congrArg BitVec.toInt ?_)
    exact TablesIn.word0 a1 _ _ _
  · refine lt_of_lt_of_eq h2' (congrArg BitVec.toInt ?_)
    refine (broadcastInDim_apply _ _ _ (ix4 b r c l) (ix1 b) (fun a => by
      match a with
      | ⟨0, _⟩ => rfl)).trans ?_
    refine (shapeCast_apply _ _ (ix1 b) (ix2 (0 : Fin 1) b) (by
      rw [Shape.rowMajor_val_two, Shape.rowMajor_val_one]
      show 0 * 164 + b.val = b.val
      omega)).trans ?_
    refine congrArg a2 (funext fun a => Fin.ext ?_)
    match a with
    | ⟨0, _⟩ => rfl
    | ⟨1, _⟩ => show 0 + b.val = b.val; omega

end Cert.Mask

end
-- ==== Proof.I.PointV.lean ====
/-
  The value claim: on the valid rows of the used blocks, the array that the kernel leaves is the reference's.
-/
module

public import proofs.«01_k».proof.Proof.I.Blocks
public import proofs.«01_k».proof.Proof.I.TileV
public import proofs.«01_k».proof.Proof.Mask
public import Idealize.ShloMosaic.Lib.Pipeline.ArrRel

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (m : (ℓ : Loc nD τ sig) → Buf (Elt Ideal) ℓ)

/-- The reference's result of the program's arguments. -/
def want (c : Dev nD) : S671744x128.Idx → EReal :=
  Cert.ReferenceIdeal.Read.val_main_v62 (F := Ideal) (a0 m c) (a3 m c) (a4 m c) (a5 m c) (a6 m c) (a7 m c)

theorem ix256_eq (j : ℕ) (h : j < 256) : ix256 j h = ix2 (n0 := 1) (n1 := 256) (0 : Fin 1) ⟨j, h⟩ := by
  funext a; apply Fin.ext
  match a with
  | ⟨0, _⟩ => rfl
  | ⟨1, _⟩ => rfl

theorem toInt_nuw {w : BitVec 32} (h : 0 ≤ w.toInt) : (w.toNat : ℤ) = w.toInt := by
  have := w.isLt
  rw [BitVec.toInt_eq_toNat_cond] at h ⊢
  split at h <;> rename_i hh
  · rw [if_pos hh]
  · omega

section Point
variable (hg : TablesIn.Good (a0 m 0) (a1 m 0) (a2 m 0)) (hO : Ok m) (t : Fin (cfgM m hO).N)

include hg in
/-- What a used point leaves in a valid row of the output's block is the reference's row there. -/
theorem point_value (X : S4096x128.Idx → EReal)
    (h : OutAt (F := Ideal) (0 : Dev nD) (tbl m 0) (nbl m) (V m 0 main_v14) (V m 0 main_v17) t.val (wd (tbl m 2) t.val) (iblk m hO 0 0 t) (iblk m hO 0 1 t) (iblk m hO 0 2 t) X)
    (b : Fin 164) (hbt : b.val = t.val) (r : Fin 512) (c8 : Fin 8) (l : Fin 128)
    (hu : (b.val : ℤ) < (a1 m 0 fun a => ⟨0, by revert a; decide⟩).toInt)
    (hv : (r.val : ℤ) < (a2 m 0 (ix2 (n0 := 1) (n1 := 256) (0 : Fin 1) ⟨b.val, by have := b.isLt; omega⟩)).toInt) :
    X (ix2 (n0 := 4096) (n1 := 128) ⟨8 * r.val + c8.val, by have := r.isLt; have := c8.isLt; omega⟩ l)
      = want m 0 (ix2 (n0 := 671744) (n1 := 128) ⟨b.val * 4096 + (8 * r.val + c8.val), by have := b.isLt; have := r.isLt; have := c8.isLt; omega⟩ l) := by
  have hb' := b.isLt
  have hT := tabs m hg
  have hlo : 1 ≤ (nuw (tbl m 1)).toNat := hT.lo
  have hhi : (nuw (tbl m 1)).toNat ≤ 164 := hT.hi
  have hn : ((nuw (tbl m 1)).toNat : ℤ) = (a1 m 0 fun a => ⟨0, by revert a; decide⟩).toInt := by
    rw [nuw_eq m]
    exact toInt_nuw (by have := hg.lo; omega)
  have htn : t.val < nbl m := by show t.val < (nuw (tbl m 1)).toNat; omega
  obtain ⟨he, ho⟩ := h htn
  replace ho := ho htn
  -- the words of the tables at this point
  have ht256 : t.val < 256 := by omega
  have ebt : (ix2 (n0 := 1) (n1 := 256) (0 : Fin 1) ⟨b.val, by omega⟩) = ix256 t.val ht256 := by
    rw [ix256_eq]; exact congrArg (ix2 (n0 := 1) (n1 := 256) (0 : Fin 1)) (Fin.ext hbt)
  have w0 : wd (tbl m 0) t.val = a0 m 0 (ix256 t.val ht256) := by
    refine (congrArg (fun x => wd x t.val) (V_main_arg0 m 0)).trans ?_
    exact dif_pos ht256
  have w2 : wd (tbl m 2) t.val = a2 m 0 (ix256 t.val ht256) := by
    refine (congrArg (fun x => wd x t.val) (V_main_arg2 m 0)).trans ?_
    exact dif_pos ht256
  rw [ebt, ← w2] at hv
  have hnv : (wd (tbl m 2) t.val).toInt ≤ 512 := by rw [w2]; exact hg.nv _
  -- the blocks' indices
  have e0 : cc0_transform_0 inb_S1x128_S1x1_0_0 numel1_S1x1 (tbl m) (grid0.coords t) = ![t.val, 0] := by
    have ht : (grid0.coords t 0).val = t.val := coords_val t
    have e1 : (Scalar.subi (nuw (tbl m 1)) 1#32).toNat = (nuw (tbl m 1)).toNat - 1 := pred_toNat hlo
    have e2 : (BitVec.ofNat 32 (grid0.coords t 0).val).toNat = t.val := by rw [ht]; simp; omega
    have e3 := min_toNat (a := BitVec.ofNat 32 (grid0.coords t 0).val) (b := Scalar.subi (nuw (tbl m 1)) 1#32) (by omega) (by omega)
    rw [trans0, Scalar.maxsi_zero_of_nonneg (by omega), e3, e1, e2]
    have : min t.val ((nuw (tbl m 1)).toNat - 1) = t.val := by
      have : t.val < (nuw (tbl m 1)).toNat := htn
      omega
    rw [this]
  obtain ⟨j, hj1, hj0, e2, e4⟩ := trans2 (tbl m) (grid0.coords t)
  have hjt : (j 1).val = t.val := hj1.trans (coords_val t)
  have ej : j = ix256 t.val ht256 := by
    funext a; apply Fin.ext
    match a with
    | ⟨0, _⟩ => exact hj0
    | ⟨1, _⟩ => exact hjt
  have w3 : (tbl m 3 j : BitVec 32) = wd (tbl m 0) t.val := by
    rw [w0]
    refine ((v13_word m 0 j).2 ?_).trans (congrArg (a0 m 0) ej)
    rw [hjt]; omega
  rw [w3] at e2 e4
  have hew : (Cert.Ref.wrd (a0 m 0) b).toInt = ((⟨(wd (tbl m 0) t.val).toNat, he⟩ : Fin 32).val : ℤ) := by
    have e : Cert.Ref.wrd (a0 m 0) b = wd (tbl m 0) t.val := (congrArg (a0 m 0) ebt).trans w0.symm
    rw [e]
    exact (toInt_nuw (by rw [w0]; exact hg.ge _)).symm
  refine Eq.trans ?_ (Cert.Ref.v62_apply (a0 m 0) (a3 m 0) (a4 m 0) (a5 m 0) (a6 m 0) (a7 m 0) hg.ge b ⟨(wd (tbl m 0) t.val).toNat, he⟩ hew r c8 l).symm
  have hx : ∀ q : Fin 1024, (iblk m hO 0 0 t : S4096x128.Idx → EReal) (ix2 (n0 := 4096) (n1 := 128) ⟨8 * r.val + q.val / 128, by have := r.isLt; have := q.isLt; omega⟩ ⟨q.val % 128, Nat.mod_lt _ (by decide)⟩)
      = Cert.Ref.row (a3 m 0) b r q := fun q => by
    refine (iblk0_apply m hO 0 t t.val e0 (by omega) _ _).trans (congrArg (a3 m 0) ?_)
    refine congrArg (fun z => ix2 (n0 := 671744) (n1 := 128) z _) (Fin.ext ?_)
    show t.val * 4096 + (8 * r.val + q.val / 128) = b.val * 4096 + 8 * r.val + q.val / 128
    omega
  have hW := A_apply m 0 _ he
  have hV := B_apply m 0 _ he
  have hb := iblk1_apply m hO 0 t _ e2 he
  have hc := iblk2_apply m hO 0 t _ e4 he
  by_cases h1 : (wd (tbl m 2) t.val).toInt ≤ 128
  · exact good1_apply (ho.1 ⟨by omega, h1⟩) ⟨r.val, by omega⟩ c8 l hx hW hb hV hc
  by_cases h2 : (wd (tbl m 2) t.val).toInt ≤ 256
  · exact good2_apply (ho.2.1 ⟨by omega, h2⟩) ⟨r.val, by omega⟩ c8 l hx hW hb hV hc
  by_cases h3 : (wd (tbl m 2) t.val).toInt ≤ 384
  · exact good3_apply (ho.2.2.1 ⟨by omega, h3⟩) ⟨r.val, by omega⟩ c8 l hx hW hb hV hc
  exact good4_apply (ho.2.2.2 ⟨by omega, hnv⟩) ⟨r.val, by omega⟩ c8 l hx hW hb hV hc

end Point

end Cert.KernelIdeal.X

end
-- ==== Proof.Value.lean ====
/-
  The value claim: on the valid rows of the used blocks, the array that the kernel leaves is the reference's.
-/
module

public import proofs.«01_k».proof.Defs
public import proofs.«01_k».proof.Proof.I.PointV
public import proofs.«01_k».proof.Proof.Mask
public import proofs.«01_k».proof.Proof.Gen.ReferenceIdeal.Run
public import Idealize.ShloMosaic.Lib.Pipeline.ArrRel

@[expose] public section

set_option maxRecDepth 16384

noncomputable section

namespace Cert.KernelIdeal.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (m : (ℓ : Loc nD τ sig) → Buf (Elt Ideal) ℓ)

/-- The mask of the program's arguments. -/
def mask [Cert.On_valid_rows.Facts] (c : Dev nD) (i : S671744x128.Idx) : BitVec 1 :=
  Cert.On_valid_rows.fn (F := Ideal) (a0 m c) (a1 m c) (a2 m c) (a3 m c) (a4 m c) (a5 m c) (a6 m c) (a7 m c) i

section Array
variable (hg : TablesIn.Good (a0 m 0) (a1 m 0) (a2 m 0)) (hO : Ok m)

/-- Every element of the output is in the block of some point. -/
theorem cover (i : S671744x128.Idx) : ∃ t : Fin (cfgM m hO).N, ((cfgM m hO).win 3).flush t = true ∧ i ∈ (((cfgM m hO).win 3).blk t).view.set := by
  have h0 : (i 0).val < 671744 := (i 0).isLt
  have h1 : (i 1).val < 128 := (i 1).isLt
  have ht : (i 0).val / 4096 < 164 := by omega
  let t : Fin (cfgM m hO).N := ⟨(i 0).val / 4096, ht⟩
  let y : S4096x128.Idx := ix2 (n0 := 4096) (n1 := 128) ⟨(i 0).val % 4096, Nat.mod_lt _ (by decide)⟩ ⟨(i 1).val, h1⟩
  refine ⟨t, flush0_3 (adm m hO) t, ?_⟩
  have e : (((cfgM m hO).win 3).blk t).view.emb y = i := by
    funext a; apply Fin.ext
    refine (emb3 m hO t y a).trans ?_
    match a with
    | ⟨0, _⟩ => show (i 0).val / 4096 * 4096 + (i 0).val % 4096 = (i 0).val; omega
    | ⟨1, _⟩ => rfl
  rw [← e]
  exact (((cfgM m hO).win 3).blk t).view.emb_mem_set y

include hg in
/-- What a point writes back at an element of its block that the mask marks. -/
theorem point_elem [Cert.On_valid_rows.Facts] (t : Fin (cfgM m hO).N) (X : S4096x128.Idx → EReal) (hX : rel m hO 0 3 t X) (y : S4096x128.Idx) :
    mask m 0 ((((cfgM m hO).win 3).blk t).view.emb y) = 1#1 → X y = want m 0 ((((cfgM m hO).win 3).blk t).view.emb y) := by
  have hy0 : (y 0).val < 4096 := (y 0).isLt
  have hy1 : (y 1).val < 128 := (y 1).isLt
  have ht : t.val < 164 := t.isLt
  have e : (((cfgM m hO).win 3).blk t).view.emb y
      = ix2 (n0 := 671744) (n1 := 128) ⟨t.val * 4096 + (8 * ((y 0).val / 8) + (y 0).val % 8), by omega⟩ ⟨(y 1).val, hy1⟩ := by
    funext a; apply Fin.ext
    refine (emb3 m hO t y a).trans ?_
    match a with
    | ⟨0, _⟩ => show t.val * 4096 + (y 0).val = t.val * 4096 + (8 * ((y 0).val / 8) + (y 0).val % 8); omega
    | ⟨1, _⟩ => rfl
  have ey : y = ix2 (n0 := 4096) (n1 := 128) ⟨8 * ((y 0).val / 8) + (y 0).val % 8, by omega⟩ ⟨(y 1).val, hy1⟩ := by
    funext a; apply Fin.ext
    match a with
    | ⟨0, _⟩ => show (y 0).val = 8 * ((y 0).val / 8) + (y 0).val % 8; omega
    | ⟨1, _⟩ => rfl
  rw [e]
  intro hm
  obtain ⟨hu, hv⟩ := Cert.Mask.marked (F := Ideal) (a0 m 0) (a1 m 0) (a2 m 0) (a3 m 0) (a4 m 0) (a5 m 0) (a6 m 0) (a7 m 0) ⟨t.val, ht⟩ ⟨(y 0).val / 8, by omega⟩ ⟨(y 0).val % 8, Nat.mod_lt _ (by decide)⟩ ⟨(y 1).val, hy1⟩ hm
  exact (congrArg X ey).trans (point_value m hg hO t X hX ⟨t.val, ht⟩ rfl ⟨(y 0).val / 8, by omega⟩ ⟨(y 0).val % 8, Nat.mod_lt _ (by decide)⟩ ⟨(y 1).val, hy1⟩ hu hv)

include hg in
/-- The output array at the end, at an element that the mask marks. -/
theorem array_value [Cert.On_valid_rows.Facts] {r : PUnit × MemSt nD τ sig (Elt Ideal)}
    (h : Pipeline.RDat.FramePost ((Pipeline.pin pcfgs fun _ => adm m hO) 0) (fun c => (dats m hO c).toRRel marked (rel m hO c)) (V m) r)
    (i : S671744x128.Idx) (hi : mask m 0 i = 1#1) :
    (r.2.mem (((0 : Dev nD) : Thread nD τ).loc main_v20) : S671744x128.Idx → EReal) i = want m 0 i := by
  obtain ⟨after, hL, hA⟩ := Pipeline.RDat.FramePost.exists_exact h 0
  refine (congrFun (hA 3) i).trans ?_
  have key := Pipeline.Dat.arrAt_forall_of_cover (cfg := cfgM m hO) (c := (0 : Dev nD)) (((dats m hO 0).toRRel marked (rel m hO 0)).withAfter after) 3
    (fun (i : S671744x128.Idx) (v : EReal) => mask m 0 i = 1#1 → v = want m 0 i) ?_ (cover m hO) i
  · exact key hi
  intro t hf y
  have hX : rel m hO 0 3 t (after 3 t) := Pipeline.Dat.toRRel_leaves (dats m hO 0) rfl (hL 3 t hf)
  show mask m 0 ((((cfgM m hO).win 3).blk t).view.emb y) = 1#1 → (after 3 t : S4096x128.Idx → EReal) y = want m 0 ((((cfgM m hO).win 3).blk t).view.emb y)
  generalize (after 3 t : S4096x128.Idx → EReal) = X at hX ⊢
  exact point_elem m hg hO t X hX y

end Array

/-- The value claim: the two programs' results agree wherever the mask marks an element. -/
theorem algebraic [hOn : Cert.On_valid_rows.Facts] :
    Cert.algebraic_KernelIdeal_ReferenceIdeal_on_valid_rows (hKernelIdeal := Cert.KernelIdeal.Gen.facts) (hReferenceIdeal := Cert.ReferenceIdeal.Gen.facts)
      (hPre_tables_in_range := Cert.Pre_tables_in_range.Gen.facts) (hOn_valid_rows := hOn) := by
  intro m g m' g' hp hargs
  have hg : TablesIn.Good (a0 m 0) (a1 m 0) (a2 m 0) := TablesIn.good _ _ _ _ _ _ _ _ (hp 0)
  have hO : Ok m := ok_of_good m hg
  have hT := tabs m hg
  refine ⟨fun c => want m c, ?_, ?_⟩
  · refine (θ_run defs _ _).mono (fun r h c => ⟨fun i hi => ?_, h.1 c⟩) (θ_run_and (unchanged m g hO hT) (run_main m g hO hT))
    obtain rfl : c = 0 := Subsingleton.elim _ _
    exact array_value m hg hO h.2.1 i hi
  · refine (θ_run _ _ _).mono (fun r h c => ⟨fun i hi => ?_, (h c).2⟩) (Cert.ReferenceIdeal.Value.run (F := Ideal) m' g')
    obtain ⟨h0, _, _, h3, h4, h5, h6, h7⟩ := hargs c
    have e := (h c).1.trans (Cert.ReferenceIdeal.Read.val_main_v62_eq (F := Ideal) m' c)
    rw [h0, h3, h4, h5, h6, h7] at e
    exact congrFun e i

end Cert.KernelIdeal.X

end
-- ==== Proof.RT.Tables.lean ====
module
public import proofs.«01_k».proof.Proof.Gen.RouteIdeal.Value
public import proofs.«01_k».proof.Proof.Gen.RouteReferenceIdeal.Read
public import Idealize.ShloMosaic.PureOps.Ideal.Laws
public import Idealize.ShloMosaic.Lib.Pointwise
public import Idealize.ShloMosaic.Lib.KernelVsHost

@[expose] public section

set_option maxRecDepth 16384

noncomputable section

namespace Cert.RouteIdeal.RT

open Cert.RouteIdeal Cert.RouteIdeal.Gen Idealize.ShloMosaic Idealize.ShloMosaic.TcCoe Idealize.SL.Sem
open Cert.RouteReferenceIdeal.Read
open scoped BigOperators

/-- Two functions of two coordinates are equal when they agree at every pair. -/
theorem funext_ix2 {A B : ℕ} {α : Type} {f g : (⟨2, ![A, B]⟩ : Shape).Idx → α} (h : ∀ a b, f (ix2 a b) = g (ix2 a b)) : f = g := by
  funext i
  have e : i = ix2 (i 0) (i 1) := by
    funext a
    match a with
    | ⟨0, _⟩ => rfl
    | ⟨1, _⟩ => rfl
  rw [e]
  exact h _ _

/-- A bit read as a signed word of more bits and as an unsigned one is the same number. -/
theorem bit_val (b : BitVec 1) : FloatOps.sitofp (F := Ideal) .f32 (BitVec.setWidth 32 b) = FloatOps.uitofp (F := Ideal) .f32 b := by
  show (((BitVec.setWidth 32 b).toInt : ℝ) : EReal) = ((b.toNat : ℝ) : EReal)
  have h : (BitVec.setWidth 32 b).toInt = (b.toNat : ℤ) := by revert b; decide
  rw [h]; norm_cast

/-- A bit times a value is the value where the bit is set. -/
theorem bit_mul (b : BitVec 1) (v : EReal) : FloatOps.uitofp (F := Ideal) .f32 b * v = Scalar.select b v 0 := by
  show ((b.toNat : ℝ) : EReal) * v = _
  rcases (by revert b; decide : ∀ b : BitVec 1, b = 0#1 ∨ b = 1#1) b with h | h
  · subst h
    show (((0 : ℕ) : ℝ) : EReal) * v = 0
    simp
  · subst h
    show (((1 : ℕ) : ℝ) : EReal) * v = v
    simp

theorem bits_zero : (id (constant (F := Ideal) Cert.RouteReferenceIdeal.S_ .f32 0#32) ix0 : EReal) = 0 := Ideal.ofBits_zero_f32

theorem bits_512 : Ideal.ofBits .f32 0x44000000#32 = ((512 : ℝ) : EReal) := by
  have h : BitVec.extractLsb' 31 1 1140850688#32 = 0#1 := by decide
  unfold Ideal.ofBits Ideal.ieee
  norm_num [Nat.shiftRight_eq_div_pow, h]
  try rfl

theorem bits_inv512 : Ideal.ofBits .f32 0x3B000000#32 = ((1 / 512 : ℝ) : EReal) := by
  have h : BitVec.extractLsb' 31 1 989855744#32 = 0#1 := by decide
  unfold Ideal.ofBits Ideal.ieee
  norm_num [Nat.shiftRight_eq_div_pow, h]
  try rfl

variable (x : (⟨S4x16896, .i32⟩ : BufTy).Contents (Elt Ideal)) (v3 : FVec Ideal S32x512 .f32)

/-- How often expert `e` is chosen, in the reference. -/
abbrev cnt (e : Fin 32) : EReal := val_main_v11 (F := Ideal) x (ix1 e)
/-- How many blocks expert `e` fills. -/
abbrev blk (e : Fin 32) : EReal := val_main_v16 (F := Ideal) x (ix1 e)
/-- The block after the last one of expert `e`. -/
abbrev fin (e : Fin 32) : EReal := val_main_v24 (F := Ideal) x (ix1 e)
/-- The expert of block `b`. -/
abbrev exp (b : Fin 256) : EReal := val_main_v50 (F := Ideal) x (ix1 b)

theorem blk_eq (e : Fin 32) : blk x e = Ideal.liftRound Int.floor (Ideal.div (cnt x e + Ideal.ofBits .f32 0x43FF8000#32) (Ideal.ofBits .f32 0x44000000#32)) := by
  unfold blk cnt val_main_v16 val_main_v15 val_main_v13
  generalize val_main_v11 x = c
  pointwise [val_main_v14, val_main_v12, val_main_cst_1, val_main_cst_2]

theorem fin_eq (e : Fin 32) : fin x e = ∑ k : Fin 32, Scalar.select (IntOp.cmpi .sle (BitVec.ofNat 32 k.val) (BitVec.ofNat 32 e.val)) (blk x k) 0 := by
  unfold fin blk val_main_v24 val_main_v23 val_main_call0_v1 val_main_v22
  generalize val_main_v16 x = c
  rw [← bits_zero]
  pointwise [val_main_cst_4, val_main_v21, val_main_v20, val_main_v19, val_main_v18, val_main_v17, val_main_v0, val_main_call0_v2, val_main_call0_v0, val_main_cst_3]

theorem exp_eq (b : Fin 256) : exp x b = min (∑ e : Fin 32, FloatOps.uitofp (F := Ideal) .f32 (BitVec.ofBool (decide (fin x e ≤ FloatOps.sitofp (F := Ideal) .f32 (BitVec.ofNat 32 b.val)))))
    (Ideal.ofBits .f32 1106771968#32) := by
  unfold exp fin val_main_v50 val_main_v48 val_main_v47 val_main_v46 val_main_v44 val_main_v42
  generalize val_main_v24 x = c
  pointwise [val_main_v49, val_main_cst_11, val_main_cst_10, val_main_v45, val_main_v43, val_main_v3, val_main_v2]

section Kernel
variable (hc : ∀ e : Fin 32, k0_pay26 v3 (ix2 e (0 : Fin 1)) = cnt x e)
include hc

theorem k_blk (e : Fin 32) : k0_pay27 v3 (ix2 e (0 : Fin 1)) = blk x e := by
  rw [blk_eq, ← hc]
  unfold k0_pay27
  generalize k0_pay26 v3 = c
  pointwise []
  rw [bits_512, bits_inv512, Ideal.div_coe (by norm_num)]

theorem k_fin' (e : Fin 32) (l : Fin 128) : k0_pay28 v3 (ix2 e l) = fin x e := by
  rw [fin_eq]
  have h := fun k => k_blk x v3 hc k
  revert h
  unfold k0_pay28
  generalize k0_pay27 v3 = c
  intro h
  pointwise []
  refine Finset.sum_congr rfl fun k _ => ?_
  rw [bit_val, bit_mul, h]

theorem k_fin (e : Fin 32) : k0_pay29 v3 (ix2 e (0 : Fin 1)) = fin x e := by
  have h := k_fin' x v3 hc e 0
  revert h
  unfold k0_pay29
  generalize k0_pay28 v3 = c
  intro h
  pointwise []
  exact h

theorem k_start (e : Fin 32) : k0_pay30 v3 (ix2 e (0 : Fin 1)) = (fin x e - blk x e) * Ideal.ofBits .f32 0x44000000#32 := by
  rw [← k_fin x v3 hc, ← k_blk x v3 hc]
  unfold k0_pay30
  generalize k0_pay29 v3 = c
  generalize k0_pay27 v3 = d
  pointwise []

theorem k_exp (b : Fin 256) : k0_pay35 (k0_pay34 v3) (ix2 (0 : Fin 1) b) = exp x b := by
  rw [exp_eq]
  have h := fun e => k_fin x v3 hc e
  revert h
  unfold k0_pay34
  generalize k0_pay29 v3 = c
  intro h
  pointwise [k0_pay35, k0_pay33]
  refine congrArg (min · _) (Finset.sum_congr rfl fun k _ => ?_)
  rw [bit_val, h]

/-- The table of the blocks' experts. -/
theorem table_experts : k0_pay36 (k0_pay34 v3) = val_main_v73 (F := Ideal) x := by
  refine funext_ix2 fun a b => ?_
  have h := k_exp x v3 hc b
  unfold exp at h
  revert h
  unfold k0_pay36 val_main_v73 val_main_v72
  generalize val_main_v50 x = c
  generalize k0_pay35 (k0_pay34 v3) = d
  intro h
  obtain rfl : a = 0 := Subsingleton.elim _ _
  pointwise []
  rw [h]

/-- The table of how many blocks are used. -/
theorem table_used : k0_pay38 (k0_pay28 v3) = val_main_v76 (F := Ideal) x := by
  refine funext_ix2 fun a l => ?_
  have h := fun k => k_fin' x v3 hc k l
  have h31 := fin_eq x 31
  unfold blk at h31
  revert h h31
  generalize fin x = f
  unfold k0_pay38 val_main_v76 val_main_v75 val_main_v74
  generalize k0_pay28 v3 = d
  generalize val_main_v16 x = c
  intro h h31
  obtain rfl : a = 0 := Subsingleton.elim _ _
  pointwise [val_main_cst_19]
  refine congrArg (FloatOps.fptosi 32) ?_
  refine (Finset.sum_eq_single (31 : Fin 32) (fun k _ hk => ?_) (fun hk => absurd (Finset.mem_univ _) hk)).trans ?_
  · have : IntOp.cmpi .eq (BitVec.ofNat 32 k.val) 31#32 = 0#1 := by revert k; decide
    rw [this]; rfl
  · show d (ix2 31 l) = _
    rw [h, h31]
    refine Finset.sum_congr rfl fun k _ => ?_
    have : IntOp.cmpi .sle (BitVec.ofNat 32 k.val) (BitVec.ofNat 32 (31 : Fin 32).val) = 1#1 := by revert k; decide
    rw [this]; rfl

/-- The table of the rows that hold a token. -/
theorem table_valid : k0_pay37 (k0_pay26 v3) (k0_pay27 v3) (k0_pay29 v3) k0_pay33 (k0_pay34 v3) = val_main_v78 (F := Ideal) x := by
  refine funext_ix2 fun a b => ?_
  have h1 := k_exp x v3 hc b
  have h2 := fun e => k_blk x v3 hc e
  have h3 := fun e => k_fin x v3 hc e
  have h4 := hc
  unfold exp at h1
  unfold blk at h2
  unfold fin at h3
  unfold cnt at h4
  revert h1 h2 h3 h4
  unfold k0_pay37 val_main_v78 val_main_v77 val_main_v67 val_main_call5_v2 val_main_v66 val_main_v65 val_main_v63 val_main_v62 val_main_v61 val_main_call4_v1 val_main_v60 val_main_v59 val_main_v58 val_main_call3_v1 val_main_v57 val_main_v56 val_main_v55 val_main_v53 val_main_v25
  generalize val_main_v50 x = r1
  generalize val_main_v16 x = r2
  generalize val_main_v24 x = r3
  generalize val_main_v11 x = r4
  generalize k0_pay35 (k0_pay34 v3) = s1
  generalize k0_pay27 v3 = s2
  generalize k0_pay29 v3 = s3
  generalize k0_pay26 v3 = s4
  intro h1 h2 h3 h4
  obtain rfl : a = 0 := Subsingleton.elim _ _
  pointwise [k0_pay33, val_main_v54, val_main_v52, val_main_v51, val_main_v0, val_main_call3_v2, val_main_call3_v0, val_main_cst_12, val_main_call4_v2, val_main_call4_v0, val_main_cst_14, val_main_cst_13, val_main_cst_15, val_main_v64, val_main_cst_16, val_main_v3, val_main_v2, val_main_call5_v1, val_main_call5_v0, val_main_call5_v3, val_main_call5_v4, val_main_cst_17, val_main_cst_18]
  simp only [id, constant, Ideal.ofBits_def, Ideal.ofBits_zero_f32, h1, h2, h3, h4]

/-- The table of where each expert's free rows start. -/
theorem table_pad_start : k0_pay31 v3 = val_main_v82 (F := Ideal) x := by
  refine funext_ix2 fun e l => ?_
  have h1 := k_start x v3 hc e
  have h4 := hc e
  unfold blk fin at h1
  unfold cnt at h4
  revert h1 h4
  unfold k0_pay31 val_main_v82 val_main_v81 val_main_v80 val_main_v79 val_main_v27 val_main_v25
  generalize val_main_v16 x = r2
  generalize val_main_v24 x = r3
  generalize val_main_v11 x = r4
  generalize k0_pay30 v3 = s1
  generalize k0_pay26 v3 = s4
  intro h1 h4
  pointwise [val_main_v26, val_main_cst_5]
  rw [h1, h4]

/-- The table of how many free rows each expert has. -/
theorem table_pad_len : k0_pay32 v3 = val_main_v88 (F := Ideal) x := by
  refine funext_ix2 fun e l => ?_
  have h1 := k_blk x v3 hc e
  have h4 := hc e
  unfold blk at h1
  unfold cnt at h4
  revert h1 h4
  unfold k0_pay32 val_main_v88 val_main_v87 val_main_v86 val_main_v85 val_main_v84
  generalize val_main_v16 x = r2
  generalize val_main_v11 x = r4
  generalize k0_pay27 v3 = s1
  generalize k0_pay26 v3 = s4
  intro h1 h4
  pointwise [val_main_v83, val_main_cst_20]
  rw [h1, h4]

end Kernel

end Cert.RouteIdeal.RT

end
-- ==== Proof.RT.Count.lean ====
module
public import proofs.«01_k».proof.Proof.RT.Tables
public import Idealize.ShloMosaic.Lib.WholeRead
public import Idealize.ShloMosaic.Lib.Pipeline.FrameBody
public import Idealize.ShloMosaic.Lib.WritesUnit
public import Idealize.ShloMosaic.Lib.Pipeline.Value
public import Idealize.ShloMosaic.PureOps.Ideal.Laws
public import Idealize.ShloMosaic.Lib.Pointwise
public import Idealize.ShloMosaic.Lib.KernelVsHost

@[expose] public section

set_option maxRecDepth 16384

noncomputable section

namespace Cert.RouteIdeal.RT

open Cert.RouteIdeal Cert.RouteIdeal.Gen Idealize.ShloMosaic Idealize.ShloMosaic.TcCoe Idealize.SL.Sem
open Cert.RouteReferenceIdeal.Read
open scoped BigOperators

/-- How many of token `t`'s choices are expert `e`. -/
def hs (x : (⟨S4x16896, .i32⟩ : BufTy).Contents (Elt Ideal)) (e : Fin 32) (t : ℕ) : EReal :=
  if h : t < 16896 then val_main_v10 (F := Ideal) x (ix2 e ⟨t, h⟩) else 0

theorem hs_eq (x : (⟨S4x16896, .i32⟩ : BufTy).Contents (Elt Ideal)) (e : Fin 32) (t : Fin 16896) :
    hs x e t.val = ∑ k : Fin 4, FloatOps.uitofp (F := Ideal) .f32 (IntOp.cmpi .eq (x (ix2 k t)) (BitVec.ofNat 32 e.val)) := by
  unfold hs
  rw [dif_pos t.isLt]
  pointwise [val_main_v10, val_main_cst, val_main_v9, val_main_v8, val_main_v7, val_main_v6, val_main_v5, val_main_v4, val_main_v0]

/-- The reference's count is the sum over the tokens. -/
theorem cnt_eq (x : (⟨S4x16896, .i32⟩ : BufTy).Contents (Elt Ideal)) (e : Fin 32) : cnt x e = ∑ t ∈ Finset.range 16896, hs x e t := by
  rw [← Fin.sum_univ_eq_sum_range]
  have h : ∀ t : Fin 16896, hs x e t.val = val_main_v10 (F := Ideal) x (ix2 e t) := fun t => by
    unfold hs; rw [dif_pos t.isLt]
  simp only [h]
  unfold cnt val_main_v11
  generalize val_main_v10 x = c
  pointwise [val_main_cst_0]

/-- A load of 512 tokens of one row of the choices. -/
theorem load_row (M : Memref sig .tc .vmem S4x16896 .i32) (hM : M.IsWhole) (x : Vec Ideal S4x16896 .i32) (off : Fin S4x16896.rank → ℕ)
    (inb : ∀ a, off a + S1x512.size a ≤ S4x16896.size a) (r : Fin 4) (o : ℕ) (ho : o + 512 ≤ 16896) (hoff : off = ![r.val, o]) (l : Fin 512) :
    View.readAt (Elt Ideal) M.view (Rect.unit (s := S4x16896) off S1x512.size inb).toLoadRect (hM.unread x) (ix2 (0 : Fin 1) l)
      = x (ix2 r ⟨o + l.val, by have := l.isLt; omega⟩) := by
  subst hoff
  refine (hM.readAt_unread x _ _).trans (congrArg x (funext fun a => Fin.ext ?_))
  match a with
  | ⟨0, _⟩ => show r.val + 1 * 0 = r.val; omega
  | ⟨1, _⟩ => show o + 1 * l.val = o + l.val; omega

variable (c : Dev nD) (t : Fin cfg0.N) (x : Vec Ideal S4x16896 .i32)

/-- The first loop's value before trip `n`. -/
abbrev acc (n : ℕ) : FVec Ideal S32x512 .f32 :=
  st_k0_t1 Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) ((hs0_0 t).unread x) k0_pay24 n

theorem trips1 : k0_t1_loop.trips = 33 := by decide

theorem acc_succ (k : Fin k0_t1_loop.trips) (e : Fin 32) (l : Fin 512) :
    acc c t x (k.val + 1) (ix2 e l) = acc c t x k.val (ix2 e l) + hs x e (512 * k.val + l.val) := by
  have hk : k.val < 33 := lt_of_lt_of_eq k.isLt trips1
  have hl := l.isLt
  unfold acc
  rw [st_k0_t1_succ]
  unfold tripR_k0_t1
  generalize st_k0_t1 (F := Ideal) _ _ _ _ _ _ _ _ _ _ _ _ _ _ _ _ _ _ _ _ _ _ = A
  unfold trip_k0_t1
  dsimp only
  rw [hs_eq x e ⟨512 * k.val + l.val, by omega⟩]
  have r1 := load_row (ms0_0 t) (hs0_0 t) x _ (k0_off1_inb k) 0 (512 * k.val) (by omega) (k0_off1_eq k) l
  have r2 := load_row (ms0_0 t) (hs0_0 t) x _ (k0_off2_inb k) 1 (512 * k.val) (by omega) (k0_off2_eq k) l
  have r3 := load_row (ms0_0 t) (hs0_0 t) x _ (k0_off3_inb k) 2 (512 * k.val) (by omega) (k0_off3_eq k) l
  have r4 := load_row (ms0_0 t) (hs0_0 t) x _ (k0_off4_inb k) 3 (512 * k.val) (by omega) (k0_off4_eq k) l
  revert r1 r2 r3 r4
  generalize View.readAt (Elt Ideal) (ms0_0 t).view (Rect.unit (s := S4x16896) (k0_off1 k) S1x512.size (k0_off1_inb k)).toLoadRect ((hs0_0 t).unread x) = y1
  generalize View.readAt (Elt Ideal) (ms0_0 t).view (Rect.unit (s := S4x16896) (k0_off2 k) S1x512.size (k0_off2_inb k)).toLoadRect ((hs0_0 t).unread x) = y2
  generalize View.readAt (Elt Ideal) (ms0_0 t).view (Rect.unit (s := S4x16896) (k0_off3 k) S1x512.size (k0_off3_inb k)).toLoadRect ((hs0_0 t).unread x) = y3
  generalize View.readAt (Elt Ideal) (ms0_0 t).view (Rect.unit (s := S4x16896) (k0_off4 k) S1x512.size (k0_off4_inb k)).toLoadRect ((hs0_0 t).unread x) = y4
  intro r1 r2 r3 r4
  pointwise [k0_pay25]
  rw [r1, r2, r3, r4, bit_val, bit_val, bit_val, bit_val, Fin.sum_univ_four]

/-- The first loop's value at a position: the chunks' tokens at that position. -/
theorem acc_eq (n : ℕ) (hn : n ≤ 33) (e : Fin 32) (l : Fin 512) :
    acc c t x n (ix2 e l) = ∑ j ∈ Finset.range n, hs x e (512 * j + l.val) := by
  induction n with
  | zero =>
    show k0_pay24 (F := Ideal) (ix2 e l) = _
    pointwise [k0_pay24]
    simp
  | succ n ih =>
    rw [Finset.sum_range_succ, ← ih (by omega)]
    exact acc_succ c t x ⟨n, lt_of_lt_of_eq (by omega) trips1.symm⟩ e l

/-- Tokens by chunk and position are tokens. -/
theorem sum_chunks (f : ℕ → EReal) (n : ℕ) : ∑ l : Fin 512, ∑ j ∈ Finset.range n, f (512 * j + l.val) = ∑ i ∈ Finset.range (512 * n), f i := by
  induction n with
  | zero => simp
  | succ n ih =>
    simp only [Finset.sum_range_succ, Finset.sum_add_distrib]
    rw [ih, Nat.mul_succ, Finset.sum_range_add, Fin.sum_univ_eq_sum_range (fun l => f (512 * n + l))]

/-- The kernel's count of an expert is the reference's. -/
theorem count (e : Fin 32) : k0_pay26 (acc c t x 33) (ix2 e (0 : Fin 1)) = cnt x e := by
  have h := fun l => acc_eq c t x 33 le_rfl e l
  revert h
  generalize acc c t x 33 = A
  intro h
  pointwise [k0_pay26]
  simp only [h]
  rw [sum_chunks, cnt_eq]

end Cert.RouteIdeal.RT

end
-- ==== Proof.RT.Dest.lean ====
module
public import proofs.«01_k».proof.Proof.RT.Count
public import Idealize.ShloMosaic.Lib.WholeRead
public import Idealize.ShloMosaic.Lib.Pipeline.FrameBody
public import Idealize.ShloMosaic.Lib.WritesUnit
public import Idealize.ShloMosaic.Lib.Pipeline.Value
public import Idealize.ShloMosaic.PureOps.Ideal.Laws
public import Idealize.ShloMosaic.Lib.Pointwise
public import Idealize.ShloMosaic.Lib.KernelVsHost

@[expose] public section

set_option maxRecDepth 16384

noncomputable section

namespace Cert.RouteIdeal.RT

open Cert.RouteIdeal Cert.RouteIdeal.Gen Idealize.ShloMosaic Idealize.ShloMosaic.TcCoe Idealize.SL.Sem
open Cert.RouteReferenceIdeal.Read
open scoped BigOperators

/-- Comparing two small numbers as 32-bit integers compares them. -/
theorem slt_small (a b : ℕ) (ha : a < 16896) (hb : b < 16896) :
    IntOp.cmpi .slt (BitVec.ofNat 32 a) (BitVec.ofNat 32 b) = BitVec.ofBool (decide (a < b)) := by
  have h1 : (BitVec.ofNat 32 a).toInt = a := by rw [BitVec.toInt_eq_toNat_cond, BitVec.toNat_ofNat]; omega
  have h2 : (BitVec.ofNat 32 b).toInt = b := by rw [BitVec.toInt_eq_toNat_cond, BitVec.toNat_ofNat]; omega
  unfold IntOp.cmpi
  simp [BitVec.slt, h1, h2]

theorem select_lt (a b : ℕ) (v w : EReal) (ha : a < 16896) (hb : b < 16896) :
    Scalar.select (α := EReal) (IntOp.cmpi .slt (BitVec.ofNat 32 a) (BitVec.ofNat 32 b)) v w = if a < b then v else w := by
  rw [slt_small a b ha hb]
  unfold Scalar.select
  by_cases h : a < b <;> simp [h]

/-- A sum over the numbers below another. -/
theorem sum_below (f : ℕ → EReal) (n b : ℕ) (hb : b ≤ n) : ∑ i : Fin n, (if i.val < b then f i.val else 0) = ∑ i ∈ Finset.range b, f i := by
  rw [Fin.sum_univ_eq_sum_range (fun i => if i < b then f i else 0), ← Finset.sum_filter]
  refine Finset.sum_congr ?_ fun _ _ => rfl
  ext i; simp; omega

variable (x : Vec Ideal S4x16896 .i32)

/-- Where the rows of an expert start. -/
abbrev start (e : Fin 32) : EReal := val_main_v27 (F := Ideal) x (ix1 e)

/-- The row of token `t`'s choice number `q`, as a real number. -/
def rowOf (q : Fin 4) (t : Fin 16896) : EReal :=
  ∑ e : Fin 32, Scalar.select (α := EReal) (IntOp.cmpi .eq (x (ix2 q t)) (BitVec.ofNat 32 e.val)) (start x e + ∑ i ∈ Finset.range t.val, hs x e i) 0

theorem ref_earlier (e : Fin 32) (t : Fin 16896) : val_main_v35 (F := Ideal) x (ix2 e t) = ∑ i ∈ Finset.range t.val, hs x e i := by
  rw [← sum_below (hs x e) 16896 t.val t.isLt.le]
  have h : ∀ t : Fin 16896, val_main_v10 (F := Ideal) x (ix2 e t) = hs x e t.val := fun t => by
    unfold hs; rw [dif_pos t.isLt]
  simp only [← h]
  unfold val_main_v35 val_main_v34 val_main_call1_v2 val_main_v33
  generalize val_main_v10 x = c
  pointwise [val_main_cst_7, val_main_call1_v1, val_main_v32, val_main_v30, val_main_v31, val_main_v28, val_main_v29, val_main_v1, val_main_call1_v3, val_main_call1_v0, val_main_cst_6]
  refine Finset.sum_congr rfl fun i _ => ?_
  simp only [id, constant, Ideal.ofBits_def, Ideal.ofBits_zero_f32]
  rw [select_lt _ _ _ _ i.isLt t.isLt]

theorem ref_row (q : Fin 4) (t : Fin 16896) : val_main_v41 (F := Ideal) x (ix2 q t) = rowOf x q t := by
  unfold rowOf
  simp only [← ref_earlier]
  unfold val_main_v41 val_main_v40 val_main_call2_v1 val_main_v39 val_main_v38 val_main_v37 val_main_v36 start
  generalize val_main_v35 x = c
  generalize val_main_v27 x = d
  pointwise [val_main_cst_9, val_main_call2_v2, val_main_call2_v0, val_main_cst_8, val_main_v8, val_main_v7, val_main_v6, val_main_v5, val_main_v4, val_main_v0]
  simp only [id, constant, Ideal.ofBits_def, Ideal.ofBits_zero_f32]

/-- The reference's table of rows at a position. -/
theorem ref_dest (i : S66x1x1024.Idx) (q : Fin 4) (t : Fin 16896) (h : t.val = 256 * (i 0).val + (i 2).val % 256) (hq : (i 2).val / 256 = q.val) :
    val_main_v71 (F := Ideal) x i = FloatOps.fptosi (F := Ideal) (φ := .f32) 32 (rowOf x q t) := by
  rw [val_main_v71_apply, val_main_v70_apply, val_main_v69_apply, val_main_v68_apply, ← ref_row]
  have h0 : (i 0).val < 66 := (i 0).isLt
  have h1 : (i 1).val < 1 := (i 1).isLt
  have h2 : (i 2).val < 1024 := (i 2).isLt
  refine congrArg _ (congrArg _ (funext fun a => Fin.ext ?_))
  match a with
  | ⟨0, _⟩ =>
    dsimp
    show _ = q.val
    omega
  | ⟨1, _⟩ =>
    dsimp
    show _ = t.val
    omega

end Cert.RouteIdeal.RT

end
-- ==== Proof.RT.Loop.lean ====
module
public import proofs.«01_k».proof.Proof.RT.Dest
public import Idealize.ShloMosaic.Lib.WholeRead
public import Idealize.ShloMosaic.Lib.Pipeline.FrameBody
public import Idealize.ShloMosaic.Lib.WritesUnit
public import Idealize.ShloMosaic.Lib.Pipeline.Value
public import Idealize.ShloMosaic.PureOps.Ideal.Laws
public import Idealize.ShloMosaic.Lib.Pointwise
public import Idealize.ShloMosaic.Lib.KernelVsHost

@[expose] public section

set_option maxRecDepth 16384

noncomputable section

namespace Cert.RouteIdeal.RT

open Cert.RouteIdeal Cert.RouteIdeal.Gen Idealize.ShloMosaic Idealize.ShloMosaic.TcCoe Idealize.SL.Sem
open Cert.RouteReferenceIdeal.Read
open scoped BigOperators

theorem pay20_at (h : IVec S32x512 1) (w : FVec Ideal S32x512 .f32) (j : Fin 256) :
    k0_pay20 h w (ix3 (0 : Fin 1) (0 : Fin 1) j) = FloatOps.fptosi (F := Ideal) (φ := .f32) 32
      (∑ e : Fin 32, Scalar.select (α := EReal) (h (ix2 e ⟨j.val, by omega⟩)) (w (ix2 e ⟨j.val, by omega⟩)) 0) := by
  pointwise [k0_pay20, k0_pay19]

theorem pay21_at (h : IVec S32x512 1) (w : FVec Ideal S32x512 .f32) (j : Fin 256) :
    k0_pay21 h w (ix3 (0 : Fin 1) (0 : Fin 1) j) = FloatOps.fptosi (F := Ideal) (φ := .f32) 32
      (∑ e : Fin 32, Scalar.select (α := EReal) (h (ix2 e ⟨256 + j.val, by omega⟩)) (w (ix2 e ⟨256 + j.val, by omega⟩)) 0) := by
  pointwise [k0_pay21, k0_pay19]

theorem pay8_at (a : FVec Ideal S32x1 .f32) (v : FVec Ideal S32x512 .f32) (e : Fin 32) :
    k0_pay8 a v (ix2 e (0 : Fin 1)) = a (ix2 e (0 : Fin 1)) + ∑ l : Fin 512, v (ix2 e l) := by
  pointwise [k0_pay8]

theorem pay13_at (v0 : IVec S32x512 32) (y0 y1 y2 y3 : Vec Ideal S1x512 .i32) (e : Fin 32) (l : Fin 512) :
    k0_pay13 (F := Ideal) v0 y0 y1 y2 y3 (ix2 e l) = FloatOps.uitofp (F := Ideal) .f32 (IntOp.cmpi .eq (y0 (ix2 (0 : Fin 1) l)) (v0 (ix2 e l)))
      + FloatOps.uitofp (F := Ideal) .f32 (IntOp.cmpi .eq (y1 (ix2 (0 : Fin 1) l)) (v0 (ix2 e l)))
      + FloatOps.uitofp (F := Ideal) .f32 (IntOp.cmpi .eq (y2 (ix2 (0 : Fin 1) l)) (v0 (ix2 e l)))
      + FloatOps.uitofp (F := Ideal) .f32 (IntOp.cmpi .eq (y3 (ix2 (0 : Fin 1) l)) (v0 (ix2 e l))) := by
  pointwise [k0_pay13, k0_pay9, k0_pay10, k0_pay11, k0_pay12]
  rw [bit_val, bit_val, bit_val, bit_val]

theorem pay14_at (v0 : IVec S32x512 32) (v22 a : FVec Ideal S32x1 .f32) (y0 y1 y2 y3 : Vec Ideal S1x512 .i32) (e : Fin 32) (l : Fin 512) :
    k0_pay14 (F := Ideal) v0 v22 a y0 y1 y2 y3 (k0_pay1 (F := Ideal)) (ix2 e l) = (v22 (ix2 e (0 : Fin 1)) + a (ix2 e (0 : Fin 1)))
      + ∑ i : Fin 512, (if i.val < l.val then k0_pay13 (F := Ideal) v0 y0 y1 y2 y3 (ix2 e i) else 0) := by
  unfold k0_pay14
  generalize k0_pay13 (F := Ideal) v0 y0 y1 y2 y3 = z
  pointwise [k0_pay1]
  refine congrArg _ (Finset.sum_congr rfl fun i _ => ?_)
  rw [bit_val, mul_comm, bit_mul, select_lt _ _ _ _ (by omega) (by omega)]

variable (c : Dev nD) (t : Fin cfg0.N) (x : Vec Ideal S4x16896 .i32)

theorem trips2 : k0_t2_loop.trips = 33 := by decide

/-- A position of one of the stores is the position of the reference's table holding that choice's row. -/
theorem piece_at (k : ℕ) (r q : ℕ) (hk : k < 33) (hr : r < 2) (hq : q < 4) (off : Fin S66x1x1024.rank → ℕ)
    (inb : ∀ a, off a + S1x1x256.size a ≤ S66x1x1024.size a) (hoff : off = ![2 * k + r, 0, 256 * q]) (z : Fin 256) :
    val_main_v71 (F := Ideal) x ((Rect.unit (s := S66x1x1024) off S1x1x256.size inb).emb (ix3 (0 : Fin 1) (0 : Fin 1) z))
      = FloatOps.fptosi (F := Ideal) (φ := .f32) 32 (rowOf x ⟨q, hq⟩ ⟨512 * k + (256 * r + z.val), by omega⟩) := by
  subst hoff
  have hz := z.isLt
  refine ref_dest x _ _ _ ?_ ?_
  · show 512 * k + (256 * r + z.val) = 256 * (2 * k + r + 1 * 0) + (256 * q + 1 * z.val) % 256
    omega
  · show (256 * q + 1 * z.val) / 256 = q
    omega

theorem idx_half (z : S1x1x256.Idx) : ∃ j : Fin 256, z = ix3 (0 : Fin 1) (0 : Fin 1) j :=
  ⟨⟨(z 2).val, (z 2).isLt⟩, funext fun a => Fin.ext (by
    match a with
    | ⟨0, _⟩ => have h : (z 0).val < 1 := (z 0).isLt; show (z 0).val = 0; omega
    | ⟨1, _⟩ => have h : (z 1).val < 1 := (z 1).isLt; show (z 1).val = 0; omega
    | ⟨2, _⟩ => rfl)⟩

section Trip
variable (v0 : IVec S32x512 32) (v22 : FVec Ideal S32x1 .f32) (X7 : BufTy.Contents (Elt Ideal) scM0_0.view.ty)

/-- The second loop's state before trip `n`: what it carries and what it has stored. -/
abbrev st2 (n : ℕ) : FVec Ideal S32x1 .f32 × List (View.Piece (Elt Ideal) S66x1x1024 .i32) :=
  st_k0_t2 (F := Ideal) Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) v0 v22 ((hs0_0 t).unread x) X7 k0_pay2 n

variable (hv0 : ∀ e l, v0 (ix2 e l) = BitVec.ofNat 32 e.val)
include hv0

/-- One chunk's choices of an expert. -/
theorem chosen_at (k : Fin k0_t2_loop.trips) (e : Fin 32) (l : Fin 512) :
    trip_k0_t2.sl.r_3 (F := Ideal) (ms0_0 t) v0 ((hs0_0 t).unread x) k (ix2 e l) = hs x e (512 * k.val + l.val) := by
  have hk : k.val < 33 := lt_of_lt_of_eq k.isLt trips2
  have hl := l.isLt
  unfold trip_k0_t2.sl.r_3
  rw [hs_eq x e ⟨512 * k.val + l.val, by omega⟩, pay13_at, hv0, Fin.sum_univ_four]
  rw [load_row (ms0_0 t) (hs0_0 t) x _ (k0_off5_inb k) 0 (512 * k.val) (by omega) (k0_off5_eq k) l,
    load_row (ms0_0 t) (hs0_0 t) x _ (k0_off6_inb k) 1 (512 * k.val) (by omega) (k0_off6_eq k) l,
    load_row (ms0_0 t) (hs0_0 t) x _ (k0_off7_inb k) 2 (512 * k.val) (by omega) (k0_off7_eq k) l,
    load_row (ms0_0 t) (hs0_0 t) x _ (k0_off8_inb k) 3 (512 * k.val) (by omega) (k0_off8_eq k) l]

/-- What the second loop carries: how many choices of each expert the chunks before hold. -/
theorem carry_eq (n : ℕ) (hn : n ≤ 33) (e : Fin 32) : (st2 c t x v0 v22 X7 n).1 (ix2 e (0 : Fin 1)) = ∑ i ∈ Finset.range (512 * n), hs x e i := by
  induction n with
  | zero =>
    show k0_pay2 (F := Ideal) (ix2 e (0 : Fin 1)) = _
    pointwise [k0_pay2]
    simp
  | succ n ih =>
    have h := chosen_at t x v0 hv0 ⟨n, lt_of_lt_of_eq (by omega) trips2.symm⟩ e
    rw [Nat.mul_succ, Finset.sum_range_add, ← ih (by omega)]
    unfold st2
    rw [st_k0_t2_succ (F := Ideal) _ _ _ _ _ _ _ _ _ _ _ _ _ _ _ _ _ _ _ _ _ _ _ _ ⟨n, lt_of_lt_of_eq (by omega) trips2.symm⟩]
    dsimp only
    generalize (st_k0_t2 (F := Ideal) _ _ _ _ _ _ _ _ _ _ _ _ _ _ _ _ _ _ _ _ _ _ _ _ _).1 = A
    unfold tripR_k0_t2 trip_k0_t2
    dsimp only
    rw [pay8_at]
    simp only [h]
    rw [Fin.sum_univ_eq_sum_range (fun l => hs x e (512 * n + l))]

/-- A chunk's rows, expert by expert: the expert's start and how many earlier tokens chose it. -/
theorem rows_at (hv22 : ∀ e : Fin 32, v22 (ix2 e (0 : Fin 1)) = start x e)
    (hX7 : View.readAt (Elt Ideal) scM0_0.view (Rect.unit (s := S512x512) ![0, 0] S512x512.size inb_S512x512_S512x512_0_0).toLoadRect X7 = k0_pay1 (F := Ideal))
    (k : Fin k0_t2_loop.trips) (a : FVec Ideal S32x1 .f32) (ha : ∀ e : Fin 32, a (ix2 e (0 : Fin 1)) = ∑ i ∈ Finset.range (512 * k.val), hs x e i)
    (e : Fin 32) (l : Fin 512) :
    trip_k0_t2.sl.r_4 (F := Ideal) (ms0_0 t) scM0_0 v0 v22 ((hs0_0 t).unread x) X7 k a (ix2 e l)
      = start x e + ∑ i ∈ Finset.range (512 * k.val + l.val), hs x e i := by
  have hk : k.val < 33 := lt_of_lt_of_eq k.isLt trips2
  have h := chosen_at t x v0 hv0 k e
  unfold trip_k0_t2.sl.r_3 at h
  unfold trip_k0_t2.sl.r_4
  rw [hX7, pay14_at, hv22, ha, Finset.sum_range_add, add_assoc]
  simp only [h]
  rw [sum_below (fun i => hs x e (512 * k.val + i)) 512 l.val l.isLt.le]

omit c t x v22 X7 in
theorem first_half (x : Vec Ideal S4x16896 .i32) (q : Fin 4) (k : ℕ) (hk : k < 33) (y : Vec Ideal S1x512 .i32) (w : FVec Ideal S32x512 .f32)
    (hy : ∀ l : Fin 512, y (ix2 (0 : Fin 1) l) = x (ix2 q ⟨512 * k + l.val, by omega⟩))
    (hw : ∀ e l, w (ix2 e l) = start x e + ∑ i ∈ Finset.range (512 * k + l.val), hs x e i) (j : Fin 256) :
    k0_pay20 (k0_pay9 (F := Ideal) v0 y) w (ix3 (0 : Fin 1) (0 : Fin 1) j) = FloatOps.fptosi (F := Ideal) (φ := .f32) 32 (rowOf x q ⟨512 * k + (256 * 0 + j.val), by omega⟩) := by
  rw [pay20_at]
  unfold rowOf
  refine congrArg _ (Finset.sum_congr rfl fun e _ => ?_)
  rw [hw]
  have hb : k0_pay9 (F := Ideal) v0 y (ix2 e ⟨j.val, by omega⟩) = IntOp.cmpi .eq (y (ix2 (0 : Fin 1) ⟨j.val, by omega⟩)) (v0 (ix2 e ⟨j.val, by omega⟩)) := by
    pointwise [k0_pay9]
  rw [hb, hy, hv0]
  simp only [Nat.mul_zero, Nat.zero_add]

omit c t x v22 X7 in
theorem second_half (x : Vec Ideal S4x16896 .i32) (q : Fin 4) (k : ℕ) (hk : k < 33) (y : Vec Ideal S1x512 .i32) (w : FVec Ideal S32x512 .f32)
    (hy : ∀ l : Fin 512, y (ix2 (0 : Fin 1) l) = x (ix2 q ⟨512 * k + l.val, by omega⟩))
    (hw : ∀ e l, w (ix2 e l) = start x e + ∑ i ∈ Finset.range (512 * k + l.val), hs x e i) (j : Fin 256) :
    k0_pay21 (k0_pay9 (F := Ideal) v0 y) w (ix3 (0 : Fin 1) (0 : Fin 1) j) = FloatOps.fptosi (F := Ideal) (φ := .f32) 32 (rowOf x q ⟨512 * k + (256 * 1 + j.val), by omega⟩) := by
  rw [pay21_at]
  unfold rowOf
  refine congrArg _ (Finset.sum_congr rfl fun e _ => ?_)
  rw [hw]
  have hb : k0_pay9 (F := Ideal) v0 y (ix2 e ⟨256 + j.val, by omega⟩) = IntOp.cmpi .eq (y (ix2 (0 : Fin 1) ⟨256 + j.val, by omega⟩)) (v0 (ix2 e ⟨256 + j.val, by omega⟩)) := by
    pointwise [k0_pay9]
  rw [hb, hy, hv0]

/-- Every store of one chunk leaves the reference's rows. -/
theorem trip_ok (hv22 : ∀ e : Fin 32, v22 (ix2 e (0 : Fin 1)) = start x e)
    (hX7 : View.readAt (Elt Ideal) scM0_0.view (Rect.unit (s := S512x512) ![0, 0] S512x512.size inb_S512x512_S512x512_0_0).toLoadRect X7 = k0_pay1 (F := Ideal))
    (k : Fin k0_t2_loop.trips) (a : FVec Ideal S32x1 .f32) (ha : ∀ e : Fin 32, a (ix2 e (0 : Fin 1)) = ∑ i ∈ Finset.range (512 * k.val), hs x e i) :
    ∀ p ∈ tripL_k0_t2 (F := Ideal) Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) v0 v22 ((hs0_0 t).unread x) X7 k a,
      ∀ z : p.1.shape.Idx, p.2 z = val_main_v71 (F := Ideal) x (p.1.emb z) := by
  have hk : k.val < 33 := lt_of_lt_of_eq k.isLt trips2
  have hw := rows_at t x v0 v22 X7 hv0 hv22 hX7 k a ha
  have y0 := fun l => load_row (ms0_0 t) (hs0_0 t) x _ (k0_off5_inb k) 0 (512 * k.val) (by omega) (k0_off5_eq k) l
  have y1 := fun l => load_row (ms0_0 t) (hs0_0 t) x _ (k0_off6_inb k) 1 (512 * k.val) (by omega) (k0_off6_eq k) l
  have y2 := fun l => load_row (ms0_0 t) (hs0_0 t) x _ (k0_off7_inb k) 2 (512 * k.val) (by omega) (k0_off7_eq k) l
  have y3 := fun l => load_row (ms0_0 t) (hs0_0 t) x _ (k0_off8_inb k) 3 (512 * k.val) (by omega) (k0_off8_eq k) l
  unfold tripL_k0_t2 trip_k0_t2
  dsimp only
  intro p hp
  simp only [List.mem_cons, List.not_mem_nil, or_false] at hp
  rcases hp with rfl | rfl | rfl | rfl | rfl | rfl | rfl | rfl
  · intro z
    obtain ⟨j, rfl⟩ : ∃ j : Fin 256, z = ix3 (0 : Fin 1) (0 : Fin 1) j := idx_half z
    exact (second_half v0 hv0 x 3 k.val hk _ _ y3 hw j).trans (piece_at x k.val 1 3 hk (by decide) (by decide) _ (k0_off12_inb k 1) (k0_off12_eq k 1) j).symm
  · intro z
    obtain ⟨j, rfl⟩ : ∃ j : Fin 256, z = ix3 (0 : Fin 1) (0 : Fin 1) j := idx_half z
    exact (first_half v0 hv0 x 3 k.val hk _ _ y3 hw j).trans (piece_at x k.val 0 3 hk (by decide) (by decide) _ (k0_off12_inb k 0) (k0_off12_eq k 0) j).symm
  · intro z
    obtain ⟨j, rfl⟩ : ∃ j : Fin 256, z = ix3 (0 : Fin 1) (0 : Fin 1) j := idx_half z
    exact (second_half v0 hv0 x 2 k.val hk _ _ y2 hw j).trans (piece_at x k.val 1 2 hk (by decide) (by decide) _ (k0_off11_inb k 1) (k0_off11_eq k 1) j).symm
  · intro z
    obtain ⟨j, rfl⟩ : ∃ j : Fin 256, z = ix3 (0 : Fin 1) (0 : Fin 1) j := idx_half z
    exact (first_half v0 hv0 x 2 k.val hk _ _ y2 hw j).trans (piece_at x k.val 0 2 hk (by decide) (by decide) _ (k0_off11_inb k 0) (k0_off11_eq k 0) j).symm
  · intro z
    obtain ⟨j, rfl⟩ : ∃ j : Fin 256, z = ix3 (0 : Fin 1) (0 : Fin 1) j := idx_half z
    exact (second_half v0 hv0 x 1 k.val hk _ _ y1 hw j).trans (piece_at x k.val 1 1 hk (by decide) (by decide) _ (k0_off10_inb k 1) (k0_off10_eq k 1) j).symm
  · intro z
    obtain ⟨j, rfl⟩ : ∃ j : Fin 256, z = ix3 (0 : Fin 1) (0 : Fin 1) j := idx_half z
    exact (first_half v0 hv0 x 1 k.val hk _ _ y1 hw j).trans (piece_at x k.val 0 1 hk (by decide) (by decide) _ (k0_off10_inb k 0) (k0_off10_eq k 0) j).symm
  · intro z
    obtain ⟨j, rfl⟩ : ∃ j : Fin 256, z = ix3 (0 : Fin 1) (0 : Fin 1) j := idx_half z
    exact (second_half v0 hv0 x 0 k.val hk _ _ y0 hw j).trans (piece_at x k.val 1 0 hk (by decide) (by decide) _ (k0_off9_inb k 1) (k0_off9_eq k 1) j).symm
  · intro z
    obtain ⟨j, rfl⟩ : ∃ j : Fin 256, z = ix3 (0 : Fin 1) (0 : Fin 1) j := idx_half z
    exact (first_half v0 hv0 x 0 k.val hk _ _ y0 hw j).trans (piece_at x k.val 0 0 hk (by decide) (by decide) _ (k0_off9_inb k 0) (k0_off9_eq k 0) j).symm

/-- Every store of the second loop's first `n` chunks leaves the reference's rows. -/
theorem stores_ok (hv22 : ∀ e : Fin 32, v22 (ix2 e (0 : Fin 1)) = start x e)
    (hX7 : View.readAt (Elt Ideal) scM0_0.view (Rect.unit (s := S512x512) ![0, 0] S512x512.size inb_S512x512_S512x512_0_0).toLoadRect X7 = k0_pay1 (F := Ideal))
    (n : ℕ) (hn : n ≤ 33) :
    ∀ p ∈ (st2 c t x v0 v22 X7 n).2, ∀ z : p.1.shape.Idx, p.2 z = val_main_v71 (F := Ideal) x (p.1.emb z) := by
  induction n with
  | zero => intro p hp; exact absurd hp List.not_mem_nil
  | succ n ih =>
    have ha := carry_eq c t x v0 v22 X7 hv0 n (by omega)
    have ih := ih (by omega)
    intro p hp
    have e := st_k0_t2_succ (F := Ideal) Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) v0 v22 ((hs0_0 t).unread x) X7 k0_pay2 ⟨n, lt_of_lt_of_eq (by omega) trips2.symm⟩
    have hp := (congrArg (fun s => p ∈ s.2) e).mp hp
    rcases List.mem_append.mp hp with h | h
    · exact trip_ok c t x v0 v22 X7 hv0 hv22 hX7 ⟨n, lt_of_lt_of_eq (by omega) trips2.symm⟩ _ ha p h
    · exact ih p h

omit hv0 in
/-- Every position of the table is stored by the chunk that holds its token. -/
theorem stores_cover (y : S66x1x1024.Idx) (n : ℕ) (hn : n ≤ 33) (hy : (y 0).val < 2 * n) : ∃ p ∈ (st2 c t x v0 v22 X7 n).2, y ∈ p.1.set := by
  induction n with
  | zero => omega
  | succ n ih =>
    have e := st_k0_t2_succ (F := Ideal) Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) v0 v22 ((hs0_0 t).unread x) X7 k0_pay2 ⟨n, lt_of_lt_of_eq (by omega) trips2.symm⟩
    have ex : ∀ p, (p ∈ (st2 c t x v0 v22 X7 (n + 1)).2) = _ := fun p => congrArg (fun s => p ∈ s.2) e
    by_cases h : (y 0).val < 2 * n
    · obtain ⟨p, hp, hm⟩ := ih (by omega) h
      exact ⟨p, (ex p).mpr (List.mem_append_right _ hp), hm⟩
    · have h1 : (y 1).val < 1 := (y 1).isLt
      have h2 : (y 2).val < 1024 := (y 2).isLt
      suffices hs : ∀ a, ∃ p ∈ tripL_k0_t2 (F := Ideal) Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
          scM0_0 (Memref.isWhole_whole _) v0 v22 ((hs0_0 t).unread x) X7 ⟨n, lt_of_lt_of_eq (by omega) trips2.symm⟩ a, y ∈ p.1.set by
        obtain ⟨p, hp, hm⟩ := hs _
        exact ⟨p, (ex p).mpr (List.mem_append_left _ hp), hm⟩
      intro a
      unfold tripL_k0_t2 trip_k0_t2
      dsimp only
      have inr : ∀ (off : Fin S66x1x1024.rank → ℕ) (inb : ∀ a, off a + S1x1x256.size a ≤ S66x1x1024.size a) (b o : ℕ), off = ![b, 0, o] → (y 0).val = b → o ≤ (y 2).val → (y 2).val < o + 256 →
          y ∈ (Rect.unit (s := S66x1x1024) off S1x1x256.size inb).set := by
        intro off inb b o ho hb hl hu
        subst ho
        rw [Rect.mem_set_unit]
        intro d
        match d with
        | ⟨0, _⟩ => exact ⟨hb.ge, by show (y 0).val < b + 1; omega⟩
        | ⟨1, _⟩ => exact ⟨Nat.zero_le _, by show (y 1).val < 0 + 1; omega⟩
        | ⟨2, _⟩ => exact ⟨hl, hu⟩
      by_cases hr : (y 0).val = 2 * n
      · by_cases q1 : (y 2).val < 256
        · exact ⟨_, .tail _ (.tail _ (.tail _ (.tail _ (.tail _ (.tail _ (.tail _ (.head _))))))), inr _ (k0_off9_inb _ 0) _ _ (k0_off9_eq _ 0) hr (by omega) (by omega)⟩
        by_cases q2 : (y 2).val < 512
        · exact ⟨_, .tail _ (.tail _ (.tail _ (.tail _ (.tail _ (.head _))))), inr _ (k0_off10_inb _ 0) _ _ (k0_off10_eq _ 0) hr (by omega) (by omega)⟩
        by_cases q3 : (y 2).val < 768
        · exact ⟨_, .tail _ (.tail _ (.tail _ (.head _))), inr _ (k0_off11_inb _ 0) _ _ (k0_off11_eq _ 0) hr (by omega) (by omega)⟩
        · exact ⟨_, .tail _ (.head _), inr _ (k0_off12_inb _ 0) _ _ (k0_off12_eq _ 0) hr (by omega) (by omega)⟩
      · have hr : (y 0).val = 2 * n + 1 := by omega
        by_cases q1 : (y 2).val < 256
        · exact ⟨_, .tail _ (.tail _ (.tail _ (.tail _ (.tail _ (.tail _ (.head _)))))), inr _ (k0_off9_inb _ 1) _ _ (k0_off9_eq _ 1) hr (by omega) (by omega)⟩
        by_cases q2 : (y 2).val < 512
        · exact ⟨_, .tail _ (.tail _ (.tail _ (.tail _ (.head _)))), inr _ (k0_off10_inb _ 1) _ _ (k0_off10_eq _ 1) hr (by omega) (by omega)⟩
        by_cases q3 : (y 2).val < 768
        · exact ⟨_, .tail _ (.tail _ (.head _)), inr _ (k0_off11_inb _ 1) _ _ (k0_off11_eq _ 1) hr (by omega) (by omega)⟩
        · exact ⟨_, .head _, inr _ (k0_off12_inb _ 1) _ _ (k0_off12_eq _ 1) hr (by omega) (by omega)⟩

/-- What the second loop leaves is the reference's table of rows. -/
theorem stores_read (hv22 : ∀ e : Fin 32, v22 (ix2 e (0 : Fin 1)) = start x e)
    (hX7 : View.readAt (Elt Ideal) scM0_0.view (Rect.unit (s := S512x512) ![0, 0] S512x512.size inb_S512x512_S512x512_0_0).toLoadRect X7 = k0_pay1 (F := Ideal))
    (M : View sig .tc .vmem S66x1x1024 .i32) (f : M.ty.Contents (Elt Ideal)) :
    M.read (Elt Ideal) (M.writes (Elt Ideal) f (st2 c t x v0 v22 X7 33).2) = val_main_v71 (F := Ideal) x := by
  funext y
  have h0 : (y 0).val < 66 := (y 0).isLt
  exact View.read_writes_apply_of_pieces M f (val_main_v71 (F := Ideal) x) _ (stores_ok c t x v0 v22 X7 hv0 hv22 hX7 33 le_rfl) y
    (stores_cover c t x v0 v22 X7 y 33 le_rfl (by omega))

end Trip

end Cert.RouteIdeal.RT

end
-- ==== Proof.RT.Final.lean ====
/-
  The route call's value: each of its six result arrays, as the call leaves it, is the reference's.
-/
module

public import proofs.«01_k».proof.Defs
public import proofs.«01_k».proof.Proof.Gen.RouteReferenceIdeal.Run
public import proofs.«01_k».proof.Proof.RT.Loop
public import Idealize.ShloMosaic.Lib.VecWindow
public import Idealize.ShloMosaic.Lib.WholeRead
public import Idealize.ShloMosaic.Lib.Pipeline.FrameBody
public import Idealize.ShloMosaic.Lib.WritesUnit
public import Idealize.ShloMosaic.Lib.Pipeline.Value
public import Idealize.ShloMosaic.PureOps.Ideal.Laws
public import Idealize.ShloMosaic.Lib.Pointwise
public import Idealize.ShloMosaic.Lib.KernelVsHost

@[expose] public section

set_option maxRecDepth 16384

noncomputable section

namespace Cert.RouteIdeal.RT

open Cert.RouteIdeal Cert.RouteIdeal.Gen Idealize.ShloMosaic Idealize.ShloMosaic.TcCoe Idealize.SL.Sem
open Cert.RouteReferenceIdeal.Read
open scoped BigOperators

open Cert.RouteIdeal.Value
variable (c : Dev nD) (t : Fin cfg0.N) (x : Vec Ideal S4x16896 .i32)

/-- The counting loop's number of trips. -/
theorem trips1' : Scf.trips k0_t1_loop.lb k0_t1_loop.ub k0_t1_loop.st = 33 := by decide
theorem trips2' : Scf.trips 0#32 (Scalar.addi 0#32 33#32) 1#32 = 33 := by decide

/-- An expert's first row, as the kernel has it after the counting loop. -/
theorem k_start_at (e : Fin 32) : k0_pay30 (acc c t x 33) (ix2 e (0 : Fin 1)) = start x e := by
  rw [k_start x (acc c t x 33) (count c t x) e]
  unfold start val_main_v27 val_main_v25
  pointwise [val_main_v26, val_main_cst_5]

/-- Result 0 at the grid's point: the rows of the entries. -/
theorem out1 : out0_A_1 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x = val_main_v71 (F := Ideal) x := by
  unfold out0_A_1 kernelRun0_A
  dsimp only
  unfold kernelRun0_A.sl.v0 kernelRun0_A.sl.r_4 kernelRun0_A.sl.HS0_1
  rw [trips1']
  refine stores_read c t x _ _ _ (fun e l => ?_) (k_start_at c t x) ?_ _ _
  · pointwise []
  · exact View.readAt_writes_full _ _ _ _ _ _

/-- Result 1 at the grid's point: each block's expert. -/
theorem out2 : out0_A_2 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x = val_main_v73 (F := Ideal) x := by
  unfold out0_A_2 kernelRun0_A
  dsimp only
  unfold kernelRun0_A.sl.H2_1
  refine (View.read_writes_full _ _ _ _ _).trans ?_
  exact table_experts x (acc c t x 33) (count c t x)

/-- Result 2 at the grid's point: the blocks used. -/
theorem out3 : out0_A_3 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x = val_main_v76 (F := Ideal) x := by
  unfold out0_A_3 kernelRun0_A
  dsimp only
  unfold kernelRun0_A.sl.H3_1
  refine (View.read_writes_full _ _ _ _ _).trans ?_
  exact table_used x (acc c t x 33) (count c t x)

/-- Result 3 at the grid's point: each block's valid rows. -/
theorem out4 : out0_A_4 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x = val_main_v78 (F := Ideal) x := by
  unfold out0_A_4 kernelRun0_A
  dsimp only
  unfold kernelRun0_A.sl.H4_1
  refine (View.read_writes_full _ _ _ _ _).trans ?_
  exact table_valid x (acc c t x 33) (count c t x)

/-- Result 4 at the grid's point: where each expert's padding starts. -/
theorem out5 : out0_A_5 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x = val_main_v82 (F := Ideal) x := by
  unfold out0_A_5 kernelRun0_A
  dsimp only
  unfold kernelRun0_A.sl.H5_1
  refine (View.read_writes_full _ _ _ _ _).trans ?_
  exact table_pad_start x (acc c t x 33) (count c t x)

/-- Result 5 at the grid's point: the length of each expert's padding. -/
theorem out6 : out0_A_6 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x = val_main_v88 (F := Ideal) x := by
  unfold out0_A_6 kernelRun0_A
  dsimp only
  unfold kernelRun0_A.sl.H6_1
  refine (View.read_writes_full _ _ _ _ _).trans ?_
  exact table_pad_len x (acc c t x 33) (count c t x)

/-! ## The arrays: one grid point, whose blocks are the whole arrays -/

variable (m : (ℓ : Loc nD τ sig) → Buf (Elt Ideal) ℓ) (g : Dev nD → PrngReg)

/-- The experts chosen, as the call is launched. -/
abbrev arg (c : Dev nD) : Vec Ideal S4x16896 .i32 := m ((c : Thread nD τ).loc main_arg0)

/-- Every window's block starts at the origin of its array. -/
theorem index_zero : ∀ (w : Fin cfg0.W) (t : Fin cfg0.N) (a : Fin (cfg0.win w).shape.rank), (cfg0.win w).index t a = 0 := by
  decide +kernel

/-- Window 0's block is its whole array. -/
theorem emb0 (t : Fin cfg0.N) (y : S4x16896.Idx) : ((cfg0.win 0).blk t).view.emb y = y :=
  funext fun a => Fin.ext (Pipeline.Window.rect_emb_val_of_index_zero (cfg0.win 0) t a (index_zero 0 t a) y)

/-- Window 1's block is its whole array. -/
theorem emb1 (t : Fin cfg0.N) (y : S66x1x1024.Idx) : ((cfg0.win 1).blk t).view.emb y = y :=
  funext fun a => Fin.ext (Pipeline.Window.rect_emb_val_of_index_zero (cfg0.win 1) t a (index_zero 1 t a) y)

/-- Window 2's block is its whole array. -/
theorem emb2 (t : Fin cfg0.N) (y : S1x256.Idx) : ((cfg0.win 2).blk t).view.emb y = y :=
  funext fun a => Fin.ext (Pipeline.Window.rect_emb_val_of_index_zero (cfg0.win 2) t a (index_zero 2 t a) y)

/-- Window 3's block is its whole array. -/
theorem emb3 (t : Fin cfg0.N) (y : S1x128.Idx) : ((cfg0.win 3).blk t).view.emb y = y :=
  funext fun a => Fin.ext (Pipeline.Window.rect_emb_val_of_index_zero (cfg0.win 3) t a (index_zero 3 t a) y)

/-- Window 4's block is its whole array. -/
theorem emb4 (t : Fin cfg0.N) (y : S1x256.Idx) : ((cfg0.win 4).blk t).view.emb y = y :=
  funext fun a => Fin.ext (Pipeline.Window.rect_emb_val_of_index_zero (cfg0.win 4) t a (index_zero 4 t a) y)

/-- Window 5's block is its whole array. -/
theorem emb5 (t : Fin cfg0.N) (y : S32x128.Idx) : ((cfg0.win 5).blk t).view.emb y = y :=
  funext fun a => Fin.ext (Pipeline.Window.rect_emb_val_of_index_zero (cfg0.win 5) t a (index_zero 5 t a) y)

/-- Window 6's block is its whole array. -/
theorem emb6 (t : Fin cfg0.N) (y : S32x128.Idx) : ((cfg0.win 6).blk t).view.emb y = y :=
  funext fun a => Fin.ext (Pipeline.Window.rect_emb_val_of_index_zero (cfg0.win 6) t a (index_zero 6 t a) y)

/-- What the call reads is its argument. -/
theorem iblk_arg (c : Dev nD) (t : Fin cfg0.N) : iblk m c 0 t = arg m c := by
  funext y
  show V m c main_arg0 (((cfg0.win 0).blk t).view.emb y) = _
  rw [emb0]

/-- An array whose window's block is all of it holds what the one point writes back. -/
theorem arr_of (c : Dev nD) (w : Fin cfg0.W) (G : Buf (Elt Ideal) ((cfg0.win w).arr.view.loc (c.tc : Thread nD τ))) (hf : ∀ t, (cfg0.win w).flush t = true)
    (hG : ∀ t, (dats m 0 c).flushed w t = ((cfg0.win w).blk t).view.read (Elt Ideal) G)
    (hc : ∀ i : ((cfg0.win w).arr.view.loc (c.tc : Thread nD τ)).2.ty.Idx, ∃ t y, ((cfg0.win w).blk t).view.emb y = i) : (dats m 0 c).arrAt w cfg0.N = G := by
  refine Pipeline.Dat.arrAt_eq_of_cover (dats m 0 c) w G (fun t _ => hG t) (fun i => ?_)
  obtain ⟨t, y, rfl⟩ := hc i
  exact ⟨t, hf t, ((cfg0.win w).blk t).view.emb_mem_set y⟩

/-- Result 0 after the call. -/
theorem arr1 (c : Dev nD) : (dats m 0 c).arrAt 1 cfg0.N = val_main_v71 (F := Ideal) (arg m c) := by
  refine arr_of m c 1 _ flush0_1 (fun t => ?_) (fun i => ⟨⟨0, by decide⟩, i, emb1 _ i⟩)
  rw [flushed1_A, iblk_arg, out1 c t (arg m c)]
  exact funext fun y => congrArg (val_main_v71 (F := Ideal) (arg m c)) (emb1 t y).symm

/-- Result 1 after the call. -/
theorem arr2 (c : Dev nD) : (dats m 0 c).arrAt 2 cfg0.N = val_main_v73 (F := Ideal) (arg m c) := by
  refine arr_of m c 2 _ flush0_2 (fun t => ?_) (fun i => ⟨⟨0, by decide⟩, i, emb2 _ i⟩)
  rw [flushed2_A, iblk_arg, out2 c t (arg m c)]
  exact funext fun y => congrArg (val_main_v73 (F := Ideal) (arg m c)) (emb2 t y).symm

/-- Result 2 after the call. -/
theorem arr3 (c : Dev nD) : (dats m 0 c).arrAt 3 cfg0.N = val_main_v76 (F := Ideal) (arg m c) := by
  refine arr_of m c 3 _ flush0_3 (fun t => ?_) (fun i => ⟨⟨0, by decide⟩, i, emb3 _ i⟩)
  rw [flushed3_A, iblk_arg, out3 c t (arg m c)]
  exact funext fun y => congrArg (val_main_v76 (F := Ideal) (arg m c)) (emb3 t y).symm

/-- Result 3 after the call. -/
theorem arr4 (c : Dev nD) : (dats m 0 c).arrAt 4 cfg0.N = val_main_v78 (F := Ideal) (arg m c) := by
  refine arr_of m c 4 _ flush0_4 (fun t => ?_) (fun i => ⟨⟨0, by decide⟩, i, emb4 _ i⟩)
  rw [flushed4_A, iblk_arg, out4 c t (arg m c)]
  exact funext fun y => congrArg (val_main_v78 (F := Ideal) (arg m c)) (emb4 t y).symm

/-- Result 4 after the call. -/
theorem arr5 (c : Dev nD) : (dats m 0 c).arrAt 5 cfg0.N = val_main_v82 (F := Ideal) (arg m c) := by
  refine arr_of m c 5 _ flush0_5 (fun t => ?_) (fun i => ⟨⟨0, by decide⟩, i, emb5 _ i⟩)
  rw [flushed5_A, iblk_arg, out5 c t (arg m c)]
  exact funext fun y => congrArg (val_main_v82 (F := Ideal) (arg m c)) (emb5 t y).symm

/-- Result 5 after the call. -/
theorem arr6 (c : Dev nD) : (dats m 0 c).arrAt 6 cfg0.N = val_main_v88 (F := Ideal) (arg m c) := by
  refine arr_of m c 6 _ flush0_6 (fun t => ?_) (fun i => ⟨⟨0, by decide⟩, i, emb6 _ i⟩)
  rw [flushed6_A, iblk_arg, out6 c t (arg m c)]
  exact funext fun y => congrArg (val_main_v88 (F := Ideal) (arg m c)) (emb6 t y).symm

/-- The route call's six results are the reference's. -/
theorem algebraic : Cert.algebraic_RouteIdeal_RouteReferenceIdeal (hRouteIdeal := Cert.RouteIdeal.Gen.facts) (hRouteReferenceIdeal := Cert.RouteReferenceIdeal.Gen.facts) := by
  intro m g m' g' _ hargs
  refine ⟨fun c => val_main_v71 (F := Ideal) (arg m c), fun c => val_main_v73 (F := Ideal) (arg m c), fun c => val_main_v76 (F := Ideal) (arg m c),
    fun c => val_main_v78 (F := Ideal) (arg m c), fun c => val_main_v82 (F := Ideal) (arg m c), fun c => val_main_v88 (F := Ideal) (arg m c), ?_, ?_⟩
  · refine (θ_run defs _ _).mono (fun r h c => ?_) (run_blocks m g)
    obtain ⟨h1, h2, h3, h4, h5, h6, h7⟩ := h c
    exact ⟨h1.trans (arr1 m c), h2.trans (arr2 m c), h3.trans (arr3 m c), h4.trans (arr4 m c), h5.trans (arr5 m c), h6.trans (arr6 m c), h7⟩
  · refine (θ_run _ _ _).mono (fun r h c => ?_) (Cert.RouteReferenceIdeal.Value.run (F := Ideal) m' g')
    obtain ⟨h1, h2, h3, h4, h5, h6, h7⟩ := h c
    have e : m' ((c.tc : Thread Cert.RouteReferenceIdeal.nD Cert.RouteReferenceIdeal.τ).loc Cert.RouteReferenceIdeal.main_arg0) = arg m c := hargs c
    refine ⟨?_, ?_, ?_, ?_, ?_, ?_, h7⟩
    · exact (h1.trans (val_main_v71_eq (F := Ideal) m' c)).trans (congrArg (val_main_v71 (F := Ideal)) e)
    · exact (h2.trans (val_main_v73_eq (F := Ideal) _)).trans (congrArg (val_main_v73 (F := Ideal)) e)
    · exact (h3.trans (val_main_v76_eq (F := Ideal) _)).trans (congrArg (val_main_v76 (F := Ideal)) e)
    · exact (h4.trans (val_main_v78_eq (F := Ideal) m' c)).trans (congrArg (val_main_v78 (F := Ideal)) e)
    · exact (h5.trans (val_main_v82_eq (F := Ideal) _)).trans (congrArg (val_main_v82 (F := Ideal)) e)
    · exact (h6.trans (val_main_v88_eq (F := Ideal) _)).trans (congrArg (val_main_v88 (F := Ideal)) e)

end Cert.RouteIdeal.RT

end
-- ==== Proof.RT.Range.lean ====
/-
  What the route call writes lies in the ranges the experts call asks of its tables, for experts between 0 and 31:
  67,584 choices fall on 32 experts, so the experts fill between 1 and 164 blocks.
-/
module

public import proofs.«01_k».proof.Defs
public import proofs.«01_k».proof.Proof.RT.Final
public import proofs.«01_k».proof.Proof.RT.Count
public import proofs.«01_k».proof.Proof.Gen.Pre_experts_chosen
public import proofs.«01_k».proof.Proof.Gen.Post_writes_tables_in_range
public import Idealize.ShloMosaic.PureOps.Ideal.Laws
public import Idealize.ShloMosaic.Lib.Pointwise
public import Idealize.ShloMosaic.Lib.KernelVsHost
public import Idealize.ShloMosaic.Lib.ReduceAll
public import Idealize.ShloMosaic.Lib.Affine

@[expose] public section

set_option maxRecDepth 16384

noncomputable section

namespace Cert.RouteIdeal.RT

open Cert.RouteIdeal Cert.RouteIdeal.Gen Idealize.ShloMosaic Idealize.ShloMosaic.TcCoe Idealize.SL.Sem
open Cert.RouteReferenceIdeal.Read
open scoped BigOperators

/-! ## Conversions -/

/-- A natural number below 2 ^ 31 converts to itself. -/
theorem fptosi_nat (n : ℕ) (h : n < 2147483648) : (Ideal.fptosi 32 ((n : ℝ) : EReal)).toInt = n := by
  rw [Ideal.fptosi, Ideal.toIntClamped_coe, if_pos (Nat.cast_nonneg n), Int.floor_natCast, BitVec.toInt_ofInt]
  norm_num
  have e : min 2147483647 (n : ℤ) = n := by omega
  rw [e]
  rw [Int.bmod_def]
  omega

/-- A value of at most 512 that is not negative converts to at most 512. -/
theorem fptosi_512 (z : EReal) (h0 : 0 ≤ z) (h : z ≤ ((512 : ℝ) : EReal)) : (Ideal.fptosi 32 z).toInt ≤ 512 := by
  induction z using EReal.rec with
  | bot => exact absurd h0 (by simp)
  | top => exact absurd h (by simp)
  | coe r =>
    have hr0 : 0 ≤ r := by exact_mod_cast h0
    have hr : r ≤ 512 := by exact_mod_cast h
    obtain ⟨k, hk⟩ := Int.eq_ofNat_of_zero_le (Int.floor_nonneg.mpr hr0)
    have hk5 : (k : ℤ) ≤ 512 := by
      have : ⌊r⌋ ≤ ⌊(512 : ℝ)⌋ := Int.floor_le_floor hr
      have e5 : ⌊(512 : ℝ)⌋ = 512 := by exact_mod_cast Int.floor_natCast (R := ℝ) 512
      rw [e5, hk] at this
      exact this
    have e : Ideal.fptosi 32 ((r : ℝ) : EReal) = Ideal.fptosi 32 ((k : ℝ) : EReal) := by
      rw [Ideal.fptosi, Ideal.fptosi, Ideal.toIntClamped_coe, Ideal.toIntClamped_coe, if_pos hr0, if_pos (Nat.cast_nonneg k), Int.floor_natCast, hk]
    rw [e, fptosi_nat k (by omega)]
    exact hk5

/-- A sum of natural numbers, in the extended reals. -/
theorem sum_nat {ι : Type} (s : Finset ι) (f : ι → ℕ) : ∑ i ∈ s, ((f i : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

theorem bits_511 : Ideal.ofBits .f32 0x43FF8000#32 = ((511 : ℝ) : EReal) := by
  have h : BitVec.extractLsb' 31 1 0x43FF8000#32 = 0#1 := by decide
  unfold Ideal.ofBits Ideal.ieee
  norm_num [Nat.shiftRight_eq_div_pow, h]
  try rfl

theorem bits_31 : Ideal.ofBits .f32 1106771968#32 = ((31 : ℝ) : EReal) := by
  have h : BitVec.extractLsb' 31 1 1106771968#32 = 0#1 := by decide
  unfold Ideal.ofBits Ideal.ieee
  norm_num [Nat.shiftRight_eq_div_pow, h]
  try rfl

/-! ## The counts as natural numbers -/

section
variable (x : (⟨S4x16896, .i32⟩ : BufTy).Contents (Elt Ideal))

/-- Whether token `t`'s choice `k` is expert `e`. -/
def hit (e : Fin 32) (t : Fin 16896) (k : Fin 4) : ℕ := (IntOp.cmpi .eq (x (ix2 k t)) (BitVec.ofNat 32 e.val)).toNat

/-- How many choices are expert `e`. -/
def cntN (e : Fin 32) : ℕ := ∑ t : Fin 16896, ∑ k : Fin 4, hit x e t k

theorem cnt_nat (e : Fin 32) : cnt x e = ((cntN x e : ℝ) : EReal) := by
  rw [cnt_eq, ← Fin.sum_univ_eq_sum_range]
  unfold cntN
  rw [← sum_nat]
  refine Finset.sum_congr rfl fun t _ => ?_
  rw [hs_eq, ← sum_nat]
  rfl

theorem blk_nat (e : Fin 32) : blk x e = ((((cntN x e + 511) / 512 : ℕ) : ℝ) : EReal) := by
  rw [blk_eq, cnt_nat, bits_511, bits_512, ← EReal.coe_add, Ideal.div_coe (by norm_num), ← EReal.coe_mul]
  show ((((⌊((cntN x e : ℝ) + 511) * (1 / 512)⌋ : ℤ) : ℝ)) : EReal) = _
  have h : ⌊((cntN x e : ℝ) + 511) * (1 / 512)⌋ = (((cntN x e + 511) / 512 : ℕ) : ℤ) := by
    generalize cntN x e = n
    have h1 := Nat.div_add_mod (n + 511) 512
    have h2 := Nat.mod_lt (n + 511) (by norm_num : 512 > 0)
    generalize (n + 511) / 512 = q at *
    generalize (n + 511) % 512 = r at *
    have h1' : (512 : ℝ) * q + r = n + 511 := by exact_mod_cast h1
    have h2' : (r : ℝ) < 512 := by exact_mod_cast h2
    have h3' : (0 : ℝ) ≤ r := Nat.cast_nonneg r
    rw [Int.floor_eq_iff, Int.cast_natCast]
    constructor <;> linarith
  rw [h, Int.cast_natCast]

variable (h0 : ∀ i, 0 ≤ (x i).toInt) (h32 : ∀ i, (x i).toInt < 32)
include h0 h32

/-- Each choice is exactly one expert. -/
theorem hit_one (t : Fin 16896) (k : Fin 4) : ∑ e : Fin 32, hit x e t k = 1 := by
  have hb : ∀ w : BitVec 32, 0 ≤ w.toInt → w.toInt < 32 → ∃ e : Fin 32, w = BitVec.ofNat 32 e.val := by
    intro w a b
    have hw := w.isLt
    rw [BitVec.toInt_eq_toNat_cond] at a b
    have hn : w.toNat < 32 := by split at a <;> omega
    exact ⟨⟨w.toNat, hn⟩, by simp⟩
  obtain ⟨e, he⟩ := hb _ (h0 (ix2 k t)) (h32 (ix2 k t))
  unfold hit
  rw [he]
  clear he
  revert e
  decide

theorem total : ∑ e : Fin 32, cntN x e = 67584 := by
  unfold cntN
  rw [Finset.sum_comm]
  have h : ∀ t : Fin 16896, ∑ e : Fin 32, ∑ k : Fin 4, hit x e t k = 4 := fun t => by
    rw [Finset.sum_comm, Finset.sum_congr rfl fun k _ => hit_one x h0 h32 t k]
    simp
  rw [Finset.sum_congr rfl fun t _ => h t, Finset.sum_const, Finset.card_univ, Fintype.card_fin]
  norm_num

/-- The experts fill between 1 and 164 blocks. -/
theorem blocks : 1 ≤ ∑ e : Fin 32, (cntN x e + 511) / 512 ∧ ∑ e : Fin 32, (cntN x e + 511) / 512 ≤ 164 := by
  have ht := total x h0 h32
  have hl : ∑ e : Fin 32, cntN x e ≤ ∑ e : Fin 32, 512 * ((cntN x e + 511) / 512) := Finset.sum_le_sum fun e _ => by omega
  have hu : ∑ e : Fin 32, 512 * ((cntN x e + 511) / 512) ≤ ∑ e : Fin 32, (cntN x e + 511) := Finset.sum_le_sum fun e _ => by omega
  rw [Finset.sum_add_distrib, Finset.sum_const, Finset.card_univ, Fintype.card_fin, smul_eq_mul] at hu
  rw [← Finset.mul_sum] at hl hu
  omega

/-- The number of used blocks, read as an integer. -/
theorem used_range (i : S1x128.Idx) : 1 ≤ (val_main_v76 (F := Ideal) x i).toInt ∧ (val_main_v76 (F := Ideal) x i).toInt ≤ 164 := by
  have e : val_main_v76 (F := Ideal) x i = Ideal.fptosi 32 (∑ e : Fin 32, blk x e) := by
    have e0 : i = ix2 (i 0) (i 1) := by
      funext a
      match a with
      | ⟨0, _⟩ => rfl
      | ⟨1, _⟩ => rfl
    rw [e0]
    unfold blk val_main_v76 val_main_v75 val_main_v74
    generalize val_main_v16 x = c
    pointwise [val_main_cst_19]
    rfl
  obtain ⟨h1, h2⟩ := blocks x h0 h32
  rw [e, Finset.sum_congr rfl fun e _ => blk_nat x e, sum_nat, fptosi_nat _ (by omega)]
  omega

omit h0 h32

/-- Every block's expert is between 0 and 31. -/
theorem expert_range (i : S1x256.Idx) : 0 ≤ (val_main_v73 (F := Ideal) x i).toInt ∧ (val_main_v73 (F := Ideal) x i).toInt < 32 := by
  have e : ∃ b : Fin 256, val_main_v73 (F := Ideal) x i = Ideal.fptosi 32 (exp x b) := by
    refine ⟨i 1, ?_⟩
    have e0 : i = ix2 (i 0) (i 1) := by
      funext a
      match a with
      | ⟨0, _⟩ => rfl
      | ⟨1, _⟩ => rfl
    rw [e0]
    unfold exp val_main_v73 val_main_v72
    generalize val_main_v50 x = c
    pointwise []
    rfl
  obtain ⟨b, e⟩ := e
  have hn : ∃ n : ℕ, n ≤ 31 ∧ exp x b = ((n : ℝ) : EReal) := by
    rw [exp_eq, bits_31]
    refine ⟨min (∑ e : Fin 32, (BitVec.ofBool (decide (fin x e ≤ FloatOps.sitofp (F := Ideal) .f32 (BitVec.ofNat 32 b.val)))).toNat) 31, min_le_right _ _, ?_⟩
    rw [Nat.cast_min, EReal.coe_strictMono.monotone.map_min, ← sum_nat]
    rfl
  obtain ⟨n, h31, hn⟩ := hn
  rw [e, hn, fptosi_nat n (by omega)]
  omega

/-- No block has more than 512 valid rows. -/
theorem valid_range (i : S1x256.Idx) : (val_main_v78 (F := Ideal) x i).toInt ≤ 512 := by
  have e : ∃ z : EReal, val_main_v78 (F := Ideal) x i = Ideal.fptosi 32 (min (Ideal.ofBits .f32 0x44000000#32) (max 0 z)) := by
    refine ⟨val_main_v66 (F := Ideal) x (ix1 (i 1)), ?_⟩
    have e0 : i = ix2 (i 0) (i 1) := by
      funext a
      match a with
      | ⟨0, _⟩ => rfl
      | ⟨1, _⟩ => rfl
    rw [e0]
    unfold val_main_v78 val_main_v77 val_main_v67 val_main_call5_v2
    generalize val_main_v66 x = c
    pointwise [val_main_call5_v4, val_main_call5_v3, val_main_call5_v1, val_main_call5_v0, val_main_cst_17, val_main_cst_18]
    rw [bits_zero]
    rfl
  obtain ⟨z, e⟩ := e
  rw [e, bits_512]
  refine fptosi_512 _ (le_min ?_ (le_max_left _ _)) (min_le_left _ _)
  exact_mod_cast (by norm_num : (0 : ℝ) ≤ 512)

end

/-! ## The predicates -/

instance : Subsingleton Cert.Pre_experts_chosen.S_.Idx := ⟨fun a b => funext fun k => absurd k.isLt (Nat.not_lt_zero _)⟩

/-- What the precondition says: every chosen expert is between 0 and 31. -/
theorem chosen [Cert.Pre_experts_chosen.Facts] (a0 : S4x16896.Idx → BitVec 32) (h : Cert.Pre_experts_chosen.fn (F := Ideal) a0 = fun _ => 1#1) :
    (∀ i, 0 ≤ (a0 i).toInt) ∧ ∀ i, (a0 i).toInt < 32 := by
  have e := congrFun h ix0
  simp only [Cert.Pre_experts_chosen.fn, andi, IntOp.andi_eq_one] at e
  exact ⟨fun i => IntOp.cmpi_sge.mp (Host.reduce_andi_all _ _ _ _ _ e.1 i), fun i => IntOp.cmpi_slt.mp (Host.reduce_andi_all _ _ _ _ _ e.2 i)⟩

/-- What the postcondition asks of the three tables. -/
theorem writes [Cert.Post_writes_tables_in_range.Facts] (a0 : S4x16896.Idx → BitVec 32) (a1) (a2 : S1x256.Idx → BitVec 32) (a3 : S1x128.Idx → BitVec 32)
    (a4 : S1x256.Idx → BitVec 32) (a5 a6) (h2 : ∀ i, 0 ≤ (a2 i).toInt ∧ (a2 i).toInt < 32) (h3 : ∀ i, 1 ≤ (a3 i).toInt ∧ (a3 i).toInt ≤ 164)
    (h4 : ∀ i, (a4 i).toInt ≤ 512) : Cert.Post_writes_tables_in_range.fn (F := Ideal) a0 a1 a2 a3 a4 a5 a6 = fun _ => 1#1 := by
  funext j
  simp only [Cert.Post_writes_tables_in_range.fn, Cert.Post_writes_tables_in_range.fn_part1, andi, IntOp.andi_eq_one]
  refine ⟨⟨⟨⟨?_, ?_⟩, ?_⟩, ?_⟩, ?_⟩
  · exact Host.reduce_andi_one _ _ _ _ _ rfl fun i => IntOp.cmpi_sge.mpr (h2 i).1
  · exact Host.reduce_andi_one _ _ _ _ _ rfl fun i => IntOp.cmpi_slt.mpr (h2 i).2
  · exact IntOp.cmpi_sge.mpr (h3 _).1
  · exact IntOp.cmpi_sle.mpr (h3 _).2
  · exact Host.reduce_andi_one _ _ _ _ _ rfl fun i => IntOp.cmpi_sle.mpr (h4 i)

/-- For experts between 0 and 31, the tables the route call writes are in the ranges the experts call asks. -/
theorem holds : Cert.holds_RouteIdeal_writes_tables_in_range_pre_experts_chosen (hRouteIdeal := Cert.RouteIdeal.Gen.facts)
    (hPre_experts_chosen := Cert.Pre_experts_chosen.Gen.facts) (hPost_writes_tables_in_range := Cert.Post_writes_tables_in_range.Gen.facts) := by
  intro m g hp
  refine (θ_run defs _ _).mono (fun r h c => ?_) (Cert.RouteIdeal.Value.run_blocks m g)
  obtain ⟨h1, h2, h3, h4, h5, h6, h7⟩ := h c
  obtain ⟨p0, p32⟩ := chosen (arg m c) (hp c)
  refine ⟨h7, writes _ _ _ _ _ _ _ (fun i => ?_) (fun i => ?_) (fun i => ?_)⟩
  · rw [h2.trans (arr2 m c)]; exact expert_range _ i
  · rw [h3.trans (arr3 m c)]; exact used_range _ p0 p32 i
  · rw [h4.trans (arr4 m c)]; exact valid_range _ i

end Cert.RouteIdeal.RT

end
-- ==== Proof.lean ====
/-
  The proof of the certificate's claim: each program runs to its end with its arguments unchanged and every counter back at
  zero, and the kernel's result is the reference's on the valid rows of the used blocks; and
  the route call's six results are its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tables_in_range
public import proofs.«01_k».proof.Proof.Gen.On_valid_rows
public import proofs.«01_k».proof.Proof.Gen.Route
public import proofs.«01_k».proof.Proof.Gen.Route.Skeleton
public import proofs.«01_k».proof.Proof.Gen.Route.Launch
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Frame
public import proofs.«01_k».proof.Proof.Gen.RouteReferenceIdeal
public import proofs.«01_k».proof.Proof.Gen.RouteReferenceIdeal.Run
public import proofs.«01_k».proof.Proof.Gen.RouteReferenceIdeal.Read
public import proofs.«01_k».proof.Proof.Gen.RouteIdeal.Value
public import proofs.«01_k».proof.Proof.Gen.Pre_experts_chosen
public import proofs.«01_k».proof.Proof.Gen.Post_writes_tables_in_range
public import proofs.«01_k».proof.Proof.Pre
public import proofs.«01_k».proof.Proof.K.Ok
public import proofs.«01_k».proof.Proof.I.Ok
public import proofs.«01_k».proof.Proof.Value
public import proofs.«01_k».proof.Proof.RT.Final
public import proofs.«01_k».proof.Proof.RT.Range
public import Idealize.ShloMosaic.Lib.Quiescent

@[expose] public section

noncomputable section

namespace Cert.Proof

open Idealize.ShloMosaic Idealize.SL.Sem

/-- The kernel's frame, from the tables' ranges. -/
theorem kernel_frame : Cert.quiescent_Kernel (hKernel := Cert.Kernel.Gen.facts) (hPre_tables_in_range := Cert.Pre_tables_in_range.Gen.facts) := by
  intro m g hp
  have hg : TablesIn.Good (Cert.Kernel.X.a0 m 0) (Cert.Kernel.X.a1 m 0) (Cert.Kernel.X.a2 m 0) := TablesIn.good _ _ _ _ _ _ _ _ (hp 0)
  exact Cert.Kernel.X.frame m g (Cert.Kernel.X.ok_of_good m hg) (Cert.Kernel.X.tabs m hg)

/-- The idealization's frame, from the tables' ranges. -/
theorem ideal_frame : Cert.quiescent_KernelIdeal (hKernelIdeal := Cert.KernelIdeal.Gen.facts) (hPre_tables_in_range := Cert.Pre_tables_in_range.Gen.facts) := by
  intro m g hp
  have hg : TablesIn.Good (Cert.KernelIdeal.X.a0 m 0) (Cert.KernelIdeal.X.a1 m 0) (Cert.KernelIdeal.X.a2 m 0) := TablesIn.good _ _ _ _ _ _ _ _ (hp 0)
  exact Cert.KernelIdeal.X.frame m g (Cert.KernelIdeal.X.ok_of_good m hg) (Cert.KernelIdeal.X.tabs m hg)

/-- The reference's frame: it has no counter, and its operations write no argument. -/
theorem reference_frame : Cert.quiescent_ReferenceIdeal (hReferenceIdeal := Cert.ReferenceIdeal.Gen.facts) := by
  intro m g _
  refine (θ_run _ _ _).mono (fun r h => ⟨fun c => (h c).2, sem_eq_zero_of_no_sems (by decide) r.2⟩) (Cert.ReferenceIdeal.Value.run (F := Ideal) m g)

/-- The route reference's frame, likewise. -/
theorem route_reference_frame : Cert.quiescent_RouteReferenceIdeal (hRouteReferenceIdeal := Cert.RouteReferenceIdeal.Gen.facts) := by
  intro m g _
  refine (θ_run _ _ _).mono (fun r h => ⟨fun c => (h c).2.2.2.2.2.2, sem_eq_zero_of_no_sems (by decide) r.2⟩) (Cert.RouteReferenceIdeal.Value.run (F := Ideal) m g)

theorem claim : Cert.Claim := ⟨Cert.Kernel.Gen.facts, Cert.KernelIdeal.Gen.facts, Cert.ReferenceIdeal.Gen.facts, Cert.Route.Gen.facts, Cert.RouteIdeal.Gen.facts, Cert.RouteReferenceIdeal.Gen.facts, Cert.Pre_tables_in_range.Gen.facts, Cert.Pre_experts_chosen.Gen.facts, Cert.Post_writes_tables_in_range.Gen.facts, Cert.On_valid_rows.Gen.facts,
  kernel_frame, ideal_frame, reference_frame, fun m g _ => reference_frame m g trivial,
  fun m g _ => Cert.Route.Gen.frame m g, fun m g _ => Cert.RouteIdeal.Gen.frame m g,
  fun m g _ => Cert.RouteIdeal.Gen.frame m g, route_reference_frame,
  trivial, Cert.KernelIdeal.X.algebraic (hOn := Cert.On_valid_rows.Gen.facts), trivial, Cert.RouteIdeal.RT.algebraic,
  Cert.RouteIdeal.RT.holds⟩

end Cert.Proof

end
